-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![4096, 4096]⟩ ⟨2, ![8192, 4096]⟩ (Layout.meshBlock [2, 4, 4] ![[0], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.blockN ⟨2, ![4096, 8192]⟩ ⟨2, ![8192, 8192]⟩ (Layout.meshBlock [2, 4, 4] ![[0], []] c) (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v68) = Layout.blockN ⟨2, ![2048, 8192]⟩ ⟨2, ![4096, 8192]⟩ (Layout.meshBlock [2, 4, 4] ![[0], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v1) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x4096 : Shape := ⟨2, ![4096, 4096]⟩
abbrev S4096x8192 : Shape := ⟨2, ![4096, 8192]⟩
abbrev S16x2 : Shape := ⟨2, ![16, 2]⟩
abbrev S16 : Shape := ⟨1, ![16]⟩
abbrev S_ : Shape := ⟨0, ![]⟩
abbrev S4096x512 : Shape := ⟨2, ![4096, 512]⟩
abbrev S512x512 : Shape := ⟨2, ![512, 512]⟩
abbrev S1 : Shape := ⟨1, ![1]⟩
abbrev S1x2 : Shape := ⟨2, ![1, 2]⟩
abbrev S2 : Shape := ⟨1, ![2]⟩
abbrev S8 : Shape := ⟨1, ![8]⟩
abbrev S16x1 : Shape := ⟨2, ![16, 1]⟩
abbrev S20 : Shape := ⟨1, ![20]⟩
abbrev S2048x8192 : Shape := ⟨2, ![2048, 8192]⟩
abbrev S2048x512 : Shape := ⟨2, ![2048, 512]⟩
abbrev S2x2048x512 : Shape := ⟨3, ![2, 2048, 512]⟩
abbrev S1x2048x512 : Shape := ⟨3, ![1, 2048, 512]⟩
abbrev S1x1024x512 : Shape := ⟨3, ![1, 1024, 512]⟩
abbrev S1024x512 : Shape := ⟨2, ![1024, 512]⟩

abbrev nBuf : Space → Nat
  | .hbm => 178
  | .vmem => 10
  | .smem => 1
  | _ => 0

abbrev hbmTy0_0 (i : Nat) : BufTy := match i % 128 with
  | 0 => ⟨S4096x4096, .f32⟩
  | 1 => ⟨S4096x8192, .f32⟩
  | 2 => ⟨S16x2, .i32⟩
  | 3 => ⟨S16, .i32⟩
  | 4 => ⟨S_, .i32⟩
  | 5 => ⟨S_, .i32⟩
  | 6 => ⟨S_, .i32⟩
  | 7 => ⟨S_, .i32⟩
  | 8 => ⟨S_, .i32⟩
  | 9 => ⟨S_, .i32⟩
  | 10 => ⟨S_, .i32⟩
  | 11 => ⟨S_, .i32⟩
  | 12 => ⟨S_, .i32⟩
  | 13 => ⟨S_, .i32⟩
  | 14 => ⟨S_, .i32⟩
  | 15 => ⟨S_, .i32⟩
  | 16 => ⟨S_, .i32⟩
  | 17 => ⟨S_, .i32⟩
  | 18 => ⟨S_, .i32⟩
  | 19 => ⟨S_, .i32⟩
  | 20 => ⟨S_, .i32⟩
  | 21 => ⟨S_, .i32⟩
  | 22 => ⟨S_, .i1⟩
  | 23 => ⟨S_, .i32⟩
  | 24 => ⟨S_, .i32⟩
  | 25 => ⟨S_, .i32⟩
  | 26 => ⟨S_, .i32⟩
  | 27 => ⟨S4096x512, .f32⟩
  | 28 => ⟨S4096x512, .f32⟩
  | 29 => ⟨S_, .i32⟩
  | 30 => ⟨S_, .i1⟩
  | 31 => ⟨S_, .i32⟩
  | 32 => ⟨S_, .i32⟩
  | 33 => ⟨S_, .i32⟩
  | 34 => ⟨S1, .i32⟩
  | 35 => ⟨S_, .i32⟩
  | 36 => ⟨S_, .i32⟩
  | 37 => ⟨S_, .i32⟩
  | 38 => ⟨S_, .i32⟩
  | 39 => ⟨S_, .i32⟩
  | 40 => ⟨S_, .i32⟩
  | 41 => ⟨S_, .i1⟩
  | 42 => ⟨S_, .i32⟩
  | 43 => ⟨S_, .i32⟩
  | 44 => ⟨S_, .i32⟩
  | 45 => ⟨S_, .i32⟩
  | 46 => ⟨S_, .i1⟩
  | 47 => ⟨S_, .i32⟩
  | 48 => ⟨S_, .i1⟩
  | 49 => ⟨S_, .i32⟩
  | 50 => ⟨S_, .i1⟩
  | 51 => ⟨S_, .i1⟩
  | 52 => ⟨S_, .i1⟩
  | 53 => ⟨S_, .i32⟩
  | 54 => ⟨S_, .i32⟩
  | 55 => ⟨S_, .i32⟩
  | 56 => ⟨S_, .i1⟩
  | 57 => ⟨S_, .i32⟩
  | 58 => ⟨S_, .i32⟩
  | 59 => ⟨S_, .i32⟩
  | 60 => ⟨S_, .i32⟩
  | 61 => ⟨S_, .i32⟩
  | 62 => ⟨S_, .i1⟩
  | 63 => ⟨S_, .i32⟩
  | 64 => ⟨S_, .i32⟩
  | 65 => ⟨S_, .i32⟩
  | 66 => ⟨S_, .i32⟩
  | 67 => ⟨S_, .i32⟩
  | 68 => ⟨S1x2, .i32⟩
  | 69 => ⟨S2, .i32⟩
  | 70 => ⟨S_, .i32⟩
  | 71 => ⟨S_, .i32⟩
  | 72 => ⟨S_, .i32⟩
  | 73 => ⟨S_, .i32⟩
  | 74 => ⟨S_, .i32⟩
  | 75 => ⟨S_, .i1⟩
  | 76 => ⟨S_, .i32⟩
  | 77 => ⟨S_, .i32⟩
  | 78 => ⟨S_, .i32⟩
  | 79 => ⟨S_, .i32⟩
  | 80 => ⟨S_, .i1⟩
  | 81 => ⟨S_, .i32⟩
  | 82 => ⟨S_, .i1⟩
  | 83 => ⟨S_, .i32⟩
  | 84 => ⟨S_, .i1⟩
  | 85 => ⟨S_, .i1⟩
  | 86 => ⟨S_, .i1⟩
  | 87 => ⟨S_, .i32⟩
  | 88 => ⟨S_, .i32⟩
  | 89 => ⟨S_, .i32⟩
  | 90 => ⟨S_, .i1⟩
  | 91 => ⟨S_, .i32⟩
  | 92 => ⟨S_, .i32⟩
  | 93 => ⟨S_, .i32⟩
  | 94 => ⟨S_, .i32⟩
  | 95 => ⟨S_, .i32⟩
  | 96 => ⟨S_, .i1⟩
  | 97 => ⟨S_, .i32⟩
  | 98 => ⟨S_, .i32⟩
  | 99 => ⟨S_, .i32⟩
  | 100 => ⟨S_, .i32⟩
  | 101 => ⟨S_, .i32⟩
  | 102 => ⟨S1x2, .i32⟩
  | 103 => ⟨S2, .i32⟩
  | 104 => ⟨S_, .i32⟩
  | 105 => ⟨S_, .i32⟩
  | 106 => ⟨S8, .i32⟩
  | 107 => ⟨S8, .i32⟩
  | 108 => ⟨S8, .i32⟩
  | 109 => ⟨S_, .i32⟩
  | 110 => ⟨S_, .i32⟩
  | 111 => ⟨S_, .i32⟩
  | 112 => ⟨S_, .i1⟩
  | 113 => ⟨S_, .i32⟩
  | 114 => ⟨S_, .i32⟩
  | 115 => ⟨S8, .i32⟩
  | 116 => ⟨S8, .i32⟩
  | 117 => ⟨S_, .i32⟩
  | 118 => ⟨S8, .i32⟩
  | 119 => ⟨S8, .i1⟩
  | 120 => ⟨S_, .i32⟩
  | 121 => ⟨S8, .i32⟩
  | 122 => ⟨S8, .i1⟩
  | 123 => ⟨S_, .i32⟩
  | 124 => ⟨S_, .i1⟩
  | 125 => ⟨S8, .i1⟩
  | 126 => ⟨S8, .i1⟩
  | 127 => ⟨S8, .i1⟩
  | _ => ⟨S4096x4096, .f32⟩

abbrev hbmTy0_1 (i : Nat) : BufTy := match i % 128 with
  | 0 => ⟨S8, .i32⟩
  | 1 => ⟨S8, .i32⟩
  | 2 => ⟨S8, .i32⟩
  | 3 => ⟨S_, .i32⟩
  | 4 => ⟨S_, .i32⟩
  | 5 => ⟨S8, .i32⟩
  | 6 => ⟨S8, .i32⟩
  | 7 => ⟨S8, .i32⟩
  | 8 => ⟨S_, .i32⟩
  | 9 => ⟨S_, .i32⟩
  | 10 => ⟨S_, .i32⟩
  | 11 => ⟨S_, .i1⟩
  | 12 => ⟨S_, .i32⟩
  | 13 => ⟨S_, .i32⟩
  | 14 => ⟨S8, .i32⟩
  | 15 => ⟨S8, .i32⟩
  | 16 => ⟨S_, .i32⟩
  | 17 => ⟨S8, .i32⟩
  | 18 => ⟨S8, .i1⟩
  | 19 => ⟨S_, .i32⟩
  | 20 => ⟨S8, .i32⟩
  | 21 => ⟨S8, .i1⟩
  | 22 => ⟨S_, .i32⟩
  | 23 => ⟨S_, .i1⟩
  | 24 => ⟨S8, .i1⟩
  | 25 => ⟨S8, .i1⟩
  | 26 => ⟨S8, .i1⟩
  | 27 => ⟨S8, .i32⟩
  | 28 => ⟨S8, .i32⟩
  | 29 => ⟨S8, .i32⟩
  | 30 => ⟨S16, .i32⟩
  | 31 => ⟨S_, .i32⟩
  | 32 => ⟨S16, .i32⟩
  | 33 => ⟨S16, .i1⟩
  | 34 => ⟨S_, .i32⟩
  | 35 => ⟨S16, .i32⟩
  | 36 => ⟨S16, .i32⟩
  | 37 => ⟨S16, .i32⟩
  | 38 => ⟨S16x1, .i32⟩
  | 39 => ⟨S16x2, .i32⟩
  | 40 => ⟨S16x1, .i32⟩
  | 41 => ⟨S16, .i32⟩
  | 42 => ⟨S_, .i32⟩
  | 43 => ⟨S16, .i32⟩
  | 44 => ⟨S16, .i32⟩
  | 45 => ⟨S16x1, .i32⟩
  | 46 => ⟨S16, .i32⟩
  | 47 => ⟨S16, .i32⟩
  | 48 => ⟨S20, .i32⟩
  | 49 => ⟨S2048x8192, .f32⟩
  | _ => ⟨S4096x4096, .f32⟩

abbrev hbmTy (i : Nat) : BufTy := match i / 128 with
  | 0 => hbmTy0_0 i
  | 1 => hbmTy0_1 i
  | _ => ⟨S4096x4096, .f32⟩

abbrev bufTy : (tb : Table) → Fin (tcTables nBuf tb) → BufTy
  | .hbm, ⟨i, _⟩ => hbmTy i
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S2048x512, .f32⟩
  | .local _ .vmem, ⟨7, _⟩ => ⟨S2048x512, .f32⟩
  | .local _ .vmem, ⟨8, _⟩ => ⟨S2x2048x512, .f32⟩
  | .local _ .vmem, ⟨9, _⟩ => ⟨S2x2048x512, .f32⟩
  | .local _ .smem, ⟨0, _⟩ => ⟨S20, .i32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .smem, ⟨0, _⟩ => true
  | _, _ => false

abbrev semScoped : Fin 3 → Bool
  | ⟨0, _⟩ => true
  | ⟨1, _⟩ => true
  | ⟨2, _⟩ => false
  | _ => false

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  (ofTc nBuf bufTy 3 23 bufScoped semScoped dmaSemScoped tileCredit tileCredit_eq_zero tileCredit_pos).withBarriers [(0, 2)]

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_c_1 : Ref sig .tc := ⟨.hbm, 4, rfl⟩
abbrev main_c_2 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c_3 : Ref sig .tc := ⟨.hbm, 10, rfl⟩
abbrev main_c_4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_c_5 : Ref sig .tc := ⟨.hbm, 16, rfl⟩
abbrev main_v9 : Ref sig .tc := ⟨.hbm, 17, rfl⟩
abbrev main_v10 : Ref sig .tc := ⟨.hbm, 18, rfl⟩
abbrev main_c_6 : Ref sig .tc := ⟨.hbm, 19, rfl⟩
abbrev main_v11 : Ref sig .tc := ⟨.hbm, 20, rfl⟩
abbrev main_c_7 : Ref sig .tc := ⟨.hbm, 21, rfl⟩
abbrev main_v12 : Ref sig .tc := ⟨.hbm, 22, rfl⟩
abbrev main_c_8 : Ref sig .tc := ⟨.hbm, 23, rfl⟩
abbrev main_v13 : Ref sig .tc := ⟨.hbm, 24, rfl⟩
abbrev main_v14 : Ref sig .tc := ⟨.hbm, 25, rfl⟩
abbrev main_c_9 : Ref sig .tc := ⟨.hbm, 26, rfl⟩
abbrev main_v15 : Ref sig .tc := ⟨.hbm, 27, rfl⟩
abbrev main_v16 : Ref sig .tc := ⟨.hbm, 28, rfl⟩
abbrev main_c_10 : Ref sig .tc := ⟨.hbm, 29, rfl⟩
abbrev main_v17 : Ref sig .tc := ⟨.hbm, 30, rfl⟩
abbrev main_c_11 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_12 : Ref sig .tc := ⟨.hbm, 36, rfl⟩
abbrev main_v22 : Ref sig .tc := ⟨.hbm, 37, rfl⟩
abbrev main_c_13 : Ref sig .tc := ⟨.hbm, 38, rfl⟩
abbrev main_call0_v0 : Ref sig .tc := ⟨.hbm, 39, rfl⟩
abbrev main_call0_c : Ref sig .tc := ⟨.hbm, 40, rfl⟩
abbrev main_call0_v1 : Ref sig .tc := ⟨.hbm, 41, rfl⟩
abbrev main_call0_c_0 : Ref sig .tc := ⟨.hbm, 42, rfl⟩
abbrev main_call0_v2 : Ref sig .tc := ⟨.hbm, 43, rfl⟩
abbrev main_call0_v3 : Ref sig .tc := ⟨.hbm, 44, rfl⟩
abbrev main_call0_c_1 : Ref sig .tc := ⟨.hbm, 45, rfl⟩
abbrev main_call0_v4 : Ref sig .tc := ⟨.hbm, 46, rfl⟩
abbrev main_call0_c_2 : Ref sig .tc := ⟨.hbm, 47, rfl⟩
abbrev main_call0_v5 : Ref sig .tc := ⟨.hbm, 48, rfl⟩
abbrev main_call0_c_3 : Ref sig .tc := ⟨.hbm, 49, rfl⟩
abbrev main_call0_v6 : Ref sig .tc := ⟨.hbm, 50, rfl⟩
abbrev main_call0_v7 : Ref sig .tc := ⟨.hbm, 51, rfl⟩
abbrev main_call0_v8 : Ref sig .tc := ⟨.hbm, 52, rfl⟩
abbrev main_call0_v9 : Ref sig .tc := ⟨.hbm, 53, rfl⟩
abbrev main_v23 : Ref sig .tc := ⟨.hbm, 54, rfl⟩
abbrev main_c_14 : Ref sig .tc := ⟨.hbm, 55, rfl⟩
abbrev main_v24 : Ref sig .tc := ⟨.hbm, 56, rfl⟩
abbrev main_c_15 : Ref sig .tc := ⟨.hbm, 57, rfl⟩
abbrev main_v25 : Ref sig .tc := ⟨.hbm, 58, rfl⟩
abbrev main_v26 : Ref sig .tc := ⟨.hbm, 59, rfl⟩
abbrev main_c_16 : Ref sig .tc := ⟨.hbm, 60, rfl⟩
abbrev main_c_17 : Ref sig .tc := ⟨.hbm, 61, rfl⟩
abbrev main_v27 : Ref sig .tc := ⟨.hbm, 62, rfl⟩
abbrev main_c_18 : Ref sig .tc := ⟨.hbm, 63, rfl⟩
abbrev main_c_19 : Ref sig .tc := ⟨.hbm, 64, rfl⟩
abbrev main_v28 : Ref sig .tc := ⟨.hbm, 65, rfl⟩
abbrev main_c_20 : Ref sig .tc := ⟨.hbm, 66, rfl⟩
abbrev main_v29 : Ref sig .tc := ⟨.hbm, 67, rfl⟩
abbrev main_v30 : Ref sig .tc := ⟨.hbm, 68, rfl⟩
abbrev main_v31 : Ref sig .tc := ⟨.hbm, 69, rfl⟩
abbrev main_c_21 : Ref sig .tc := ⟨.hbm, 70, rfl⟩
abbrev main_v32 : Ref sig .tc := ⟨.hbm, 71, rfl⟩
abbrev main_c_22 : Ref sig .tc := ⟨.hbm, 72, rfl⟩
abbrev main_call1_v0 : Ref sig .tc := ⟨.hbm, 73, rfl⟩
abbrev main_call1_c : Ref sig .tc := ⟨.hbm, 74, rfl⟩
abbrev main_call1_v1 : Ref sig .tc := ⟨.hbm, 75, rfl⟩
abbrev main_call1_c_0 : Ref sig .tc := ⟨.hbm, 76, rfl⟩
abbrev main_call1_v2 : Ref sig .tc := ⟨.hbm, 77, rfl⟩
abbrev main_call1_v3 : Ref sig .tc := ⟨.hbm, 78, rfl⟩
abbrev main_call1_c_1 : Ref sig .tc := ⟨.hbm, 79, rfl⟩
abbrev main_call1_v4 : Ref sig .tc := ⟨.hbm, 80, rfl⟩
abbrev main_call1_c_2 : Ref sig .tc := ⟨.hbm, 81, rfl⟩
abbrev main_call1_v5 : Ref sig .tc := ⟨.hbm, 82, rfl⟩
abbrev main_call1_c_3 : Ref sig .tc := ⟨.hbm, 83, rfl⟩
abbrev main_call1_v6 : Ref sig .tc := ⟨.hbm, 84, rfl⟩
abbrev main_call1_v7 : Ref sig .tc := ⟨.hbm, 85, rfl⟩
abbrev main_call1_v8 : Ref sig .tc := ⟨.hbm, 86, rfl⟩
abbrev main_call1_v9 : Ref sig .tc := ⟨.hbm, 87, rfl⟩
abbrev main_v33 : Ref sig .tc := ⟨.hbm, 88, rfl⟩
abbrev main_c_23 : Ref sig .tc := ⟨.hbm, 89, rfl⟩
abbrev main_v34 : Ref sig .tc := ⟨.hbm, 90, rfl⟩
abbrev main_c_24 : Ref sig .tc := ⟨.hbm, 91, rfl⟩
abbrev main_v35 : Ref sig .tc := ⟨.hbm, 92, rfl⟩
abbrev main_v36 : Ref sig .tc := ⟨.hbm, 93, rfl⟩
abbrev main_c_25 : Ref sig .tc := ⟨.hbm, 94, rfl⟩
abbrev main_c_26 : Ref sig .tc := ⟨.hbm, 95, rfl⟩
abbrev main_v37 : Ref sig .tc := ⟨.hbm, 96, rfl⟩
abbrev main_c_27 : Ref sig .tc := ⟨.hbm, 97, rfl⟩
abbrev main_c_28 : Ref sig .tc := ⟨.hbm, 98, rfl⟩
abbrev main_v38 : Ref sig .tc := ⟨.hbm, 99, rfl⟩
abbrev main_c_29 : Ref sig .tc := ⟨.hbm, 100, rfl⟩
abbrev main_v39 : Ref sig .tc := ⟨.hbm, 101, rfl⟩
abbrev main_v40 : Ref sig .tc := ⟨.hbm, 102, rfl⟩
abbrev main_v41 : Ref sig .tc := ⟨.hbm, 103, rfl⟩
abbrev main_c_30 : Ref sig .tc := ⟨.hbm, 104, rfl⟩
abbrev main_v42 : Ref sig .tc := ⟨.hbm, 105, rfl⟩
abbrev main_v43 : Ref sig .tc := ⟨.hbm, 106, rfl⟩
abbrev main_v44 : Ref sig .tc := ⟨.hbm, 107, rfl⟩
abbrev main_v45 : Ref sig .tc := ⟨.hbm, 108, rfl⟩
abbrev main_c_31 : Ref sig .tc := ⟨.hbm, 109, rfl⟩
abbrev main_call2_v0 : Ref sig .tc := ⟨.hbm, 110, rfl⟩
abbrev main_call2_c : Ref sig .tc := ⟨.hbm, 111, rfl⟩
abbrev main_call2_v1 : Ref sig .tc := ⟨.hbm, 112, rfl⟩
abbrev main_call2_c_0 : Ref sig .tc := ⟨.hbm, 113, rfl⟩
abbrev main_call2_v2 : Ref sig .tc := ⟨.hbm, 114, rfl⟩
abbrev main_call2_v3 : Ref sig .tc := ⟨.hbm, 115, rfl⟩
abbrev main_call2_v4 : Ref sig .tc := ⟨.hbm, 116, rfl⟩
abbrev main_call2_c_1 : Ref sig .tc := ⟨.hbm, 117, rfl⟩
abbrev main_call2_v5 : Ref sig .tc := ⟨.hbm, 118, rfl⟩
abbrev main_call2_v6 : Ref sig .tc := ⟨.hbm, 119, rfl⟩
abbrev main_call2_c_2 : Ref sig .tc := ⟨.hbm, 120, rfl⟩
abbrev main_call2_v7 : Ref sig .tc := ⟨.hbm, 121, rfl⟩
abbrev main_call2_v8 : Ref sig .tc := ⟨.hbm, 122, rfl⟩
abbrev main_call2_c_3 : Ref sig .tc := ⟨.hbm, 123, rfl⟩
abbrev main_call2_v9 : Ref sig .tc := ⟨.hbm, 124, rfl⟩
abbrev main_call2_v10 : Ref sig .tc := ⟨.hbm, 125, rfl⟩
abbrev main_call2_v11 : Ref sig .tc := ⟨.hbm, 126, rfl⟩
abbrev main_call2_v12 : Ref sig .tc := ⟨.hbm, 127, rfl⟩
abbrev main_call2_v13 : Ref sig .tc := ⟨.hbm, 128, rfl⟩
abbrev main_call2_v14 : Ref sig .tc := ⟨.hbm, 129, rfl⟩
abbrev main_v46 : Ref sig .tc := ⟨.hbm, 130, rfl⟩
abbrev main_c_32 : Ref sig .tc := ⟨.hbm, 131, rfl⟩
abbrev main_v47 : Ref sig .tc := ⟨.hbm, 132, rfl⟩
abbrev main_v48 : Ref sig .tc := ⟨.hbm, 133, rfl⟩
abbrev main_v49 : Ref sig .tc := ⟨.hbm, 134, rfl⟩
abbrev main_v50 : Ref sig .tc := ⟨.hbm, 135, rfl⟩
abbrev main_c_33 : Ref sig .tc := ⟨.hbm, 136, rfl⟩
abbrev main_call3_v0 : Ref sig .tc := ⟨.hbm, 137, rfl⟩
abbrev main_call3_c : Ref sig .tc := ⟨.hbm, 138, rfl⟩
abbrev main_call3_v1 : Ref sig .tc := ⟨.hbm, 139, rfl⟩
abbrev main_call3_c_0 : Ref sig .tc := ⟨.hbm, 140, rfl⟩
abbrev main_call3_v2 : Ref sig .tc := ⟨.hbm, 141, rfl⟩
abbrev main_call3_v3 : Ref sig .tc := ⟨.hbm, 142, rfl⟩
abbrev main_call3_v4 : Ref sig .tc := ⟨.hbm, 143, rfl⟩
abbrev main_call3_c_1 : Ref sig .tc := ⟨.hbm, 144, rfl⟩
abbrev main_call3_v5 : Ref sig .tc := ⟨.hbm, 145, rfl⟩
abbrev main_call3_v6 : Ref sig .tc := ⟨.hbm, 146, rfl⟩
abbrev main_call3_c_2 : Ref sig .tc := ⟨.hbm, 147, rfl⟩
abbrev main_call3_v7 : Ref sig .tc := ⟨.hbm, 148, rfl⟩
abbrev main_call3_v8 : Ref sig .tc := ⟨.hbm, 149, rfl⟩
abbrev main_call3_c_3 : Ref sig .tc := ⟨.hbm, 150, rfl⟩
abbrev main_call3_v9 : Ref sig .tc := ⟨.hbm, 151, rfl⟩
abbrev main_call3_v10 : Ref sig .tc := ⟨.hbm, 152, rfl⟩
abbrev main_call3_v11 : Ref sig .tc := ⟨.hbm, 153, rfl⟩
abbrev main_call3_v12 : Ref sig .tc := ⟨.hbm, 154, rfl⟩
abbrev main_call3_v13 : Ref sig .tc := ⟨.hbm, 155, rfl⟩
abbrev main_call3_v14 : Ref sig .tc := ⟨.hbm, 156, rfl⟩
abbrev main_v51 : Ref sig .tc := ⟨.hbm, 157, rfl⟩
abbrev main_v52 : Ref sig .tc := ⟨.hbm, 158, rfl⟩
abbrev main_c_34 : Ref sig .tc := ⟨.hbm, 159, rfl⟩
abbrev main_v53 : Ref sig .tc := ⟨.hbm, 160, rfl⟩
abbrev main_v54 : Ref sig .tc := ⟨.hbm, 161, rfl⟩
abbrev main_c_35 : Ref sig .tc := ⟨.hbm, 162, rfl⟩
abbrev main_v55 : Ref sig .tc := ⟨.hbm, 163, rfl⟩
abbrev main_v56 : Ref sig .tc := ⟨.hbm, 164, rfl⟩
abbrev main_v57 : Ref sig .tc := ⟨.hbm, 165, rfl⟩
abbrev main_v58 : Ref sig .tc := ⟨.hbm, 166, rfl⟩
abbrev main_v59 : Ref sig .tc := ⟨.hbm, 167, rfl⟩
abbrev main_v60 : Ref sig .tc := ⟨.hbm, 168, rfl⟩
abbrev main_v61 : Ref sig .tc := ⟨.hbm, 169, rfl⟩
abbrev main_c_36 : Ref sig .tc := ⟨.hbm, 170, rfl⟩
abbrev main_v62 : Ref sig .tc := ⟨.hbm, 171, rfl⟩
abbrev main_v63 : Ref sig .tc := ⟨.hbm, 172, rfl⟩
abbrev main_v64 : Ref sig .tc := ⟨.hbm, 173, rfl⟩
abbrev main_v65 : Ref sig .tc := ⟨.hbm, 174, rfl⟩
abbrev main_v66 : Ref sig .tc := ⟨.hbm, 175, rfl⟩
abbrev main_v67 : Ref sig .tc := ⟨.hbm, 176, rfl⟩
abbrev main_v68 : Ref sig .tc := ⟨.hbm, 177, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_scratch0 : Ref sig .tc := ⟨.vmem, 6, rfl⟩
abbrev cc1_scratch1 : Ref sig .tc := ⟨.vmem, 7, rfl⟩
abbrev cc1_scratch2 : Ref sig .tc := ⟨.vmem, 8, rfl⟩
abbrev cc1_scratch3 : Ref sig .tc := ⟨.vmem, 9, rfl⟩
abbrev cc1_stg0_0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev barrier0 : Sem sig := 2

abbrev nD : Nat := 32
abbrev τ : Topo := Topo.v7x

variable {F : FTy → Type} [FloatOps F]

abbrev grid0 : Pipeline.Grid := ⟨3, ![8, 1, 8], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev grid1 : Pipeline.Grid := .none

def k1_dev1 (d0 : Dev nD) : Nat :=
  let c0_i32 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_5 : BitVec 32 := 16#32
  let v17 : BitVec 32 := Scalar.muli v9 c16_i32_5
  let v18 : BitVec 32 := Scalar.addi c0_i32 v17
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_6 : BitVec 32 := 4#32
  let v19 : BitVec 32 := Scalar.muli v5 c4_i32_6
  let v20 : BitVec 32 := Scalar.addi v18 v19
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_7 : BitVec 32 := 1#32
  let v21 : BitVec 32 := Scalar.muli v8 c1_i32_7
  let v22 : BitVec 32 := Scalar.addi v20 v21
  v22.toNat
def k1_dev2 (d0 : Dev nD) (v12 : BitVec 32) (v13 : BitVec 32) : Nat :=
  let c0_i32_10 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_9 : BitVec 32 := 16#32
  let v23 : BitVec 32 := Scalar.muli v2 c16_i32_9
  let v24 : BitVec 32 := Scalar.addi c0_i32_10 v23
  let c4_i32_11 : BitVec 32 := 4#32
  let v25 : BitVec 32 := Scalar.muli v12 c4_i32_11
  let v26 : BitVec 32 := Scalar.addi v24 v25
  let c1_i32_12 : BitVec 32 := 1#32
  let v27 : BitVec 32 := Scalar.muli v13 c1_i32_12
  let v28 : BitVec 32 := Scalar.addi v26 v27
  v28.toNat

def k1_dev3 (d0 : Dev nD) (v10 : BitVec 32) (v11 : BitVec 32) : Nat :=
  let c0_i32_15 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_14 : BitVec 32 := 16#32
  let v29 : BitVec 32 := Scalar.muli v2 c16_i32_14
  let v30 : BitVec 32 := Scalar.addi c0_i32_15 v29
  let c4_i32_16 : BitVec 32 := 4#32
  let v31 : BitVec 32 := Scalar.muli v10 c4_i32_16
  let v32 : BitVec 32 := Scalar.addi v30 v31
  let c1_i32_17 : BitVec 32 := 1#32
  let v33 : BitVec 32 := Scalar.muli v11 c1_i32_17
  let v34 : BitVec 32 := Scalar.addi v32 v33
  v34.toNat

def k1_off1 (d0 : Dev nD) : Fin 2 → Nat :=
  let c1_i32_18 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v35 : BitVec 32 := Scalar.subi c1_i32_18 v2
  let c2048_i32 : BitVec 32 := 2048#32
  let v36 : BitVec 32 := Scalar.muli v35 c2048_i32
  let c0_i32_23 : BitVec 32 := 0#32
  ![v36.toNat, 0]
def k1_dev4 (d0 : Dev nD) : Nat :=
  let c0_i32_20 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_19 : BitVec 32 := 16#32
  let v37 : BitVec 32 := Scalar.muli v9 c16_i32_19
  let v38 : BitVec 32 := Scalar.addi c0_i32_20 v37
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_21 : BitVec 32 := 4#32
  let v39 : BitVec 32 := Scalar.muli v5 c4_i32_21
  let v40 : BitVec 32 := Scalar.addi v38 v39
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_22 : BitVec 32 := 1#32
  let v41 : BitVec 32 := Scalar.muli v8 c1_i32_22
  let v42 : BitVec 32 := Scalar.addi v40 v41
  v42.toNat
def k1_off2 (d0 : Dev nD) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c2048_i32_24 : BitVec 32 := 2048#32
  let v44 : BitVec 32 := Scalar.muli v2 c2048_i32_24
  let c0_i32_25 : BitVec 32 := 0#32
  ![v44.toNat, 0]
def k1_off3 (d0 : Dev nD) : Fin 2 → Nat :=
  let c0_i32_48 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_3 : BitVec 32 := 4#32
  let v14 : BitVec 32 := Scalar.muli v5 c4_i32_3
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v15 : BitVec 32 := Scalar.addi v14 v8
  let c512_i32 : BitVec 32 := 512#32
  let v66 : BitVec 32 := Scalar.muli v15 c512_i32
  ![0, v66.toNat]
def k1_dev5 (d0 : Dev nD) (v10 : BitVec 32) (v11 : BitVec 32) : Nat :=
  let c0_i32_56 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_55 : BitVec 32 := 16#32
  let v70 : BitVec 32 := Scalar.muli v2 c16_i32_55
  let v71 : BitVec 32 := Scalar.addi c0_i32_56 v70
  let c4_i32_57 : BitVec 32 := 4#32
  let v72 : BitVec 32 := Scalar.muli v10 c4_i32_57
  let v73 : BitVec 32 := Scalar.addi v71 v72
  let c1_i32_58 : BitVec 32 := 1#32
  let v74 : BitVec 32 := Scalar.muli v11 c1_i32_58
  let v75 : BitVec 32 := Scalar.addi v73 v74
  v75.toNat
def k1_dev6 (d0 : Dev nD) (v12 : BitVec 32) (v13 : BitVec 32) : Nat :=
  let c0_i32_68 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_67 : BitVec 32 := 16#32
  let v84 : BitVec 32 := Scalar.muli v2 c16_i32_67
  let v85 : BitVec 32 := Scalar.addi c0_i32_68 v84
  let c4_i32_69 : BitVec 32 := 4#32
  let v86 : BitVec 32 := Scalar.muli v12 c4_i32_69
  let v87 : BitVec 32 := Scalar.addi v85 v86
  let c1_i32_70 : BitVec 32 := 1#32
  let v88 : BitVec 32 := Scalar.muli v13 c1_i32_70
  let v89 : BitVec 32 := Scalar.addi v87 v88
  v89.toNat
def k1_dev7 (d0 : Dev nD) (v12 : BitVec 32) (v13 : BitVec 32) : Nat :=
  let c0_i32_102 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_101 : BitVec 32 := 16#32
  let v119 : BitVec 32 := Scalar.muli v2 c16_i32_101
  let v120 : BitVec 32 := Scalar.addi c0_i32_102 v119
  let c4_i32_103 : BitVec 32 := 4#32
  let v121 : BitVec 32 := Scalar.muli v12 c4_i32_103
  let v122 : BitVec 32 := Scalar.addi v120 v121
  let c1_i32_104 : BitVec 32 := 1#32
  let v123 : BitVec 32 := Scalar.muli v13 c1_i32_104
  let v124 : BitVec 32 := Scalar.addi v122 v123
  v124.toNat
def k1_off4 (v125 : BitVec 32) : Fin 2 → Nat :=
  let c0_i32_108 : BitVec 32 := 0#32
  let c512_i32_105 : BitVec 32 := 512#32
  let v126 : BitVec 32 := Scalar.muli v125 c512_i32_105
  ![0, v126.toNat]

def k1_dev8 (d0 : Dev nD) (v10 : BitVec 32) (v11 : BitVec 32) : Nat :=
  let c0_i32_134 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_133 : BitVec 32 := 16#32
  let v150 : BitVec 32 := Scalar.muli v2 c16_i32_133
  let v151 : BitVec 32 := Scalar.addi c0_i32_134 v150
  let c4_i32_135 : BitVec 32 := 4#32
  let v152 : BitVec 32 := Scalar.muli v10 c4_i32_135
  let v153 : BitVec 32 := Scalar.addi v151 v152
  let c1_i32_136 : BitVec 32 := 1#32
  let v154 : BitVec 32 := Scalar.muli v11 c1_i32_136
  let v155 : BitVec 32 := Scalar.addi v153 v154
  v155.toNat
def k1_off5 (v156 : BitVec 32) : Fin 2 → Nat :=
  let c0_i32_140 : BitVec 32 := 0#32
  let c512_i32_137 : BitVec 32 := 512#32
  let v157 : BitVec 32 := Scalar.muli v156 c512_i32_137
  ![0, v157.toNat]

def k1_dev9 (d0 : Dev nD) (v10 : BitVec 32) (v11 : BitVec 32) : Nat :=
  let c0_i32_150 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_149 : BitVec 32 := 16#32
  let v163 : BitVec 32 := Scalar.muli v2 c16_i32_149
  let v164 : BitVec 32 := Scalar.addi c0_i32_150 v163
  let c4_i32_151 : BitVec 32 := 4#32
  let v165 : BitVec 32 := Scalar.muli v10 c4_i32_151
  let v166 : BitVec 32 := Scalar.addi v164 v165
  let c1_i32_152 : BitVec 32 := 1#32
  let v167 : BitVec 32 := Scalar.muli v11 c1_i32_152
  let v168 : BitVec 32 := Scalar.addi v166 v167
  v168.toNat
def k1_dev10 (d0 : Dev nD) (v12 : BitVec 32) (v13 : BitVec 32) : Nat :=
  let c0_i32_164 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_163 : BitVec 32 := 16#32
  let v177 : BitVec 32 := Scalar.muli v2 c16_i32_163
  let v178 : BitVec 32 := Scalar.addi c0_i32_164 v177
  let c4_i32_165 : BitVec 32 := 4#32
  let v179 : BitVec 32 := Scalar.muli v12 c4_i32_165
  let v180 : BitVec 32 := Scalar.addi v178 v179
  let c1_i32_166 : BitVec 32 := 1#32
  let v181 : BitVec 32 := Scalar.muli v13 c1_i32_166
  let v182 : BitVec 32 := Scalar.addi v180 v181
  v182.toNat
def k1_off6 (v125 : BitVec 32) : Fin 2 → Nat :=
  let c0_i32_194 : BitVec 32 := 0#32
  let c512_i32_105 : BitVec 32 := 512#32
  let v126 : BitVec 32 := Scalar.muli v125 c512_i32_105
  ![0, v126.toNat]

def k1_chk3 (v125 : BitVec 32) : Prop :=
  (∀ a, (k1_off4 v125) a + S2048x512.size a ≤ S2048x8192.size a) ∧
  (∀ a, (k1_off6 v125) a + S2048x512.size a ≤ S2048x8192.size a)
theorem k1_off4_inb : ∀ (v125 : BitVec 32) (k1_hw3 : k1_chk3 v125), ∀ a, (k1_off4 v125) a + S2048x512.size a ≤ S2048x8192.size a := fun v125 k1_hw3 => k1_hw3.1
theorem k1_off6_inb : ∀ (v125 : BitVec 32) (k1_hw3 : k1_chk3 v125), ∀ a, (k1_off6 v125) a + S2048x512.size a ≤ S2048x8192.size a := fun v125 k1_hw3 => k1_hw3.2

def k1_dev11 (d0 : Dev nD) (v12 : BitVec 32) (v13 : BitVec 32) : Nat :=
  let c0_i32_199 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_198 : BitVec 32 := 16#32
  let v214 : BitVec 32 := Scalar.muli v2 c16_i32_198
  let v215 : BitVec 32 := Scalar.addi c0_i32_199 v214
  let c4_i32_200 : BitVec 32 := 4#32
  let v216 : BitVec 32 := Scalar.muli v12 c4_i32_200
  let v217 : BitVec 32 := Scalar.addi v215 v216
  let c1_i32_201 : BitVec 32 := 1#32
  let v218 : BitVec 32 := Scalar.muli v13 c1_i32_201
  let v219 : BitVec 32 := Scalar.addi v217 v218
  v219.toNat
def k1_off7 (v220 : BitVec 32) : Fin 2 → Nat :=
  let c0_i32_205 : BitVec 32 := 0#32
  let c512_i32_202 : BitVec 32 := 512#32
  let v221 : BitVec 32 := Scalar.muli v220 c512_i32_202
  ![0, v221.toNat]

def k1_off8 (v156 : BitVec 32) : Fin 2 → Nat :=
  let c0_i32_231 : BitVec 32 := 0#32
  let c512_i32_137 : BitVec 32 := 512#32
  let v157 : BitVec 32 := Scalar.muli v156 c512_i32_137
  ![0, v157.toNat]

def k1_chk4 (v156 : BitVec 32) : Prop :=
  (∀ a, (k1_off5 v156) a + S2048x512.size a ≤ S2048x8192.size a) ∧
  (∀ a, (k1_off8 v156) a + S2048x512.size a ≤ S2048x8192.size a)
theorem k1_off5_inb : ∀ (v156 : BitVec 32) (k1_hw4 : k1_chk4 v156), ∀ a, (k1_off5 v156) a + S2048x512.size a ≤ S2048x8192.size a := fun v156 k1_hw4 => k1_hw4.1
theorem k1_off8_inb : ∀ (v156 : BitVec 32) (k1_hw4 : k1_chk4 v156), ∀ a, (k1_off8 v156) a + S2048x512.size a ≤ S2048x8192.size a := fun v156 k1_hw4 => k1_hw4.2

def k1_dev12 (d0 : Dev nD) (v10 : BitVec 32) (v11 : BitVec 32) : Nat :=
  let c0_i32_236 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_235 : BitVec 32 := 16#32
  let v250 : BitVec 32 := Scalar.muli v2 c16_i32_235
  let v251 : BitVec 32 := Scalar.addi c0_i32_236 v250
  let c4_i32_237 : BitVec 32 := 4#32
  let v252 : BitVec 32 := Scalar.muli v10 c4_i32_237
  let v253 : BitVec 32 := Scalar.addi v251 v252
  let c1_i32_238 : BitVec 32 := 1#32
  let v254 : BitVec 32 := Scalar.muli v11 c1_i32_238
  let v255 : BitVec 32 := Scalar.addi v253 v254
  v255.toNat
def k1_off9 (v256 : BitVec 32) : Fin 2 → Nat :=
  let c0_i32_242 : BitVec 32 := 0#32
  let c512_i32_239 : BitVec 32 := 512#32
  let v257 : BitVec 32 := Scalar.muli v256 c512_i32_239
  ![0, v257.toNat]

def k1_dev13 (d0 : Dev nD) (v10 : BitVec 32) (v11 : BitVec 32) : Nat :=
  let c0_i32_252 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_251 : BitVec 32 := 16#32
  let v263 : BitVec 32 := Scalar.muli v2 c16_i32_251
  let v264 : BitVec 32 := Scalar.addi c0_i32_252 v263
  let c4_i32_253 : BitVec 32 := 4#32
  let v265 : BitVec 32 := Scalar.muli v10 c4_i32_253
  let v266 : BitVec 32 := Scalar.addi v264 v265
  let c1_i32_254 : BitVec 32 := 1#32
  let v267 : BitVec 32 := Scalar.muli v11 c1_i32_254
  let v268 : BitVec 32 := Scalar.addi v266 v267
  v268.toNat
def k1_dev14 (d0 : Dev nD) (v12 : BitVec 32) (v13 : BitVec 32) : Nat :=
  let c0_i32_266 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_265 : BitVec 32 := 16#32
  let v277 : BitVec 32 := Scalar.muli v2 c16_i32_265
  let v278 : BitVec 32 := Scalar.addi c0_i32_266 v277
  let c4_i32_267 : BitVec 32 := 4#32
  let v279 : BitVec 32 := Scalar.muli v12 c4_i32_267
  let v280 : BitVec 32 := Scalar.addi v278 v279
  let c1_i32_268 : BitVec 32 := 1#32
  let v281 : BitVec 32 := Scalar.muli v13 c1_i32_268
  let v282 : BitVec 32 := Scalar.addi v280 v281
  v282.toNat
def k1_off10 (v220 : BitVec 32) : Fin 2 → Nat :=
  let c0_i32_296 : BitVec 32 := 0#32
  let c512_i32_202 : BitVec 32 := 512#32
  let v221 : BitVec 32 := Scalar.muli v220 c512_i32_202
  ![0, v221.toNat]

def k1_chk5 (v220 : BitVec 32) : Prop :=
  (∀ a, (k1_off7 v220) a + S2048x512.size a ≤ S2048x8192.size a) ∧
  (∀ a, (k1_off10 v220) a + S2048x512.size a ≤ S2048x8192.size a)
theorem k1_off7_inb : ∀ (v220 : BitVec 32) (k1_hw5 : k1_chk5 v220), ∀ a, (k1_off7 v220) a + S2048x512.size a ≤ S2048x8192.size a := fun v220 k1_hw5 => k1_hw5.1
theorem k1_off10_inb : ∀ (v220 : BitVec 32) (k1_hw5 : k1_chk5 v220), ∀ a, (k1_off10 v220) a + S2048x512.size a ≤ S2048x8192.size a := fun v220 k1_hw5 => k1_hw5.2

def k1_dev15 (d0 : Dev nD) (v12 : BitVec 32) (v13 : BitVec 32) : Nat :=
  let c0_i32_301 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_300 : BitVec 32 := 16#32
  let v314 : BitVec 32 := Scalar.muli v2 c16_i32_300
  let v315 : BitVec 32 := Scalar.addi c0_i32_301 v314
  let c4_i32_302 : BitVec 32 := 4#32
  let v316 : BitVec 32 := Scalar.muli v12 c4_i32_302
  let v317 : BitVec 32 := Scalar.addi v315 v316
  let c1_i32_303 : BitVec 32 := 1#32
  let v318 : BitVec 32 := Scalar.muli v13 c1_i32_303
  let v319 : BitVec 32 := Scalar.addi v317 v318
  v319.toNat
def k1_off11 (v320 : BitVec 32) : Fin 2 → Nat :=
  let c0_i32_307 : BitVec 32 := 0#32
  let c512_i32_304 : BitVec 32 := 512#32
  let v321 : BitVec 32 := Scalar.muli v320 c512_i32_304
  ![0, v321.toNat]

def k1_off12 (v256 : BitVec 32) : Fin 2 → Nat :=
  let c0_i32_333 : BitVec 32 := 0#32
  let c512_i32_239 : BitVec 32 := 512#32
  let v257 : BitVec 32 := Scalar.muli v256 c512_i32_239
  ![0, v257.toNat]

def k1_chk6 (v256 : BitVec 32) : Prop :=
  (∀ a, (k1_off9 v256) a + S2048x512.size a ≤ S2048x8192.size a) ∧
  (∀ a, (k1_off12 v256) a + S2048x512.size a ≤ S2048x8192.size a)
theorem k1_off9_inb : ∀ (v256 : BitVec 32) (k1_hw6 : k1_chk6 v256), ∀ a, (k1_off9 v256) a + S2048x512.size a ≤ S2048x8192.size a := fun v256 k1_hw6 => k1_hw6.1
theorem k1_off12_inb : ∀ (v256 : BitVec 32) (k1_hw6 : k1_chk6 v256), ∀ a, (k1_off12 v256) a + S2048x512.size a ≤ S2048x8192.size a := fun v256 k1_hw6 => k1_hw6.2

def k1_dev16 (d0 : Dev nD) (v10 : BitVec 32) (v11 : BitVec 32) : Nat :=
  let c0_i32_338 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_337 : BitVec 32 := 16#32
  let v350 : BitVec 32 := Scalar.muli v2 c16_i32_337
  let v351 : BitVec 32 := Scalar.addi c0_i32_338 v350
  let c4_i32_339 : BitVec 32 := 4#32
  let v352 : BitVec 32 := Scalar.muli v10 c4_i32_339
  let v353 : BitVec 32 := Scalar.addi v351 v352
  let c1_i32_340 : BitVec 32 := 1#32
  let v354 : BitVec 32 := Scalar.muli v11 c1_i32_340
  let v355 : BitVec 32 := Scalar.addi v353 v354
  v355.toNat
def k1_off13 (v356 : BitVec 32) : Fin 2 → Nat :=
  let c0_i32_344 : BitVec 32 := 0#32
  let c512_i32_341 : BitVec 32 := 512#32
  let v357 : BitVec 32 := Scalar.muli v356 c512_i32_341
  ![0, v357.toNat]

def k1_dev17 (d0 : Dev nD) (v10 : BitVec 32) (v11 : BitVec 32) : Nat :=
  let c0_i32_354 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_353 : BitVec 32 := 16#32
  let v363 : BitVec 32 := Scalar.muli v2 c16_i32_353
  let v364 : BitVec 32 := Scalar.addi c0_i32_354 v363
  let c4_i32_355 : BitVec 32 := 4#32
  let v365 : BitVec 32 := Scalar.muli v10 c4_i32_355
  let v366 : BitVec 32 := Scalar.addi v364 v365
  let c1_i32_356 : BitVec 32 := 1#32
  let v367 : BitVec 32 := Scalar.muli v11 c1_i32_356
  let v368 : BitVec 32 := Scalar.addi v366 v367
  v368.toNat
def k1_dev18 (d0 : Dev nD) (v12 : BitVec 32) (v13 : BitVec 32) : Nat :=
  let c0_i32_368 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_367 : BitVec 32 := 16#32
  let v377 : BitVec 32 := Scalar.muli v2 c16_i32_367
  let v378 : BitVec 32 := Scalar.addi c0_i32_368 v377
  let c4_i32_369 : BitVec 32 := 4#32
  let v379 : BitVec 32 := Scalar.muli v12 c4_i32_369
  let v380 : BitVec 32 := Scalar.addi v378 v379
  let c1_i32_370 : BitVec 32 := 1#32
  let v381 : BitVec 32 := Scalar.muli v13 c1_i32_370
  let v382 : BitVec 32 := Scalar.addi v380 v381
  v382.toNat
def k1_off14 (v320 : BitVec 32) : Fin 2 → Nat :=
  let c0_i32_398 : BitVec 32 := 0#32
  let c512_i32_304 : BitVec 32 := 512#32
  let v321 : BitVec 32 := Scalar.muli v320 c512_i32_304
  ![0, v321.toNat]

def k1_chk7 (v320 : BitVec 32) : Prop :=
  (∀ a, (k1_off11 v320) a + S2048x512.size a ≤ S2048x8192.size a) ∧
  (∀ a, (k1_off14 v320) a + S2048x512.size a ≤ S2048x8192.size a)
theorem k1_off11_inb : ∀ (v320 : BitVec 32) (k1_hw7 : k1_chk7 v320), ∀ a, (k1_off11 v320) a + S2048x512.size a ≤ S2048x8192.size a := fun v320 k1_hw7 => k1_hw7.1
theorem k1_off14_inb : ∀ (v320 : BitVec 32) (k1_hw7 : k1_chk7 v320), ∀ a, (k1_off14 v320) a + S2048x512.size a ≤ S2048x8192.size a := fun v320 k1_hw7 => k1_hw7.2

def k1_dev19 (d0 : Dev nD) (v12 : BitVec 32) (v13 : BitVec 32) : Nat :=
  let c0_i32_403 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_402 : BitVec 32 := 16#32
  let v414 : BitVec 32 := Scalar.muli v2 c16_i32_402
  let v415 : BitVec 32 := Scalar.addi c0_i32_403 v414
  let c4_i32_404 : BitVec 32 := 4#32
  let v416 : BitVec 32 := Scalar.muli v12 c4_i32_404
  let v417 : BitVec 32 := Scalar.addi v415 v416
  let c1_i32_405 : BitVec 32 := 1#32
  let v418 : BitVec 32 := Scalar.muli v13 c1_i32_405
  let v419 : BitVec 32 := Scalar.addi v417 v418
  v419.toNat
def k1_off15 (v420 : BitVec 32) : Fin 2 → Nat :=
  let c0_i32_409 : BitVec 32 := 0#32
  let c512_i32_406 : BitVec 32 := 512#32
  let v421 : BitVec 32 := Scalar.muli v420 c512_i32_406
  ![0, v421.toNat]

def k1_off16 (v356 : BitVec 32) : Fin 2 → Nat :=
  let c0_i32_435 : BitVec 32 := 0#32
  let c512_i32_341 : BitVec 32 := 512#32
  let v357 : BitVec 32 := Scalar.muli v356 c512_i32_341
  ![0, v357.toNat]

def k1_chk8 (v356 : BitVec 32) : Prop :=
  (∀ a, (k1_off13 v356) a + S2048x512.size a ≤ S2048x8192.size a) ∧
  (∀ a, (k1_off16 v356) a + S2048x512.size a ≤ S2048x8192.size a)
theorem k1_off13_inb : ∀ (v356 : BitVec 32) (k1_hw8 : k1_chk8 v356), ∀ a, (k1_off13 v356) a + S2048x512.size a ≤ S2048x8192.size a := fun v356 k1_hw8 => k1_hw8.1
theorem k1_off16_inb : ∀ (v356 : BitVec 32) (k1_hw8 : k1_chk8 v356), ∀ a, (k1_off16 v356) a + S2048x512.size a ≤ S2048x8192.size a := fun v356 k1_hw8 => k1_hw8.2

def k1_dev20 (d0 : Dev nD) (v10 : BitVec 32) (v11 : BitVec 32) : Nat :=
  let c0_i32_440 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_439 : BitVec 32 := 16#32
  let v450 : BitVec 32 := Scalar.muli v2 c16_i32_439
  let v451 : BitVec 32 := Scalar.addi c0_i32_440 v450
  let c4_i32_441 : BitVec 32 := 4#32
  let v452 : BitVec 32 := Scalar.muli v10 c4_i32_441
  let v453 : BitVec 32 := Scalar.addi v451 v452
  let c1_i32_442 : BitVec 32 := 1#32
  let v454 : BitVec 32 := Scalar.muli v11 c1_i32_442
  let v455 : BitVec 32 := Scalar.addi v453 v454
  v455.toNat
def k1_off17 (v456 : BitVec 32) : Fin 2 → Nat :=
  let c0_i32_446 : BitVec 32 := 0#32
  let c512_i32_443 : BitVec 32 := 512#32
  let v457 : BitVec 32 := Scalar.muli v456 c512_i32_443
  ![0, v457.toNat]

def k1_dev21 (d0 : Dev nD) (v10 : BitVec 32) (v11 : BitVec 32) : Nat :=
  let c0_i32_456 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_455 : BitVec 32 := 16#32
  let v463 : BitVec 32 := Scalar.muli v2 c16_i32_455
  let v464 : BitVec 32 := Scalar.addi c0_i32_456 v463
  let c4_i32_457 : BitVec 32 := 4#32
  let v465 : BitVec 32 := Scalar.muli v10 c4_i32_457
  let v466 : BitVec 32 := Scalar.addi v464 v465
  let c1_i32_458 : BitVec 32 := 1#32
  let v467 : BitVec 32 := Scalar.muli v11 c1_i32_458
  let v468 : BitVec 32 := Scalar.addi v466 v467
  v468.toNat
def k1_dev22 (d0 : Dev nD) (v12 : BitVec 32) (v13 : BitVec 32) : Nat :=
  let c0_i32_470 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_469 : BitVec 32 := 16#32
  let v477 : BitVec 32 := Scalar.muli v2 c16_i32_469
  let v478 : BitVec 32 := Scalar.addi c0_i32_470 v477
  let c4_i32_471 : BitVec 32 := 4#32
  let v479 : BitVec 32 := Scalar.muli v12 c4_i32_471
  let v480 : BitVec 32 := Scalar.addi v478 v479
  let c1_i32_472 : BitVec 32 := 1#32
  let v481 : BitVec 32 := Scalar.muli v13 c1_i32_472
  let v482 : BitVec 32 := Scalar.addi v480 v481
  v482.toNat
def k1_off18 (v420 : BitVec 32) : Fin 2 → Nat :=
  let c0_i32_500 : BitVec 32 := 0#32
  let c512_i32_406 : BitVec 32 := 512#32
  let v421 : BitVec 32 := Scalar.muli v420 c512_i32_406
  ![0, v421.toNat]

def k1_chk9 (v420 : BitVec 32) : Prop :=
  (∀ a, (k1_off15 v420) a + S2048x512.size a ≤ S2048x8192.size a) ∧
  (∀ a, (k1_off18 v420) a + S2048x512.size a ≤ S2048x8192.size a)
theorem k1_off15_inb : ∀ (v420 : BitVec 32) (k1_hw9 : k1_chk9 v420), ∀ a, (k1_off15 v420) a + S2048x512.size a ≤ S2048x8192.size a := fun v420 k1_hw9 => k1_hw9.1
theorem k1_off18_inb : ∀ (v420 : BitVec 32) (k1_hw9 : k1_chk9 v420), ∀ a, (k1_off18 v420) a + S2048x512.size a ≤ S2048x8192.size a := fun v420 k1_hw9 => k1_hw9.2

def k1_dev23 (d0 : Dev nD) (v12 : BitVec 32) (v13 : BitVec 32) : Nat :=
  let c0_i32_505 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_504 : BitVec 32 := 16#32
  let v514 : BitVec 32 := Scalar.muli v2 c16_i32_504
  let v515 : BitVec 32 := Scalar.addi c0_i32_505 v514
  let c4_i32_506 : BitVec 32 := 4#32
  let v516 : BitVec 32 := Scalar.muli v12 c4_i32_506
  let v517 : BitVec 32 := Scalar.addi v515 v516
  let c1_i32_507 : BitVec 32 := 1#32
  let v518 : BitVec 32 := Scalar.muli v13 c1_i32_507
  let v519 : BitVec 32 := Scalar.addi v517 v518
  v519.toNat
def k1_off19 (v520 : BitVec 32) : Fin 2 → Nat :=
  let c0_i32_511 : BitVec 32 := 0#32
  let c512_i32_508 : BitVec 32 := 512#32
  let v521 : BitVec 32 := Scalar.muli v520 c512_i32_508
  ![0, v521.toNat]

def k1_off20 (v456 : BitVec 32) : Fin 2 → Nat :=
  let c0_i32_537 : BitVec 32 := 0#32
  let c512_i32_443 : BitVec 32 := 512#32
  let v457 : BitVec 32 := Scalar.muli v456 c512_i32_443
  ![0, v457.toNat]

def k1_chk10 (v456 : BitVec 32) : Prop :=
  (∀ a, (k1_off17 v456) a + S2048x512.size a ≤ S2048x8192.size a) ∧
  (∀ a, (k1_off20 v456) a + S2048x512.size a ≤ S2048x8192.size a)
theorem k1_off17_inb : ∀ (v456 : BitVec 32) (k1_hw10 : k1_chk10 v456), ∀ a, (k1_off17 v456) a + S2048x512.size a ≤ S2048x8192.size a := fun v456 k1_hw10 => k1_hw10.1
theorem k1_off20_inb : ∀ (v456 : BitVec 32) (k1_hw10 : k1_chk10 v456), ∀ a, (k1_off20 v456) a + S2048x512.size a ≤ S2048x8192.size a := fun v456 k1_hw10 => k1_hw10.2

def k1_dev24 (d0 : Dev nD) (v10 : BitVec 32) (v11 : BitVec 32) : Nat :=
  let c0_i32_542 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_541 : BitVec 32 := 16#32
  let v550 : BitVec 32 := Scalar.muli v2 c16_i32_541
  let v551 : BitVec 32 := Scalar.addi c0_i32_542 v550
  let c4_i32_543 : BitVec 32 := 4#32
  let v552 : BitVec 32 := Scalar.muli v10 c4_i32_543
  let v553 : BitVec 32 := Scalar.addi v551 v552
  let c1_i32_544 : BitVec 32 := 1#32
  let v554 : BitVec 32 := Scalar.muli v11 c1_i32_544
  let v555 : BitVec 32 := Scalar.addi v553 v554
  v555.toNat
def k1_off21 (v556 : BitVec 32) : Fin 2 → Nat :=
  let c0_i32_548 : BitVec 32 := 0#32
  let c512_i32_545 : BitVec 32 := 512#32
  let v557 : BitVec 32 := Scalar.muli v556 c512_i32_545
  ![0, v557.toNat]

def k1_dev25 (d0 : Dev nD) (v10 : BitVec 32) (v11 : BitVec 32) : Nat :=
  let c0_i32_558 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_557 : BitVec 32 := 16#32
  let v563 : BitVec 32 := Scalar.muli v2 c16_i32_557
  let v564 : BitVec 32 := Scalar.addi c0_i32_558 v563
  let c4_i32_559 : BitVec 32 := 4#32
  let v565 : BitVec 32 := Scalar.muli v10 c4_i32_559
  let v566 : BitVec 32 := Scalar.addi v564 v565
  let c1_i32_560 : BitVec 32 := 1#32
  let v567 : BitVec 32 := Scalar.muli v11 c1_i32_560
  let v568 : BitVec 32 := Scalar.addi v566 v567
  v568.toNat
def k1_dev26 (d0 : Dev nD) (v12 : BitVec 32) (v13 : BitVec 32) : Nat :=
  let c0_i32_572 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_571 : BitVec 32 := 16#32
  let v577 : BitVec 32 := Scalar.muli v2 c16_i32_571
  let v578 : BitVec 32 := Scalar.addi c0_i32_572 v577
  let c4_i32_573 : BitVec 32 := 4#32
  let v579 : BitVec 32 := Scalar.muli v12 c4_i32_573
  let v580 : BitVec 32 := Scalar.addi v578 v579
  let c1_i32_574 : BitVec 32 := 1#32
  let v581 : BitVec 32 := Scalar.muli v13 c1_i32_574
  let v582 : BitVec 32 := Scalar.addi v580 v581
  v582.toNat
def k1_off22 (v520 : BitVec 32) : Fin 2 → Nat :=
  let c0_i32_602 : BitVec 32 := 0#32
  let c512_i32_508 : BitVec 32 := 512#32
  let v521 : BitVec 32 := Scalar.muli v520 c512_i32_508
  ![0, v521.toNat]

def k1_chk11 (v520 : BitVec 32) : Prop :=
  (∀ a, (k1_off19 v520) a + S2048x512.size a ≤ S2048x8192.size a) ∧
  (∀ a, (k1_off22 v520) a + S2048x512.size a ≤ S2048x8192.size a)
theorem k1_off19_inb : ∀ (v520 : BitVec 32) (k1_hw11 : k1_chk11 v520), ∀ a, (k1_off19 v520) a + S2048x512.size a ≤ S2048x8192.size a := fun v520 k1_hw11 => k1_hw11.1
theorem k1_off22_inb : ∀ (v520 : BitVec 32) (k1_hw11 : k1_chk11 v520), ∀ a, (k1_off22 v520) a + S2048x512.size a ≤ S2048x8192.size a := fun v520 k1_hw11 => k1_hw11.2

def k1_dev27 (d0 : Dev nD) (v12 : BitVec 32) (v13 : BitVec 32) : Nat :=
  let c0_i32_607 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_606 : BitVec 32 := 16#32
  let v614 : BitVec 32 := Scalar.muli v2 c16_i32_606
  let v615 : BitVec 32 := Scalar.addi c0_i32_607 v614
  let c4_i32_608 : BitVec 32 := 4#32
  let v616 : BitVec 32 := Scalar.muli v12 c4_i32_608
  let v617 : BitVec 32 := Scalar.addi v615 v616
  let c1_i32_609 : BitVec 32 := 1#32
  let v618 : BitVec 32 := Scalar.muli v13 c1_i32_609
  let v619 : BitVec 32 := Scalar.addi v617 v618
  v619.toNat
def k1_off23 (v620 : BitVec 32) : Fin 2 → Nat :=
  let c0_i32_613 : BitVec 32 := 0#32
  let c512_i32_610 : BitVec 32 := 512#32
  let v621 : BitVec 32 := Scalar.muli v620 c512_i32_610
  ![0, v621.toNat]

def k1_off24 (v556 : BitVec 32) : Fin 2 → Nat :=
  let c0_i32_639 : BitVec 32 := 0#32
  let c512_i32_545 : BitVec 32 := 512#32
  let v557 : BitVec 32 := Scalar.muli v556 c512_i32_545
  ![0, v557.toNat]

def k1_chk12 (v556 : BitVec 32) : Prop :=
  (∀ a, (k1_off21 v556) a + S2048x512.size a ≤ S2048x8192.size a) ∧
  (∀ a, (k1_off24 v556) a + S2048x512.size a ≤ S2048x8192.size a)
theorem k1_off21_inb : ∀ (v556 : BitVec 32) (k1_hw12 : k1_chk12 v556), ∀ a, (k1_off21 v556) a + S2048x512.size a ≤ S2048x8192.size a := fun v556 k1_hw12 => k1_hw12.1
theorem k1_off24_inb : ∀ (v556 : BitVec 32) (k1_hw12 : k1_chk12 v556), ∀ a, (k1_off24 v556) a + S2048x512.size a ≤ S2048x8192.size a := fun v556 k1_hw12 => k1_hw12.2

def k1_dev28 (d0 : Dev nD) (v10 : BitVec 32) (v11 : BitVec 32) : Nat :=
  let c0_i32_644 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_643 : BitVec 32 := 16#32
  let v650 : BitVec 32 := Scalar.muli v2 c16_i32_643
  let v651 : BitVec 32 := Scalar.addi c0_i32_644 v650
  let c4_i32_645 : BitVec 32 := 4#32
  let v652 : BitVec 32 := Scalar.muli v10 c4_i32_645
  let v653 : BitVec 32 := Scalar.addi v651 v652
  let c1_i32_646 : BitVec 32 := 1#32
  let v654 : BitVec 32 := Scalar.muli v11 c1_i32_646
  let v655 : BitVec 32 := Scalar.addi v653 v654
  v655.toNat
def k1_off25 (v656 : BitVec 32) : Fin 2 → Nat :=
  let c0_i32_650 : BitVec 32 := 0#32
  let c512_i32_647 : BitVec 32 := 512#32
  let v657 : BitVec 32 := Scalar.muli v656 c512_i32_647
  ![0, v657.toNat]

def k1_dev29 (d0 : Dev nD) (v10 : BitVec 32) (v11 : BitVec 32) : Nat :=
  let c0_i32_660 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_659 : BitVec 32 := 16#32
  let v663 : BitVec 32 := Scalar.muli v2 c16_i32_659
  let v664 : BitVec 32 := Scalar.addi c0_i32_660 v663
  let c4_i32_661 : BitVec 32 := 4#32
  let v665 : BitVec 32 := Scalar.muli v10 c4_i32_661
  let v666 : BitVec 32 := Scalar.addi v664 v665
  let c1_i32_662 : BitVec 32 := 1#32
  let v667 : BitVec 32 := Scalar.muli v11 c1_i32_662
  let v668 : BitVec 32 := Scalar.addi v666 v667
  v668.toNat
def k1_dev30 (d0 : Dev nD) (v12 : BitVec 32) (v13 : BitVec 32) : Nat :=
  let c0_i32_674 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_673 : BitVec 32 := 16#32
  let v677 : BitVec 32 := Scalar.muli v2 c16_i32_673
  let v678 : BitVec 32 := Scalar.addi c0_i32_674 v677
  let c4_i32_675 : BitVec 32 := 4#32
  let v679 : BitVec 32 := Scalar.muli v12 c4_i32_675
  let v680 : BitVec 32 := Scalar.addi v678 v679
  let c1_i32_676 : BitVec 32 := 1#32
  let v681 : BitVec 32 := Scalar.muli v13 c1_i32_676
  let v682 : BitVec 32 := Scalar.addi v680 v681
  v682.toNat
def k1_off26 (v620 : BitVec 32) : Fin 2 → Nat :=
  let c0_i32_704 : BitVec 32 := 0#32
  let c512_i32_610 : BitVec 32 := 512#32
  let v621 : BitVec 32 := Scalar.muli v620 c512_i32_610
  ![0, v621.toNat]

def k1_chk13 (v620 : BitVec 32) : Prop :=
  (∀ a, (k1_off23 v620) a + S2048x512.size a ≤ S2048x8192.size a) ∧
  (∀ a, (k1_off26 v620) a + S2048x512.size a ≤ S2048x8192.size a)
theorem k1_off23_inb : ∀ (v620 : BitVec 32) (k1_hw13 : k1_chk13 v620), ∀ a, (k1_off23 v620) a + S2048x512.size a ≤ S2048x8192.size a := fun v620 k1_hw13 => k1_hw13.1
theorem k1_off26_inb : ∀ (v620 : BitVec 32) (k1_hw13 : k1_chk13 v620), ∀ a, (k1_off26 v620) a + S2048x512.size a ≤ S2048x8192.size a := fun v620 k1_hw13 => k1_hw13.2

def k1_dev31 (d0 : Dev nD) (v12 : BitVec 32) (v13 : BitVec 32) : Nat :=
  let c0_i32_709 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_708 : BitVec 32 := 16#32
  let v714 : BitVec 32 := Scalar.muli v2 c16_i32_708
  let v715 : BitVec 32 := Scalar.addi c0_i32_709 v714
  let c4_i32_710 : BitVec 32 := 4#32
  let v716 : BitVec 32 := Scalar.muli v12 c4_i32_710
  let v717 : BitVec 32 := Scalar.addi v715 v716
  let c1_i32_711 : BitVec 32 := 1#32
  let v718 : BitVec 32 := Scalar.muli v13 c1_i32_711
  let v719 : BitVec 32 := Scalar.addi v717 v718
  v719.toNat
def k1_off27 (v720 : BitVec 32) : Fin 2 → Nat :=
  let c0_i32_715 : BitVec 32 := 0#32
  let c512_i32_712 : BitVec 32 := 512#32
  let v721 : BitVec 32 := Scalar.muli v720 c512_i32_712
  ![0, v721.toNat]

def k1_off28 (v656 : BitVec 32) : Fin 2 → Nat :=
  let c0_i32_741 : BitVec 32 := 0#32
  let c512_i32_647 : BitVec 32 := 512#32
  let v657 : BitVec 32 := Scalar.muli v656 c512_i32_647
  ![0, v657.toNat]

def k1_chk14 (v656 : BitVec 32) : Prop :=
  (∀ a, (k1_off25 v656) a + S2048x512.size a ≤ S2048x8192.size a) ∧
  (∀ a, (k1_off28 v656) a + S2048x512.size a ≤ S2048x8192.size a)
theorem k1_off25_inb : ∀ (v656 : BitVec 32) (k1_hw14 : k1_chk14 v656), ∀ a, (k1_off25 v656) a + S2048x512.size a ≤ S2048x8192.size a := fun v656 k1_hw14 => k1_hw14.1
theorem k1_off28_inb : ∀ (v656 : BitVec 32) (k1_hw14 : k1_chk14 v656), ∀ a, (k1_off28 v656) a + S2048x512.size a ≤ S2048x8192.size a := fun v656 k1_hw14 => k1_hw14.2

def k1_dev32 (d0 : Dev nD) (v10 : BitVec 32) (v11 : BitVec 32) : Nat :=
  let c0_i32_746 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_745 : BitVec 32 := 16#32
  let v750 : BitVec 32 := Scalar.muli v2 c16_i32_745
  let v751 : BitVec 32 := Scalar.addi c0_i32_746 v750
  let c4_i32_747 : BitVec 32 := 4#32
  let v752 : BitVec 32 := Scalar.muli v10 c4_i32_747
  let v753 : BitVec 32 := Scalar.addi v751 v752
  let c1_i32_748 : BitVec 32 := 1#32
  let v754 : BitVec 32 := Scalar.muli v11 c1_i32_748
  let v755 : BitVec 32 := Scalar.addi v753 v754
  v755.toNat
def k1_off29 (v756 : BitVec 32) : Fin 2 → Nat :=
  let c0_i32_752 : BitVec 32 := 0#32
  let c512_i32_749 : BitVec 32 := 512#32
  let v757 : BitVec 32 := Scalar.muli v756 c512_i32_749
  ![0, v757.toNat]

def k1_dev33 (d0 : Dev nD) (v10 : BitVec 32) (v11 : BitVec 32) : Nat :=
  let c0_i32_762 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_761 : BitVec 32 := 16#32
  let v763 : BitVec 32 := Scalar.muli v2 c16_i32_761
  let v764 : BitVec 32 := Scalar.addi c0_i32_762 v763
  let c4_i32_763 : BitVec 32 := 4#32
  let v765 : BitVec 32 := Scalar.muli v10 c4_i32_763
  let v766 : BitVec 32 := Scalar.addi v764 v765
  let c1_i32_764 : BitVec 32 := 1#32
  let v767 : BitVec 32 := Scalar.muli v11 c1_i32_764
  let v768 : BitVec 32 := Scalar.addi v766 v767
  v768.toNat

def k1_chk2 (d0 : Dev nD) (v10 : BitVec 32) (v11 : BitVec 32) : Prop :=
  ((k1_dev3 d0 v10 v11) < nD) ∧
  ((k1_dev5 d0 v10 v11) < nD) ∧
  ((k1_dev8 d0 v10 v11) < nD) ∧
  ((k1_dev9 d0 v10 v11) < nD) ∧
  ((k1_dev12 d0 v10 v11) < nD) ∧
  ((k1_dev13 d0 v10 v11) < nD) ∧
  ((k1_dev16 d0 v10 v11) < nD) ∧
  ((k1_dev17 d0 v10 v11) < nD) ∧
  ((k1_dev20 d0 v10 v11) < nD) ∧
  ((k1_dev21 d0 v10 v11) < nD) ∧
  ((k1_dev24 d0 v10 v11) < nD) ∧
  ((k1_dev25 d0 v10 v11) < nD) ∧
  ((k1_dev28 d0 v10 v11) < nD) ∧
  ((k1_dev29 d0 v10 v11) < nD) ∧
  ((k1_dev32 d0 v10 v11) < nD) ∧
  ((k1_dev33 d0 v10 v11) < nD)
theorem k1_dev3_lt : ∀ (d0 : Dev nD) (v10 : BitVec 32) (v11 : BitVec 32) (k1_hw2 : k1_chk2 d0 v10 v11), (k1_dev3 d0 v10 v11) < nD := fun d0 v10 v11 k1_hw2 => k1_hw2.1
theorem k1_dev5_lt : ∀ (d0 : Dev nD) (v10 : BitVec 32) (v11 : BitVec 32) (k1_hw2 : k1_chk2 d0 v10 v11), (k1_dev5 d0 v10 v11) < nD := fun d0 v10 v11 k1_hw2 => k1_hw2.2.1
theorem k1_dev8_lt : ∀ (d0 : Dev nD) (v10 : BitVec 32) (v11 : BitVec 32) (k1_hw2 : k1_chk2 d0 v10 v11), (k1_dev8 d0 v10 v11) < nD := fun d0 v10 v11 k1_hw2 => k1_hw2.2.2.1
theorem k1_dev9_lt : ∀ (d0 : Dev nD) (v10 : BitVec 32) (v11 : BitVec 32) (k1_hw2 : k1_chk2 d0 v10 v11), (k1_dev9 d0 v10 v11) < nD := fun d0 v10 v11 k1_hw2 => k1_hw2.2.2.2.1
theorem k1_dev12_lt : ∀ (d0 : Dev nD) (v10 : BitVec 32) (v11 : BitVec 32) (k1_hw2 : k1_chk2 d0 v10 v11), (k1_dev12 d0 v10 v11) < nD := fun d0 v10 v11 k1_hw2 => k1_hw2.2.2.2.2.1
theorem k1_dev13_lt : ∀ (d0 : Dev nD) (v10 : BitVec 32) (v11 : BitVec 32) (k1_hw2 : k1_chk2 d0 v10 v11), (k1_dev13 d0 v10 v11) < nD := fun d0 v10 v11 k1_hw2 => k1_hw2.2.2.2.2.2.1
theorem k1_dev16_lt : ∀ (d0 : Dev nD) (v10 : BitVec 32) (v11 : BitVec 32) (k1_hw2 : k1_chk2 d0 v10 v11), (k1_dev16 d0 v10 v11) < nD := fun d0 v10 v11 k1_hw2 => k1_hw2.2.2.2.2.2.2.1
theorem k1_dev17_lt : ∀ (d0 : Dev nD) (v10 : BitVec 32) (v11 : BitVec 32) (k1_hw2 : k1_chk2 d0 v10 v11), (k1_dev17 d0 v10 v11) < nD := fun d0 v10 v11 k1_hw2 => k1_hw2.2.2.2.2.2.2.2.1
theorem k1_dev20_lt : ∀ (d0 : Dev nD) (v10 : BitVec 32) (v11 : BitVec 32) (k1_hw2 : k1_chk2 d0 v10 v11), (k1_dev20 d0 v10 v11) < nD := fun d0 v10 v11 k1_hw2 => k1_hw2.2.2.2.2.2.2.2.2.1
theorem k1_dev21_lt : ∀ (d0 : Dev nD) (v10 : BitVec 32) (v11 : BitVec 32) (k1_hw2 : k1_chk2 d0 v10 v11), (k1_dev21 d0 v10 v11) < nD := fun d0 v10 v11 k1_hw2 => k1_hw2.2.2.2.2.2.2.2.2.2.1
theorem k1_dev24_lt : ∀ (d0 : Dev nD) (v10 : BitVec 32) (v11 : BitVec 32) (k1_hw2 : k1_chk2 d0 v10 v11), (k1_dev24 d0 v10 v11) < nD := fun d0 v10 v11 k1_hw2 => k1_hw2.2.2.2.2.2.2.2.2.2.2.1
theorem k1_dev25_lt : ∀ (d0 : Dev nD) (v10 : BitVec 32) (v11 : BitVec 32) (k1_hw2 : k1_chk2 d0 v10 v11), (k1_dev25 d0 v10 v11) < nD := fun d0 v10 v11 k1_hw2 => k1_hw2.2.2.2.2.2.2.2.2.2.2.2.1
theorem k1_dev28_lt : ∀ (d0 : Dev nD) (v10 : BitVec 32) (v11 : BitVec 32) (k1_hw2 : k1_chk2 d0 v10 v11), (k1_dev28 d0 v10 v11) < nD := fun d0 v10 v11 k1_hw2 => k1_hw2.2.2.2.2.2.2.2.2.2.2.2.2.1
theorem k1_dev29_lt : ∀ (d0 : Dev nD) (v10 : BitVec 32) (v11 : BitVec 32) (k1_hw2 : k1_chk2 d0 v10 v11), (k1_dev29 d0 v10 v11) < nD := fun d0 v10 v11 k1_hw2 => k1_hw2.2.2.2.2.2.2.2.2.2.2.2.2.2.1
theorem k1_dev32_lt : ∀ (d0 : Dev nD) (v10 : BitVec 32) (v11 : BitVec 32) (k1_hw2 : k1_chk2 d0 v10 v11), (k1_dev32 d0 v10 v11) < nD := fun d0 v10 v11 k1_hw2 => k1_hw2.2.2.2.2.2.2.2.2.2.2.2.2.2.2.1
theorem k1_dev33_lt : ∀ (d0 : Dev nD) (v10 : BitVec 32) (v11 : BitVec 32) (k1_hw2 : k1_chk2 d0 v10 v11), (k1_dev33 d0 v10 v11) < nD := fun d0 v10 v11 k1_hw2 => k1_hw2.2.2.2.2.2.2.2.2.2.2.2.2.2.2.2

def k1_dev34 (d0 : Dev nD) (v12 : BitVec 32) (v13 : BitVec 32) : Nat :=
  let c0_i32_776 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_775 : BitVec 32 := 16#32
  let v777 : BitVec 32 := Scalar.muli v2 c16_i32_775
  let v778 : BitVec 32 := Scalar.addi c0_i32_776 v777
  let c4_i32_777 : BitVec 32 := 4#32
  let v779 : BitVec 32 := Scalar.muli v12 c4_i32_777
  let v780 : BitVec 32 := Scalar.addi v778 v779
  let c1_i32_778 : BitVec 32 := 1#32
  let v781 : BitVec 32 := Scalar.muli v13 c1_i32_778
  let v782 : BitVec 32 := Scalar.addi v780 v781
  v782.toNat

def k1_chk1 (d0 : Dev nD) (v12 : BitVec 32) (v13 : BitVec 32) : Prop :=
  ((k1_dev2 d0 v12 v13) < nD) ∧
  ((k1_dev6 d0 v12 v13) < nD) ∧
  ((k1_dev7 d0 v12 v13) < nD) ∧
  ((k1_dev10 d0 v12 v13) < nD) ∧
  ((k1_dev11 d0 v12 v13) < nD) ∧
  ((k1_dev14 d0 v12 v13) < nD) ∧
  ((k1_dev15 d0 v12 v13) < nD) ∧
  ((k1_dev18 d0 v12 v13) < nD) ∧
  ((k1_dev19 d0 v12 v13) < nD) ∧
  ((k1_dev22 d0 v12 v13) < nD) ∧
  ((k1_dev23 d0 v12 v13) < nD) ∧
  ((k1_dev26 d0 v12 v13) < nD) ∧
  ((k1_dev27 d0 v12 v13) < nD) ∧
  ((k1_dev30 d0 v12 v13) < nD) ∧
  ((k1_dev31 d0 v12 v13) < nD) ∧
  ((k1_dev34 d0 v12 v13) < nD)
theorem k1_dev2_lt : ∀ (d0 : Dev nD) (v12 : BitVec 32) (v13 : BitVec 32) (k1_hw1 : k1_chk1 d0 v12 v13), (k1_dev2 d0 v12 v13) < nD := fun d0 v12 v13 k1_hw1 => k1_hw1.1
theorem k1_dev6_lt : ∀ (d0 : Dev nD) (v12 : BitVec 32) (v13 : BitVec 32) (k1_hw1 : k1_chk1 d0 v12 v13), (k1_dev6 d0 v12 v13) < nD := fun d0 v12 v13 k1_hw1 => k1_hw1.2.1
theorem k1_dev7_lt : ∀ (d0 : Dev nD) (v12 : BitVec 32) (v13 : BitVec 32) (k1_hw1 : k1_chk1 d0 v12 v13), (k1_dev7 d0 v12 v13) < nD := fun d0 v12 v13 k1_hw1 => k1_hw1.2.2.1
theorem k1_dev10_lt : ∀ (d0 : Dev nD) (v12 : BitVec 32) (v13 : BitVec 32) (k1_hw1 : k1_chk1 d0 v12 v13), (k1_dev10 d0 v12 v13) < nD := fun d0 v12 v13 k1_hw1 => k1_hw1.2.2.2.1
theorem k1_dev11_lt : ∀ (d0 : Dev nD) (v12 : BitVec 32) (v13 : BitVec 32) (k1_hw1 : k1_chk1 d0 v12 v13), (k1_dev11 d0 v12 v13) < nD := fun d0 v12 v13 k1_hw1 => k1_hw1.2.2.2.2.1
theorem k1_dev14_lt : ∀ (d0 : Dev nD) (v12 : BitVec 32) (v13 : BitVec 32) (k1_hw1 : k1_chk1 d0 v12 v13), (k1_dev14 d0 v12 v13) < nD := fun d0 v12 v13 k1_hw1 => k1_hw1.2.2.2.2.2.1
theorem k1_dev15_lt : ∀ (d0 : Dev nD) (v12 : BitVec 32) (v13 : BitVec 32) (k1_hw1 : k1_chk1 d0 v12 v13), (k1_dev15 d0 v12 v13) < nD := fun d0 v12 v13 k1_hw1 => k1_hw1.2.2.2.2.2.2.1
theorem k1_dev18_lt : ∀ (d0 : Dev nD) (v12 : BitVec 32) (v13 : BitVec 32) (k1_hw1 : k1_chk1 d0 v12 v13), (k1_dev18 d0 v12 v13) < nD := fun d0 v12 v13 k1_hw1 => k1_hw1.2.2.2.2.2.2.2.1
theorem k1_dev19_lt : ∀ (d0 : Dev nD) (v12 : BitVec 32) (v13 : BitVec 32) (k1_hw1 : k1_chk1 d0 v12 v13), (k1_dev19 d0 v12 v13) < nD := fun d0 v12 v13 k1_hw1 => k1_hw1.2.2.2.2.2.2.2.2.1
theorem k1_dev22_lt : ∀ (d0 : Dev nD) (v12 : BitVec 32) (v13 : BitVec 32) (k1_hw1 : k1_chk1 d0 v12 v13), (k1_dev22 d0 v12 v13) < nD := fun d0 v12 v13 k1_hw1 => k1_hw1.2.2.2.2.2.2.2.2.2.1
theorem k1_dev23_lt : ∀ (d0 : Dev nD) (v12 : BitVec 32) (v13 : BitVec 32) (k1_hw1 : k1_chk1 d0 v12 v13), (k1_dev23 d0 v12 v13) < nD := fun d0 v12 v13 k1_hw1 => k1_hw1.2.2.2.2.2.2.2.2.2.2.1
theorem k1_dev26_lt : ∀ (d0 : Dev nD) (v12 : BitVec 32) (v13 : BitVec 32) (k1_hw1 : k1_chk1 d0 v12 v13), (k1_dev26 d0 v12 v13) < nD := fun d0 v12 v13 k1_hw1 => k1_hw1.2.2.2.2.2.2.2.2.2.2.2.1
theorem k1_dev27_lt : ∀ (d0 : Dev nD) (v12 : BitVec 32) (v13 : BitVec 32) (k1_hw1 : k1_chk1 d0 v12 v13), (k1_dev27 d0 v12 v13) < nD := fun d0 v12 v13 k1_hw1 => k1_hw1.2.2.2.2.2.2.2.2.2.2.2.2.1
theorem k1_dev30_lt : ∀ (d0 : Dev nD) (v12 : BitVec 32) (v13 : BitVec 32) (k1_hw1 : k1_chk1 d0 v12 v13), (k1_dev30 d0 v12 v13) < nD := fun d0 v12 v13 k1_hw1 => k1_hw1.2.2.2.2.2.2.2.2.2.2.2.2.2.1
theorem k1_dev31_lt : ∀ (d0 : Dev nD) (v12 : BitVec 32) (v13 : BitVec 32) (k1_hw1 : k1_chk1 d0 v12 v13), (k1_dev31 d0 v12 v13) < nD := fun d0 v12 v13 k1_hw1 => k1_hw1.2.2.2.2.2.2.2.2.2.2.2.2.2.2.1
theorem k1_dev34_lt : ∀ (d0 : Dev nD) (v12 : BitVec 32) (v13 : BitVec 32) (k1_hw1 : k1_chk1 d0 v12 v13), (k1_dev34 d0 v12 v13) < nD := fun d0 v12 v13 k1_hw1 => k1_hw1.2.2.2.2.2.2.2.2.2.2.2.2.2.2.2

def k1_off30 (v720 : BitVec 32) : Fin 2 → Nat :=
  let c0_i32_805 : BitVec 32 := 0#32
  let c512_i32_712 : BitVec 32 := 512#32
  let v721 : BitVec 32 := Scalar.muli v720 c512_i32_712
  ![0, v721.toNat]

def k1_chk15 (v720 : BitVec 32) : Prop :=
  (∀ a, (k1_off27 v720) a + S2048x512.size a ≤ S2048x8192.size a) ∧
  (∀ a, (k1_off30 v720) a + S2048x512.size a ≤ S2048x8192.size a)
theorem k1_off27_inb : ∀ (v720 : BitVec 32) (k1_hw15 : k1_chk15 v720), ∀ a, (k1_off27 v720) a + S2048x512.size a ≤ S2048x8192.size a := fun v720 k1_hw15 => k1_hw15.1
theorem k1_off30_inb : ∀ (v720 : BitVec 32) (k1_hw15 : k1_chk15 v720), ∀ a, (k1_off30 v720) a + S2048x512.size a ≤ S2048x8192.size a := fun v720 k1_hw15 => k1_hw15.2

def k1_off31 (v814 : BitVec 32) : Fin 2 → Nat :=
  let c0_i32_811 : BitVec 32 := 0#32
  let c512_i32_808 : BitVec 32 := 512#32
  let v815 : BitVec 32 := Scalar.muli v814 c512_i32_808
  ![0, v815.toNat]

def k1_off32 (v756 : BitVec 32) : Fin 2 → Nat :=
  let c0_i32_837 : BitVec 32 := 0#32
  let c512_i32_749 : BitVec 32 := 512#32
  let v757 : BitVec 32 := Scalar.muli v756 c512_i32_749
  ![0, v757.toNat]

def k1_chk16 (v756 : BitVec 32) : Prop :=
  (∀ a, (k1_off29 v756) a + S2048x512.size a ≤ S2048x8192.size a) ∧
  (∀ a, (k1_off32 v756) a + S2048x512.size a ≤ S2048x8192.size a)
theorem k1_off29_inb : ∀ (v756 : BitVec 32) (k1_hw16 : k1_chk16 v756), ∀ a, (k1_off29 v756) a + S2048x512.size a ≤ S2048x8192.size a := fun v756 k1_hw16 => k1_hw16.1
theorem k1_off32_inb : ∀ (v756 : BitVec 32) (k1_hw16 : k1_chk16 v756), ∀ a, (k1_off32 v756) a + S2048x512.size a ≤ S2048x8192.size a := fun v756 k1_hw16 => k1_hw16.2

def k1_off33 (v844 : BitVec 32) : Fin 2 → Nat :=
  let c1024_i32_843 : BitVec 32 := 1024#32
  let c512_i32_840 : BitVec 32 := 512#32
  let v845 : BitVec 32 := Scalar.muli v844 c512_i32_840
  ![1024, v845.toNat]

def k1_chk18 (v844 : BitVec 32) : Prop :=
  (∀ a, (k1_off33 v844) a + S1024x512.size a ≤ S2048x8192.size a)
theorem k1_off33_inb : ∀ (v844 : BitVec 32) (k1_hw18 : k1_chk18 v844), ∀ a, (k1_off33 v844) a + S1024x512.size a ≤ S2048x8192.size a := fun v844 k1_hw18 => k1_hw18

def k1_off34 (v814 : BitVec 32) : Fin 2 → Nat :=
  let c0_i32_848 : BitVec 32 := 0#32
  let c512_i32_808 : BitVec 32 := 512#32
  let v815 : BitVec 32 := Scalar.muli v814 c512_i32_808
  ![0, v815.toNat]

def k1_chk17 (v814 : BitVec 32) : Prop :=
  (∀ a, (k1_off31 v814) a + S1024x512.size a ≤ S2048x8192.size a) ∧
  (∀ a, (k1_off34 v814) a + S1024x512.size a ≤ S2048x8192.size a)
theorem k1_off31_inb : ∀ (v814 : BitVec 32) (k1_hw17 : k1_chk17 v814), ∀ a, (k1_off31 v814) a + S1024x512.size a ≤ S2048x8192.size a := fun v814 k1_hw17 => k1_hw17.1
theorem k1_off34_inb : ∀ (v814 : BitVec 32) (k1_hw17 : k1_chk17 v814), ∀ a, (k1_off34 v814) a + S1024x512.size a ≤ S2048x8192.size a := fun v814 k1_hw17 => k1_hw17.2

abbrev stage1_0 : Fin 1 → Memref sig .tc .smem S20 .i32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
-- ==== ReferenceIdeal.lean ====
abbrev S8192x4096 : Shape := ⟨2, ![8192, 4096]⟩
abbrev S8192x8192 : Shape := ⟨2, ![8192, 8192]⟩
abbrev S4096x8192 : Shape := ⟨2, ![4096, 8192]⟩

abbrev nBuf : Space → Nat
  | .hbm => 4
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S8192x8192, .f32⟩
  | .hbm, ⟨2, _⟩ => ⟨S4096x8192, .f32⟩
  | .hbm, ⟨3, _⟩ => ⟨S4096x8192, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Proof.Prog.lean ====
/-
  The communication kernel as a sequence of hops.

  The printed body of the second call is one long sequence of copies, waits and signals, cut into
  parts of equal length.  Here the same sequence is written as it is meant: a start (the exchange
  across `x` and the sum of the two halves), eight hops around the ring of the sixteen `(y, z)`
  positions, each once in each direction, and an end that awaits the last two stores.
-/
module

public import proofs.«01_k».proof.Proof.Gen.KernelIdeal.Skeleton

@[expose] public section

noncomputable section

namespace Cert.KernelIdeal.Ring

open Idealize.ShloMosaic Idealize.SL.Sem Cert.KernelIdeal Cert.KernelIdeal.Gen

variable {F : FTy → Type} [FloatOps F]

/-- Programs of a tensor core of this module. -/
abbrev TC (F : FTy → Type) := Prog (TpuEff nD τ sig (Elt F) Λ₀ .tc)

theorem slot_inb (i : Fin 2) : ∀ a, (![i.val, 0, 0] : Fin 3 → Nat) a + S1x2048x512.size a ≤ S2x2048x512.size a := by
  revert i; decide

theorem half_inb (i r : Fin 2) : ∀ a, (![i.val, 1024 * r.val, 0] : Fin 3 → Nat) a + S1x1024x512.size a ≤ S2x2048x512.size a := by
  revert i r; decide

theorem sem_inb (i : Fin 2) : ∀ a, (![i.val] : Fin 1 → Nat) a + S1.size a ≤ S2.size a := by
  revert i; decide

theorem word_inb (n : Fin 20) : ∀ a, (![n.val] : Fin 1 → Nat) a + S1.size a ≤ S20.size a := by
  revert n; decide

/-- Slot `i` of a two-slot buffer. -/
abbrev slot (b : Memref sig .tc .vmem S2x2048x512 .f32) (i : Fin 2) : Memref sig .tc .vmem S2048x512 .f32 :=
  (b.slice (Rect.unit (s := S2x2048x512) ![i.val, 0, 0] S1x2048x512.size (slot_inb i)) (fun _ => rfl)).squeeze S2048x512
    squeezes_S1x2048x512_S2048x512

/-- Half `r` (upper, lower) of slot `i` of a two-slot buffer. -/
abbrev half (b : Memref sig .tc .vmem S2x2048x512 .f32) (r i : Fin 2) : Memref sig .tc .vmem S1024x512 .f32 :=
  (b.slice (Rect.unit (s := S2x2048x512) ![i.val, 1024 * r.val, 0] S1x1024x512.size (half_inb i r)) (fun _ => rfl)).squeeze
    S1024x512 squeezes_S1x1024x512_S1024x512

/-- Semaphore `i` of a pair. -/
abbrev one (a : DmaSems sig S2) (i : Fin 2) : DmaSems sig S_ :=
  (a.slice (Rect.unit (s := S2) ![i.val] S1.size (sem_inb i))).squeeze S_ squeezes_S1_S_

/-- The block of columns of the result named by the word `v`. -/
abbrev block (o : Memref sig .tc .hbm S2048x8192 .f32) (v : BitVec 32) (h : k1_chk3 v) : Memref sig .tc .hbm S2048x512 .f32 :=
  o.slice (Rect.unit (s := S2048x8192) (k1_off4 v) S2048x512.size h.1) (fun _ => rfl)

/-- The upper half of that block. -/
abbrev blockT (o : Memref sig .tc .hbm S2048x8192 .f32) (v : BitVec 32) (h : k1_chk17 v) : Memref sig .tc .hbm S1024x512 .f32 :=
  o.slice (Rect.unit (s := S2048x8192) (k1_off31 v) S1024x512.size (k1_off31_inb v h)) (fun _ => rfl)

/-- The lower half of that block. -/
abbrev blockB (o : Memref sig .tc .hbm S2048x8192 .f32) (v : BitVec 32) (h : k1_chk18 v) : Memref sig .tc .hbm S1024x512 .f32 :=
  o.slice (Rect.unit (s := S2048x8192) (k1_off33 v) S1024x512.size (k1_off33_inb v h)) (fun _ => rfl)

/-- Send slot `i` to slot `j` of device `dst`. -/
def send (b : Memref sig .tc .vmem S2x2048x512 .f32) (ss rs : DmaSems sig S2) (dst : Dev nD) (i j : Fin 2) : TC F PUnit :=
  Prog.lift (.enqueueDma (slot b i) (.remote (Dev.tc dst) (slot b j) (.dma (one ss i).sem)) (.dma (one rs j).sem)
    ((View.wordExact_bits rfl).reshape _ _) ((View.wordExact_bits rfl).reshape _ _) ⟨⟨rfl, Or.inl rfl⟩, trivial⟩)

/-- Send half `r` of slot `i` to that half of slot `j` of device `dst`. -/
def sendH (b : Memref sig .tc .vmem S2x2048x512 .f32) (r : Fin 2) (ss rs : DmaSems sig S2) (dst : Dev nD) (i j : Fin 2) : TC F PUnit :=
  Prog.lift (.enqueueDma (half b r i) (.remote (Dev.tc dst) (half b r j) (.dma (one ss i).sem)) (.dma (one rs j).sem)
    ((View.wordExact_bits rfl).reshape _ _) ((View.wordExact_bits rfl).reshape _ _) ⟨⟨rfl, Or.inl rfl⟩, trivial⟩)

/-- Await that a slot sent is read. -/
def sentW (b : Memref sig .tc .vmem S2x2048x512 .f32) (ss : DmaSems sig S2) (i j : Fin 2) : TC F PUnit :=
  Prog.lift (.waitDma2 (one ss i).sem (slot b j) (slot b i) ((View.wordExact_bits rfl).reshape _ _) ((View.wordExact_bits rfl).reshape _ _))

/-- Await that a slot is received. -/
def rcvdW (b : Memref sig .tc .vmem S2x2048x512 .f32) (rs : DmaSems sig S2) (i j : Fin 2) : TC F PUnit :=
  Prog.lift (.waitDma2 (one rs j).sem (slot b i) (slot b j) ((View.wordExact_bits rfl).reshape _ _) ((View.wordExact_bits rfl).reshape _ _))

/-- Await that a half slot sent is read. -/
def sentHW (b : Memref sig .tc .vmem S2x2048x512 .f32) (r : Fin 2) (ss : DmaSems sig S2) (i j : Fin 2) : TC F PUnit :=
  Prog.lift (.waitDma2 (one ss i).sem (half b r j) (half b r i) ((View.wordExact_bits rfl).reshape _ _) ((View.wordExact_bits rfl).reshape _ _))

/-- Await that a half slot is received. -/
def rcvdHW (b : Memref sig .tc .vmem S2x2048x512 .f32) (r : Fin 2) (rs : DmaSems sig S2) (i j : Fin 2) : TC F PUnit :=
  Prog.lift (.waitDma2 (one rs j).sem (half b r i) (half b r j) ((View.wordExact_bits rfl).reshape _ _) ((View.wordExact_bits rfl).reshape _ _))

/-- Store slot `j` to the block of columns `v` of the result. -/
def store (b : Memref sig .tc .vmem S2x2048x512 .f32) (o : Memref sig .tc .hbm S2048x8192 .f32) (st : DmaSems sig S_) (j : Fin 2)
    (v : {v : BitVec 32 // k1_chk3 v}) : TC F PUnit :=
  Prog.lift (.enqueueDma (slot b j) (.here (block o v.1 v.2)) (.dma st.sem) ((View.wordExact_bits rfl).reshape _ _) (View.wordExact_bits rfl)
    ⟨Or.inl rfl, trivial⟩)

/-- Await such a store. -/
def storeW (b : Memref sig .tc .vmem S2x2048x512 .f32) (o : Memref sig .tc .hbm S2048x8192 .f32) (st : DmaSems sig S_) (j : Fin 2)
    (v : {v : BitVec 32 // k1_chk3 v}) : TC F PUnit :=
  Prog.lift (.waitDma2 st.sem (slot b j) (block o v.1 v.2) ((View.wordExact_bits rfl).reshape _ _) (View.wordExact_bits rfl))

/-- Read word `n` of the schedule, the number of a block of columns. -/
def readBlock (s : Memref sig .tc .smem S20 .i32) (n : Fin 20) : TC F {v : BitVec 32 // k1_chk3 v} := do
  let v : Elt F .i32 ← smemLoad s (Rect.unit (s := S20) ![n.val] S1.size (word_inb n)) numel1_S1 rfl
  have h : k1_chk3 v := (← Prog.lift (TpuEff.assume (k1_chk3 v) (k1_chk3.dec v))).down
  pure ⟨v, h⟩

section Body

variable (arg0 : Memref sig .tc .smem S20 .i32) (harg0 : arg0.IsWhole) (arg1 : Memref sig .tc .hbm S4096x512 .f32) (harg1 : arg1.IsWhole)
  (arg2 : Memref sig .tc .hbm S2048x8192 .f32) (harg2 : arg2.IsWhole) (arg3 : Memref sig .tc .vmem S2048x512 .f32) (harg3 : arg3.IsWhole)
  (arg4 : Memref sig .tc .vmem S2048x512 .f32) (harg4 : arg4.IsWhole) (arg5 : Memref sig .tc .vmem S2x2048x512 .f32) (harg5 : arg5.IsWhole)
  (arg6 : Memref sig .tc .vmem S2x2048x512 .f32) (harg6 : arg6.IsWhole) (arg7 arg8 arg9 arg10 : DmaSems sig S2)
  (arg11 arg12 arg13 arg14 : DmaSems sig S_) (arg15 arg16 : DmaSems sig S2) (arg17 arg18 : Sems sig S_)

/-- What the start reads of the schedule: the two neighbours' coordinates. -/
structure Nbrs (d0 : Dev nD) where
  v10 : BitVec 32
  v11 : BitVec 32
  hw2 : k1_chk2 d0 v10 v11
  v12 : BitVec 32
  v13 : BitVec 32
  hw1 : k1_chk1 d0 v12 v13

/-- The neighbour to the right. -/
abbrev Nbrs.R {d0 : Dev nD} (n : Nbrs d0) : Dev nD := ⟨k1_dev3 d0 n.v10 n.v11, k1_dev3_lt d0 n.v10 n.v11 n.hw2⟩
/-- The neighbour to the left. -/
abbrev Nbrs.L {d0 : Dev nD} (n : Nbrs d0) : Dev nD := ⟨k1_dev2 d0 n.v12 n.v13, k1_dev2_lt d0 n.v12 n.v13 n.hw1⟩

/-- Read the neighbours. -/
def readNbrs (d0 : Dev nD) : TC F (Nbrs d0) := do
  let v10 : Elt F .i32 ← smemLoad arg0 (Rect.unit (s := S20) ![0] S1.size inb_S20_S1_0) numel1_S1 rfl
  let v11 : Elt F .i32 ← smemLoad arg0 (Rect.unit (s := S20) ![1] S1.size inb_S20_S1_1) numel1_S1 rfl
  have hw2 : k1_chk2 d0 v10 v11 := (← Prog.lift (TpuEff.assume (k1_chk2 d0 v10 v11) (k1_chk2.dec d0 v10 v11))).down
  let v12 : Elt F .i32 ← smemLoad arg0 (Rect.unit (s := S20) ![2] S1.size inb_S20_S1_2) numel1_S1 rfl
  let v13 : Elt F .i32 ← smemLoad arg0 (Rect.unit (s := S20) ![3] S1.size inb_S20_S1_3) numel1_S1 rfl
  have hw1 : k1_chk1 d0 v12 v13 := (← Prog.lift (TpuEff.assume (k1_chk1 d0 v12 v13) (k1_chk1.dec d0 v12 v13))).down
  pure ⟨v10, v11, hw2, v12, v13, hw1⟩

/-- The device at the other `x`. -/
abbrev across (d0 : Dev nD) : Dev nD := ⟨k1_dev1 d0, k1_dev1_lt d0⟩

/-- Tell the three partners that this device has entered, and await all three. -/
def enter (d0 : Dev nD) (n : Nbrs d0) : TC F PUnit := do
  semSignalWord (across d0) (sig.barrier 0 rfl) 1#32
  semSignalWord n.L (sig.barrier 0 rfl) 1#32
  semSignalWord n.R (sig.barrier 0 rfl) 1#32
  semWaitWord (sig.barrier 0 rfl) 3#32

/-- The exchange across `x`, and the load of this device's own rows. -/
def exchange (d0 : Dev nD) : TC F PUnit := do
  Prog.lift (.enqueueDma (arg1.slice (Rect.unit (s := S4096x512) (k1_off1 d0) S2048x512.size (k1_off1_inb d0)) (fun _ => rfl))
    (.remote (Dev.tc (across d0)) arg4 (.dma arg11.sem)) (.dma arg12.sem) (View.wordExact_bits rfl) harg4.wordExact
    ⟨⟨rfl, Or.inl rfl⟩, trivial⟩)
  Prog.lift (.enqueueDma (arg1.slice (Rect.unit (s := S4096x512) (k1_off2 d0) S2048x512.size (k1_off2_inb d0)) (fun _ => rfl))
    (.here arg3) (.dma arg13.sem) (View.wordExact_bits rfl) harg3.wordExact ⟨Or.inl rfl, trivial⟩)
  Prog.lift (.waitDma2 arg13.sem (arg1.slice (Rect.unit (s := S4096x512) (k1_off2 d0) S2048x512.size (k1_off2_inb d0)) (fun _ => rfl))
    arg3 (View.wordExact_bits rfl) harg3.wordExact)
  Prog.lift (.waitDma2 arg11.sem arg4
    (arg1.slice (Rect.unit (s := S4096x512) (k1_off1 d0) S2048x512.size (k1_off1_inb d0)) (fun _ => rfl)) harg4.wordExact (View.wordExact_bits rfl))
  Prog.lift (.waitDma2 arg12.sem
    (arg1.slice (Rect.unit (s := S4096x512) (k1_off1 d0) S2048x512.size (k1_off1_inb d0)) (fun _ => rfl)) arg4 (View.wordExact_bits rfl) harg4.wordExact)

/-- The sum of the two, into slot 0 of both rings' buffers. -/
def seed : TC F PUnit := do
  let v55 : Vec F S2048x512 .f32 ← Prog.lift (.load arg3 (Rect.unit (s := S2048x512) ![0, 0] S2048x512.size inb_S2048x512_S2048x512_0_0).toLoadRect (View.loadsAt_vmem h_S2048x512))
  let v56 : Vec F S2048x512 .f32 ← Prog.lift (.load arg4 (Rect.unit (s := S2048x512) ![0, 0] S2048x512.size inb_S2048x512_S2048x512_0_0).toLoadRect (View.loadsAt_vmem h_S2048x512))
  let _v58 : Vec F S1x2048x512 .f32 ← Prog.lift (.load arg6 (Rect.unit (s := S2x2048x512) ![0, 0, 0] S1x2048x512.size inb_S2x2048x512_S1x2048x512_0_0_0).toLoadRect (View.loadsAt_vmem h_S1x2048x512))
  Prog.lift (.store arg6 (Rect.unit (s := S2x2048x512) ![0, 0, 0] S1x2048x512.size inb_S2x2048x512_S1x2048x512_0_0_0) (k1_pay2 (k1_pay1 v55 v56)) Finset.univ (View.stores_vmem_bits_univ h_S1x2048x512 rfl) (.inl rfl))
  let v61 : Vec F S1x2048x512 .f32 ← Prog.lift (.load arg6 (Rect.unit (s := S2x2048x512) ![0, 0, 0] S1x2048x512.size inb_S2x2048x512_S1x2048x512_0_0_0).toLoadRect (View.loadsAt_vmem h_S1x2048x512))
  let _v63 : Vec F S1x2048x512 .f32 ← Prog.lift (.load arg5 (Rect.unit (s := S2x2048x512) ![0, 0, 0] S1x2048x512.size inb_S2x2048x512_S1x2048x512_0_0_0).toLoadRect (View.loadsAt_vmem h_S1x2048x512))
  Prog.lift (.store arg5 (Rect.unit (s := S2x2048x512) ![0, 0, 0] S1x2048x512.size inb_S2x2048x512_S1x2048x512_0_0_0) (k1_pay3 v61) Finset.univ (View.stores_vmem_bits_univ h_S1x2048x512 rfl) (.inl rfl))

/-- This device's own block of columns of the result. -/
abbrev ownBlock (d0 : Dev nD) : Memref sig .tc .hbm S2048x512 .f32 :=
  arg2.slice (Rect.unit (s := S2048x8192) (k1_off3 d0) S2048x512.size (k1_off3_inb d0)) (fun _ => rfl)

/-- Start the store of the device's own block. -/
def ownStore (d0 : Dev nD) : TC F PUnit :=
  Prog.lift (.enqueueDma (slot arg6 0) (.here (ownBlock arg2 d0)) (.dma arg14.sem) ((View.wordExact_bits rfl).reshape _ _) (View.wordExact_bits rfl)
    ⟨Or.inl rfl, trivial⟩)

/-- Await it. -/
def ownStoreW (d0 : Dev nD) : TC F PUnit :=
  Prog.lift (.waitDma2 arg14.sem (slot arg6 0) (ownBlock arg2 d0) ((View.wordExact_bits rfl).reshape _ _) (View.wordExact_bits rfl))

/-- The first hop. -/
def hop0 (d0 : Dev nD) (n : Nbrs d0) : TC F ({v : BitVec 32 // k1_chk3 v} × {v : BitVec 32 // k1_chk3 v}) := do
  send arg6 arg7 arg8 n.R 0 1
  send arg5 arg9 arg10 n.L 0 1
  sentW arg6 arg7 0 1
  rcvdW arg6 arg8 0 1
  ownStoreW arg2 arg6 arg14 d0
  semSignalWord n.L arg17.sem 1#32
  let v ← readBlock arg0 4
  store arg6 arg2 (one arg15 0) 1 v
  sentW arg5 arg9 0 1
  rcvdW arg5 arg10 0 1
  semSignalWord n.R arg18.sem 1#32
  let w ← readBlock arg0 12
  store arg5 arg2 (one arg16 0) 1 w
  pure (v, w)

/-- A hop from slot `i` to slot `j`, whose blocks of columns are at words `a` and `b` of the schedule. -/
def hop (d0 : Dev nD) (n : Nbrs d0) (i j : Fin 2) (a b : Fin 20)
    (p : {v : BitVec 32 // k1_chk3 v} × {v : BitVec 32 // k1_chk3 v}) :
    TC F ({v : BitVec 32 // k1_chk3 v} × {v : BitVec 32 // k1_chk3 v}) := do
  semWaitWord arg17.sem 1#32
  send arg6 arg7 arg8 n.R i j
  semWaitWord arg18.sem 1#32
  send arg5 arg9 arg10 n.L i j
  sentW arg6 arg7 i j
  rcvdW arg6 arg8 i j
  storeW arg6 arg2 (one arg15 j) i p.1
  semSignalWord n.L arg17.sem 1#32
  let v ← readBlock arg0 a
  store arg6 arg2 (one arg15 i) j v
  sentW arg5 arg9 i j
  rcvdW arg5 arg10 i j
  storeW arg5 arg2 (one arg16 j) i p.2
  semSignalWord n.R arg18.sem 1#32
  let w ← readBlock arg0 b
  store arg5 arg2 (one arg16 i) j w
  pure (v, w)

/-- The last hop, of half slots: the upper half goes to the right, the lower half to the left. -/
def hop7 (d0 : Dev nD) (n : Nbrs d0) (p : {v : BitVec 32 // k1_chk3 v} × {v : BitVec 32 // k1_chk3 v}) : TC F PUnit := do
  semWaitWord arg17.sem 1#32
  sendH arg6 0 arg7 arg8 n.R 1 0
  semWaitWord arg18.sem 1#32
  sendH arg5 1 arg9 arg10 n.L 1 0
  sentHW arg6 0 arg7 1 0
  rcvdHW arg6 0 arg8 1 0
  storeW arg6 arg2 (one arg15 0) 1 p.1
  let v : Elt F .i32 ← smemLoad arg0 (Rect.unit (s := S20) ![11] S1.size inb_S20_S1_11) numel1_S1 rfl
  have hv : k1_chk17 v := (← Prog.lift (TpuEff.assume (k1_chk17 v) (k1_chk17.dec v))).down
  Prog.lift (.enqueueDma (half arg6 0 0) (.here (blockT arg2 v hv)) (.dma (one arg15 1).sem) ((View.wordExact_bits rfl).reshape _ _) (View.wordExact_bits rfl)
    ⟨Or.inl rfl, trivial⟩)
  sentHW arg5 1 arg9 1 0
  rcvdHW arg5 1 arg10 1 0
  storeW arg5 arg2 (one arg16 0) 1 p.2
  let w : Elt F .i32 ← smemLoad arg0 (Rect.unit (s := S20) ![19] S1.size inb_S20_S1_19) numel1_S1 rfl
  have hw : k1_chk18 w := (← Prog.lift (TpuEff.assume (k1_chk18 w) (k1_chk18.dec w))).down
  Prog.lift (.enqueueDma (half arg5 1 0) (.here (blockB arg2 w hw)) (.dma (one arg16 1).sem) ((View.wordExact_bits rfl).reshape _ _) (View.wordExact_bits rfl)
    ⟨Or.inl rfl, trivial⟩)
  Prog.lift (.waitDma2 (one arg15 1).sem (half arg6 0 0) (blockT arg2 v hv) ((View.wordExact_bits rfl).reshape _ _) (View.wordExact_bits rfl))
  Prog.lift (.waitDma2 (one arg16 1).sem (half arg5 1 0) (blockB arg2 w hw) ((View.wordExact_bits rfl).reshape _ _) (View.wordExact_bits rfl))

/-- The whole kernel. -/
def comm : TC F PUnit := do
  let d0 ← Prog.lift .deviceId
  let n ← readNbrs arg0 d0
  enter d0 n
  exchange arg1 arg3 harg3 arg4 harg4 arg11 arg12 arg13 d0
  seed arg3 arg4 arg5 arg6
  ownStore arg2 arg6 arg14 d0
  let p0 ← hop0 arg0 arg2 arg5 arg6 arg7 arg8 arg9 arg10 arg14 arg15 arg16 arg17 arg18 d0 n
  let p1 ← hop arg0 arg2 arg5 arg6 arg7 arg8 arg9 arg10 arg15 arg16 arg17 arg18 d0 n 1 0 5 13 p0
  let p2 ← hop arg0 arg2 arg5 arg6 arg7 arg8 arg9 arg10 arg15 arg16 arg17 arg18 d0 n 0 1 6 14 p1
  let p3 ← hop arg0 arg2 arg5 arg6 arg7 arg8 arg9 arg10 arg15 arg16 arg17 arg18 d0 n 1 0 7 15 p2
  let p4 ← hop arg0 arg2 arg5 arg6 arg7 arg8 arg9 arg10 arg15 arg16 arg17 arg18 d0 n 0 1 8 16 p3
  let p5 ← hop arg0 arg2 arg5 arg6 arg7 arg8 arg9 arg10 arg15 arg16 arg17 arg18 d0 n 1 0 9 17 p4
  let p6 ← hop arg0 arg2 arg5 arg6 arg7 arg8 arg9 arg10 arg15 arg16 arg17 arg18 d0 n 0 1 10 18 p5
  hop7 arg0 arg2 arg5 arg6 arg7 arg8 arg9 arg10 arg15 arg16 arg17 arg18 d0 n p6

set_option maxRecDepth 65536 in
set_option maxHeartbeats 4000000 in
/-- The printed kernel is that sequence. -/
theorem comm_eq :
    cc1__comm_body (F := F) arg0 harg0 arg1 harg1 arg2 harg2 arg3 harg3 arg4 harg4 arg5 harg5 arg6 harg6 arg7 arg8 arg9 arg10 arg11 arg12
      arg13 arg14 arg15 arg16 arg17 arg18
    = comm arg0 arg1 arg2 arg3 harg3 arg4 harg4 arg5 arg6 arg7 arg8 arg9 arg10 arg11 arg12 arg13 arg14 arg15 arg16 arg17 arg18 := rfl

end Body

end Cert.KernelIdeal.Ring

end
-- ==== Proof.Sched.lean ====
/-
  The protocol of the communication kernel.

  Every device keeps thirteen cells that others pay to or that its own copies pay to: the barrier, a
  credit cell for each direction of the ring, the two cells of the exchange across `x`, and for each
  direction and each slot the cell a copy pays when its source is read and the cell a copy pays when
  it has landed.  A cell's round is one use of it; the payload of a round is what the payer hands to
  the device that waits.  The contents named by the payloads are functions of the partial products
  `P` of all the devices.
-/
module

public import proofs.«01_k».proof.Proof.Prog
public import proofs.«01_k».proof.Proof.Gen.KernelIdeal.Launch
public import Idealize.ShloMosaic.Lib.Pipeline.Regions
public import Idealize.ShloMosaic.Lib.Pipeline.Kit
public import Idealize.ShloMosaic.Lib.Rounds
public import Idealize.ShloMosaic.Lib.Transfers
public import Idealize.ShloMosaic.Lib.Tactic
public import Idealize.ShloMosaic.Lib.Pipeline.RegionTalk
public import Mathlib.Algebra.BigOperators.Intervals

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

/-! ## The ring -/

/-- The `(y, z)` position after, and before, each position on the ring. -/
def after : Fin 16 → Fin 16 := ![1, 2, 3, 7, 0, 9, 5, 6, 4, 10, 11, 15, 8, 12, 13, 14]
def before : Fin 16 → Fin 16 := ![4, 0, 1, 2, 8, 6, 7, 3, 12, 5, 9, 10, 13, 14, 15, 11]

/-- A device's position. -/
abbrev rank (c : Dev nD) : Fin 16 := ⟨c.val % 16, Nat.mod_lt _ (by decide)⟩

/-- The device at a position, at the `x` of `c`. -/
def at16 (c : Dev nD) (r : Fin 16) : Dev nD := ⟨16 * (c.val / 16) + r.val, by
  have hc : c.val < 32 := c.isLt
  have hr := r.isLt
  show 16 * (c.val / 16) + r.val < 32
  omega⟩

/-- The next device in direction `d`: to the right for `0`, to the left for `1`. -/
def nx : Fin 2 → Dev nD → Dev nD
  | 0, c => at16 c (after (rank c))
  | 1, c => at16 c (before (rank c))

/-- The device before in direction `d`. -/
def pv : Fin 2 → Dev nD → Dev nD
  | 0, c => nx 1 c
  | 1, c => nx 0 c

theorem nx_pv : ∀ (d : Fin 2) (c : Dev nD), nx d (pv d c) = c := by decide
theorem pv_nx : ∀ (d : Fin 2) (c : Dev nD), pv d (nx d c) = c := by decide
theorem across_across : ∀ c : Dev nD, across (across c) = c := by decide

/-- The device `k` steps before in direction `d`. -/
def back (d : Fin 2) (k : ℕ) (c : Dev nD) : Dev nD := (pv d)^[k] c

/-! ## Buffers and semaphores by direction -/

/-- The two-slot buffer of a direction. -/
def bufM : Fin 2 → Memref sig .tc .vmem S2x2048x512 .f32
  | 0 => Memref.whole cc1_scratch3
  | 1 => Memref.whole cc1_scratch2
def sndM : Fin 2 → DmaSems sig S2
  | 0 => cc1_scratch4
  | 1 => cc1_scratch6
def rcvM : Fin 2 → DmaSems sig S2
  | 0 => cc1_scratch5
  | 1 => cc1_scratch7
def stM : Fin 2 → DmaSems sig S2
  | 0 => cc1_scratch12
  | 1 => cc1_scratch13
def crdM : Fin 2 → Sems sig S_
  | 0 => cc1_scratch14
  | 1 => cc1_scratch15
abbrev barS : Sem sig := sig.barrier 0 rfl
abbrev ownM : Memref sig .tc .vmem S2048x512 .f32 := Memref.whole cc1_scratch0
abbrev rxM : Memref sig .tc .vmem S2048x512 .f32 := Memref.whole cc1_scratch1
abbrev pM : Memref sig .tc .hbm S4096x512 .f32 := Memref.whole main_v16
abbrev outM : Memref sig .tc .hbm S2048x8192 .f32 := Memref.whole main_v68

/-- The rows of the partial product that the device across `x` keeps. -/
abbrev rowsX (c : Dev nD) : Memref sig .tc .hbm S2048x512 .f32 :=
  pM.slice (Rect.unit (s := S4096x512) (k1_off1 c) S2048x512.size (k1_off1_inb c)) (fun _ => rfl)
/-- The rows of it that the device itself keeps. -/
abbrev rowsO (c : Dev nD) : Memref sig .tc .hbm S2048x512 .f32 :=
  pM.slice (Rect.unit (s := S4096x512) (k1_off2 c) S2048x512.size (k1_off2_inb c)) (fun _ => rfl)

/-! ## The cells -/

/-- The kinds of cell. -/
inductive Kd where
  | bar
  | crd (d : Fin 2)
  | xs
  | xr
  | snd (d i : Fin 2)
  | rcv (d i : Fin 2)
  deriving DecidableEq

/-- The semaphore of a kind. -/
def semOf : Kd → SemLoc sig
  | .bar => .reg barS
  | .crd d => .reg (crdM d).sem
  | .xs => .dma cc1_scratch8.sem
  | .xr => .dma cc1_scratch9.sem
  | .snd d i => .dma (one (sndM d) i).sem
  | .rcv d i => .dma (one (rcvM d) i).sem

/-- All the kinds. -/
def kds : List Kd := [.bar, .crd 0, .crd 1, .xs, .xr, .snd 0 0, .snd 0 1, .snd 1 0, .snd 1 1, .rcv 0 0, .rcv 0 1, .rcv 1 0, .rcv 1 1]

theorem mem_kds : ∀ k : Kd, k ∈ kds
  | .bar => by decide
  | .crd d => by revert d; decide
  | .xs => by decide
  | .xr => by decide
  | .snd d i => by revert d i; decide
  | .rcv d i => by revert d i; decide

/-- The kind a semaphore serves, if any. -/
def kindOf (s : SemLoc sig) : Option Kd := kds.find? fun k => decide (semOf k = s)

theorem kindOf_all : ∀ k ∈ kds, kindOf (semOf k) = some k := by decide
theorem kindOf_semOf (k : Kd) : kindOf (semOf k) = some k := kindOf_all k (mem_kds k)
theorem semOf_injective : Function.Injective semOf := fun a b h => by
  have := kindOf_semOf a
  rw [h, kindOf_semOf] at this
  exact (Option.some.inj this).symm

/-- Device `c`'s cell of a kind. -/
abbrev cell (c : Dev nD) (k : Kd) : GSem nD τ sig := ((c : Thread nD τ), semOf k)

theorem cell_inj {c c' : Dev nD} {k k' : Kd} (h : cell c k = cell c' k') : c = c' ∧ k = k' :=
  ⟨Fin.ext (congrArg (fun g : GSem nD τ sig => g.1.1.val) h), semOf_injective (congrArg Prod.snd h)⟩

/-! ## The resource algebra -/

/-- The pipeline library's copy, the protocol's, and the local copies' counters. -/
abbrev UU : Type := UR sig nD τ × (URounds (GSem nD τ sig) (Fin 3) × Counters)
abbrev MM (F : FTy → Type) : Type := MT nD τ sig ℕ (Elt F) ℕ UU ℕ
abbrev EP : Emb (UR sig nD τ) (MM F) := embL
abbrev ER : Emb (URounds (GSem nD τ sig) (Fin 3)) (MM F) := (Emb.inl : Emb (URounds (GSem nD τ sig) (Fin 3)) (URounds (GSem nD τ sig) (Fin 3) × Counters)).trans embR
abbrev EC : UEmb Counters (MM F) := countersEmb

/-! ## What a buffer, or a part of it, holds -/

section Holds

variable {sp : Space} {s : Shape} {e : EltTy}

/-- Device `c` holds the elements under `M`, whatever they are. -/
def has (M : Memref sig .tc sp s e) (c : Dev nD) : sProp (MM F) :=
  iprop(∃ f : Buf (Elt F) (M.view.loc (c : Thread nD τ)), M.view.loc (c : Thread nD τ) ↦[M.view.set]{fullShare} f)

/-- Device `c` holds a share of the elements under `M`, and they are `v`. -/
def holds (M : Memref sig .tc sp s e) (c : Dev nD) (q : PosShare TreeShare) (v : s.Idx → Elt F e) : sProp (MM F) :=
  iprop(∃ f : Buf (Elt F) (M.view.loc (c : Thread nD τ)), ⌜M.view.read (Elt F) f = v⌝ ∗ M.view.loc (c : Thread nD τ) ↦[M.view.set]{q} f)

variable (M : Memref sig .tc sp s e) (c : Dev nD)

instance has_storable : BI.Storable (upEmb : UEmb _ (MM F)) (has M c : sProp (MM F)) := by unfold has; infer_instance
instance holds_storable (q : PosShare TreeShare) (v : s.Idx → Elt F e) : BI.Storable (upEmb : UEmb _ (MM F)) (holds M c q v : sProp (MM F)) := by
  unfold holds; infer_instance

/-- Two contents read alike under a view agree on its elements. -/
theorem agree_of_read {f g : M.view.ty.Contents (Elt F)} (h : M.view.read (Elt F) f = M.view.read (Elt F) g) : ∀ i ∈ M.view.set, f i = g i := by
  intro i hi
  obtain ⟨x, -, rfl⟩ := Finset.mem_map.mp hi
  exact (cast_bijective _).1 (congrFun h x)

theorem holds_intro (q : PosShare TreeShare) (f : Buf (Elt F) (M.view.loc (c : Thread nD τ))) :
    (M.view.loc (c : Thread nD τ) ↦[M.view.set]{q} f : sProp (MM F)) ⊢ holds M c q (M.view.read (Elt F) f) := by
  unfold holds
  iintro H; iexists f; isplitr; · ipureintro; rfl
  iexact H

theorem holds_elim (q : PosShare TreeShare) (g : Buf (Elt F) (M.view.loc (c : Thread nD τ))) :
    holds M c q (M.view.read (Elt F) g) ⊢ (M.view.loc (c : Thread nD τ) ↦[M.view.set]{q} g : sProp (MM F)) := by
  unfold holds
  iintro ⟨%f, %h, H⟩
  iapply (Entails.of_eq (pointsTo_congr (agree_of_read M h))) $$ H

theorem has_of_holds (v : s.Idx → Elt F e) : (holds M c fullShare v : sProp (MM F)) ⊢ has M c := by
  unfold holds has
  iintro ⟨%f, -, H⟩; iexists f; iexact H

theorem holds_split (v : s.Idx → Elt F e) : (holds M c fullShare v : sProp (MM F)) ⊢ iprop(holds M c fullShare.left v ∗ holds M c fullShare.right v) := by
  unfold holds
  iintro ⟨%f, %h, H⟩
  ihave H2 := (pointsTo_share (PosShare.mem_left_op_right fullShare)).1 $$ H
  icases H2 with ⟨Hl, Hr⟩
  isplitl [Hl]
  · iexists f; isplitr; · ipureintro; exact h
    iexact Hl
  · iexists f; isplitr; · ipureintro; exact h
    iexact Hr

theorem holds_join (v : s.Idx → Elt F e) : iprop(holds M c fullShare.left v ∗ holds M c fullShare.right v) ⊢ (holds M c fullShare v : sProp (MM F)) := by
  unfold holds
  iintro ⟨⟨%f, %h, Hl⟩, ⟨%g, %h', Hr⟩⟩
  ihave Hr := (Entails.of_eq (pointsTo_congr (agree_of_read M (h'.trans h.symm)))) $$ Hr
  iexists f; isplitr; · ipureintro; exact h
  iapply (pointsTo_share (PosShare.mem_left_op_right fullShare)).2
  isplitl [Hl] <;> iassumption

end Holds

/-! ## The contents -/

theorem halfR_inb (r : Fin 2) : ∀ a, (![1024 * r.val, 0] : Fin 2 → Nat) a + S1024x512.size a ≤ S2048x512.size a := by
  revert r; decide

/-- The upper (`0`) or lower (`1`) half of the rows of a slot. -/
abbrev halfR (r : Fin 2) : Rect S2048x512 := Rect.unit (s := S2048x512) ![1024 * r.val, 0] S1024x512.size (halfR_inb r)

/-- That half of what a slot holds. -/
def part (r : Fin 2) (v : S2048x512.Idx → Elt F .f32) : S1024x512.Idx → Elt F .f32 := fun i => v ((halfR r).emb i)

variable (P : Dev nD → Vec F S4096x512 .f32)

/-- What device `c` sums up: its own rows of its partial product, and those rows of its partner's. -/
def total (c : Dev nD) : S2048x512.Idx → Elt F .f32 :=
  k1_pay1 ((rowsO c).view.read (Elt F) (P c)) ((rowsX (across c)).view.read (Elt F) (P (across c)))

/-- What device `c` holds for direction `d` before hop `h`: the sum of the device `h` steps before it. -/
def Wv (d : Fin 2) (c : Dev nD) (h : ℕ) : S2048x512.Idx → Elt F .f32 := total P (back d h c)

theorem Wv_nx (d : Fin 2) (c : Dev nD) (h : ℕ) : Wv P d (nx d c) (h + 1) = Wv P d c h := by
  unfold Wv back
  rw [Function.iterate_succ_apply, pv_nx]

/-! ## The schedule -/

/-- The slot of a number. -/
def sl (k : ℕ) : Fin 2 := ⟨k % 2, Nat.mod_lt _ (by decide)⟩

/-- The credits of a copy: of the exchange, of a slot, of half a slot. -/
abbrev NX : ℕ := (rxM : Memref sig .tc .vmem S2048x512 .f32).view.dmaCredit
abbrev NS : ℕ := (slot (bufM 0) 0).view.dmaCredit
abbrev NH : ℕ := (half (bufM 0) 0 0).view.dmaCredit
theorem NX_pos : 0 < NX := View.dmaCredit_pos _ (by decide)
theorem NS_pos : 0 < NS := View.dmaCredit_pos _ (by decide)
theorem NH_pos : 0 < NH := View.dmaCredit_pos _ (by decide)

/-- The part of a slot that credit round `k` gives: all of it, and in the last round the half that the last hop fills. -/
def piece (d : Fin 2) (c : Dev nD) (k : ℕ) : sProp (MM F) :=
  if k = 6 then has (half (bufM d) d (sl k)) c else has (slot (bufM d) (sl k)) c

def kduties : Kd → ℕ → Finset (Fin 3)
  | .bar, r => if r = 0 then Finset.univ else ∅
  | .crd _, r => if r < 7 then {0} else ∅
  | .xs, r => if r = 0 then {0} else ∅
  | .xr, r => if r = 0 then {0} else ∅
  | .snd _ _, r => if r < 4 then {0} else ∅
  | .rcv _ _, r => if r < 4 then {0} else ∅

def kamount : Kd → ℕ → ℕ
  | .bar, _ => 1
  | .crd _, _ => 1
  | .xs, _ => NX
  | .xr, _ => NX
  | .snd _ i, r => if r = 3 ∧ i = 1 then NH else NS
  | .rcv _ j, r => if r = 3 ∧ j = 0 then NH else NS

/-- The payloads of device `c`'s cells. -/
def kpay (c : Dev nD) : Kd → ℕ → Fin 3 → sProp (MM F)
  | .bar, _, 0 => iprop(has rxM (across c) ∗ reached ER (cell (across c) .xr) 0)
  | .bar, _, 1 => iprop(has (slot (bufM 0) 1) (nx 0 c) ∗ reached ER (cell (nx 0 c) (.rcv 0 1)) 0)
  | .bar, _, 2 => iprop(has (slot (bufM 1) 1) (nx 1 c) ∗ reached ER (cell (nx 1 c) (.rcv 1 1)) 0)
  | .crd d, r, _ => iprop(piece d (nx d c) r ∗ reached ER (cell (nx d c) (.rcv d (sl r))) ((r + 1) / 2))
  | .xs, _, _ => holds (rowsX c) c fullShare.left ((rowsX c).view.read (Elt F) (P c))
  | .xr, _, _ => holds rxM c fullShare ((rowsX (across c)).view.read (Elt F) (P (across c)))
  | .snd d i, r, _ =>
      if r = 3 ∧ i = 1 then holds (half (bufM d) d 1) c fullShare.left (part d (Wv P d c 7))
      else holds (slot (bufM d) i) c fullShare.left (Wv P d c (2 * r + i.val))
  | .rcv d j, r, _ =>
      iprop((if r = 3 ∧ j = 0 then holds (half (bufM d) d 0) c fullShare (part d (Wv P d c 8))
        else holds (slot (bufM d) j) c fullShare (Wv P d c (2 * r + (1 - j.val) + 1)))
        ∗ reached ER (cell (pv d c) (.crd d)) (2 * r + (1 - j.val)))

instance piece_storable (d : Fin 2) (c : Dev nD) (k : ℕ) : BI.Storable (upEmb : UEmb _ (MM F)) (piece d c k : sProp (MM F)) := by
  unfold piece; split <;> infer_instance

instance kpay_storable (c : Dev nD) (k : Kd) (r : ℕ) (x : Fin 3) : BI.Storable (upEmb : UEmb _ (MM F)) (kpay P c k r x) := by
  rcases k with _ | d | _ | _ | ⟨d, i⟩ | ⟨d, j⟩
  · rcases x with ⟨_ | _ | _ | x, hx⟩
    · show BI.Storable upEmb iprop(has rxM (across c) ∗ reached ER (cell (across c) .xr) 0); infer_instance
    · show BI.Storable upEmb iprop(has (slot (bufM 0) 1) (nx 0 c) ∗ reached ER (cell (nx 0 c) (.rcv 0 1)) 0); infer_instance
    · show BI.Storable upEmb iprop(has (slot (bufM 1) 1) (nx 1 c) ∗ reached ER (cell (nx 1 c) (.rcv 1 1)) 0); infer_instance
    · omega
  · show BI.Storable upEmb iprop(piece d (nx d c) r ∗ reached ER (cell (nx d c) (.rcv d (sl r))) ((r + 1) / 2)); infer_instance
  · show BI.Storable upEmb (holds (rowsX c) c fullShare.left ((rowsX c).view.read (Elt F) (P c))); infer_instance
  · show BI.Storable upEmb (holds rxM c fullShare ((rowsX (across c)).view.read (Elt F) (P (across c)))); infer_instance
  · simp only [kpay]; split <;> infer_instance
  · simp only [kpay]; split <;> infer_instance

/-- The schedule: the duties of the cells of tensor cores that are of some kind. -/
def Rd : Rounds.Schedule (GSem nD τ sig) (Fin 3) (MM F) where
  duties g r := if g.1.2 = .tc then (match kindOf g.2 with | some k => kduties k r | none => ∅) else ∅
  unitless _ := False
  amount g r _ := match kindOf g.2 with | some k => kamount k r | none => 1
  payload g r x := match kindOf g.2 with | some k => kpay P g.1.1 k r x | none => iprop(emp)
  amount_pos g r x _ := by
    split
    · rename_i k _
      cases k <;> simp only [kamount] <;> first | decide | exact NX_pos | (split <;> first | exact NH_pos | exact NS_pos)
    · exact Nat.one_pos

instance Rd_payload_storable (g : GSem nD τ sig) (r : ℕ) (x : Fin 3) :
    BI.Storable (upEmb : UEmb _ (MM F)) ((Rd P).payload g r x) := by
  show BI.Storable upEmb (match kindOf g.2 with | some k => kpay P g.1.1 k r x | none => iprop(emp))
  split <;> infer_instance

section Facts

variable (c : Dev nD) (k : Kd) (r : ℕ) (x : Fin 3)

theorem Rd_duties : (Rd P).duties (cell c k) r = kduties k r := by
  show (if ((c : Thread nD τ)).2 = .tc then (match kindOf (semOf k) with | some k => kduties k r | none => ∅) else ∅) = _
  rw [kindOf_semOf]; rfl
theorem Rd_amount : (Rd P).amount (cell c k) r x = kamount k r := by
  show (match kindOf (semOf k) with | some k => kamount k r | none => 1) = _
  rw [kindOf_semOf]
theorem Rd_payload : (Rd P).payload (cell c k) r x = kpay P c k r x := by
  show (match kindOf (semOf k) with | some k => kpay P c k r x | none => iprop(emp)) = _
  rw [kindOf_semOf]

/-- A round of one duty expects that duty's amount. -/
theorem Rd_expect_one (h : kduties k r = {0}) : (Rd P).expect (cell c k) r = kamount k r := by
  unfold Schedule.expect Schedule.amountOf
  rw [Rd_duties, h, Finset.sum_singleton, Rd_amount]

theorem Rd_rest_one (h : kduties k r = {0}) :
    bigSep ((Rd P).duties (cell c k) r \ ∅) (fun x => (Rd P).payload (cell c k) r x) = kpay P c k r 0 := by
  rw [Finset.sdiff_empty, Rd_duties, h, bigSep_singleton, Rd_payload]

theorem Rd_expect_bar : (Rd P).expect (cell c .bar) 0 = 3 := by
  unfold Schedule.expect Schedule.amountOf
  rw [Rd_duties]
  simp only [Rd_amount, kduties, kamount]
  rfl

theorem Rd_rest_bar :
    bigSep ((Rd P).duties (cell c .bar) 0 \ ∅) (fun x => (Rd P).payload (cell c .bar) 0 x)
      = iprop(kpay P c .bar 0 0 ∗ kpay P c .bar 0 1 ∗ kpay P c .bar 0 2) := by
  rw [Finset.sdiff_empty, Rd_duties]
  simp only [Rd_payload]
  exact bigSep_univ_eq_bigSepL [(0 : Fin 3), (1 : Fin 3), (2 : Fin 3)] (by decide) (by decide) (fun x => kpay P c .bar 0 x)

/-- How many rounds a cell has. -/
def rounds : Kd → ℕ
  | .bar => 1
  | .crd _ => 7
  | .xs => 1
  | .xr => 1
  | .snd _ _ => 4
  | .rcv _ _ => 4

theorem Rd_later : ∀ r, rounds k ≤ r → (Rd P).duties (cell c k) r = ∅ := fun r hr => by
  rw [Rd_duties]
  cases k <;> simp only [rounds] at hr <;> simp only [kduties] <;> exact if_neg (by omega)

end Facts

/-! ## What is owed, and the levels -/

/-- The units of the copy of hop `k`. -/
def amt (k : ℕ) : ℕ := if k = 7 then NH else NS

/-- What device `c` owes for the hops from `h` on in direction `d`. -/
def rO (d : Fin 2) (c : Dev nD) (h : ℕ) : CellTallies nD τ sig ℕ :=
  ∑ k ∈ Finset.Ico h 8, tallyAt (cell (nx d c) (.rcv d (sl (k + 1)))) (3 * k + 3) (amt k)

/-- The credits it owes from round `h` on. -/
def cO (d : Fin 2) (c : Dev nD) (h : ℕ) : CellTallies nD τ sig ℕ :=
  ∑ k ∈ Finset.Ico h 7, tallyAt (cell (pv d c) (.crd d)) (3 * k + 4) 1

/-- Both directions. -/
def Ow (c : Dev nD) (a₀ b₀ a₁ b₁ : ℕ) : CellTallies nD τ sig ℕ := rO 0 c a₀ + cO 0 c b₀ + rO 1 c a₁ + cO 1 c b₁

theorem rO_step (d : Fin 2) (c : Dev nD) (h : ℕ) (hh : h < 8) :
    rO d c h = rO d c (h + 1) + tallyAt (cell (nx d c) (.rcv d (sl (h + 1)))) (3 * h + 3) (amt h) := by
  unfold rO; rw [Finset.sum_eq_sum_Ico_succ_bot hh, add_comm]
theorem cO_step (d : Fin 2) (c : Dev nD) (h : ℕ) (hh : h < 7) :
    cO d c h = cO d c (h + 1) + tallyAt (cell (pv d c) (.crd d)) (3 * h + 4) 1 := by
  unfold cO; rw [Finset.sum_eq_sum_Ico_succ_bot hh, add_comm]
theorem rO_end (d : Fin 2) (c : Dev nD) : rO d c 8 = 0 := by unfold rO; rw [Finset.Ico_self, Finset.sum_empty]
theorem cO_end (d : Fin 2) (c : Dev nD) : cO d c 7 = 0 := by unfold cO; rw [Finset.Ico_self, Finset.sum_empty]

/-- Every unit is waited for at an index below forty, and its level is its index. -/
def L (g : GSem nD τ sig) : Finset ℕ := if g.1.2 = .tc then Finset.range 40 else ∅
def lv (_ : GSem nD τ sig) (ι : ℕ) : ℕ := ι

theorem L_of_ne (g : GSem nD τ sig) (h : g.1.2 ≠ .tc) : L g = ∅ := if_neg h

/-- What is owed is owed at indices in `(b, 40)`, to tensor cores. -/
def Above (b : ℕ) (O : CellTallies nD τ sig ℕ) : Prop := ∀ g ι, 0 < O g ι → g.1.2 = .tc ∧ b < ι ∧ ι < 40

theorem above_zero (b : ℕ) : Above b 0 := fun g ι h => absurd h (by simp)
theorem above_add {b : ℕ} {O O' : CellTallies nD τ sig ℕ} (h : Above b O) (h' : Above b O') : Above b (O + O') := fun g ι hp => by
  rw [Pi.add_apply, Finsupp.add_apply] at hp
  rcases Nat.eq_zero_or_pos (O g ι) with h0 | h0
  · exact h' g ι (by omega)
  · exact h g ι h0
theorem above_tally {b : ℕ} (c : Dev nD) (k : Kd) (ι n : ℕ) (h : b < ι) (h' : ι < 40) : Above b (tallyAt (cell c k) ι n) := fun g ι' hp => by
  rw [tallyAt_apply] at hp
  split at hp
  · rename_i h2; obtain ⟨rfl, rfl⟩ := h2; exact ⟨rfl, h, h'⟩
  · exact absurd hp (Nat.lt_irrefl 0)
theorem above_sum {b : ℕ} {ι : Type} (s : Finset ι) (f : ι → CellTallies nD τ sig ℕ) (h : ∀ i ∈ s, Above b (f i)) : Above b (∑ i ∈ s, f i) := by
  classical
  induction s using Finset.induction_on with
  | empty => rw [Finset.sum_empty]; exact above_zero b
  | insert a s ha ih =>
    rw [Finset.sum_insert ha]
    exact above_add (h a (Finset.mem_insert_self _ _)) (ih fun i hi => h i (Finset.mem_insert_of_mem hi))
theorem above_rO {b : ℕ} (d : Fin 2) (c : Dev nD) (a : ℕ) (h : b < 3 * a + 3) : Above b (rO d c a) :=
  above_sum _ _ fun k hk => above_tally _ _ _ _ (by have := Finset.mem_Ico.mp hk; omega) (by have := Finset.mem_Ico.mp hk; omega)
theorem above_cO {b : ℕ} (d : Fin 2) (c : Dev nD) (a : ℕ) (h : b < 3 * a + 4) : Above b (cO d c a) :=
  above_sum _ _ fun k hk => above_tally _ _ _ _ (by have := Finset.mem_Ico.mp hk; omega) (by have := Finset.mem_Ico.mp hk; omega)
theorem above_Ow {b : ℕ} (c : Dev nD) (a₀ b₀ a₁ b₁ : ℕ) (h0 : b < 3 * a₀ + 3) (h1 : b < 3 * b₀ + 4) (h2 : b < 3 * a₁ + 3) (h3 : b < 3 * b₁ + 4) :
    Above b (Ow c a₀ b₀ a₁ b₁) :=
  above_add (above_add (above_add (above_rO _ _ _ h0) (above_cO _ _ _ h1)) (above_rO _ _ _ h2)) (above_cO _ _ _ h3)

/-- A device may wait at an index below everything it owes. -/
theorem mayWait (c : Dev nD) (sm : SemLoc sig) (b : ℕ) (hb : b < 40) {O : CellTallies nD τ sig ℕ} (h : Above b O) :
    (levAts L lv : sProp (MM F)) ⊢ MayWait (c : Thread nD τ) sm b O :=
  MayOwe.of_cut (L := L) (lev := lv) b
    (fun p hp => by rw [Finset.mem_singleton.mp hp]; unfold L; rw [if_pos rfl]; exact Finset.mem_range.mpr hb)
    (fun g ι hg => by unfold L; rw [if_pos (h g ι hg).1]; exact Finset.mem_range.mpr (h g ι hg).2.2)
    (fun p hp => by rw [Finset.mem_singleton.mp hp]; exact Nat.le_refl _)
    (fun g ι hg => (h g ι hg).2.1)

end Cert.KernelIdeal.Ring

end
-- ==== Proof.Steps.lean ====
/-
  The steps of the communication kernel, one lemma for each kind of operation: a copy to another
  device, a copy within the device, the waits, the signals, and the reads of the schedule.
-/
module

public import proofs.«01_k».proof.Proof.Sched

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Cert.KernelIdeal Cert.KernelIdeal.Gen

variable {F : FTy → Type} [FloatOps F]
variable (P : Dev nD → Vec F S4096x512 .f32) (Kn : GSem nD τ sig → ℕ)

abbrev 𝒱₀ : Variants := Variants.none

/-- A program of device `c`'s tensor core runs to `Q`. -/
abbrev run {α : Type} (c : Dev nD) (p : TC F α) (Q : α → sProp (MM F)) : sProp (MM F) :=
  wp frame (wpE (defs₀ (F := F)) 𝒱₀ (c : Thread nD τ) none) Set.univ p Q

theorem run_bind {α β : Type} (c : Dev nD) (p : TC F α) (k : α → TC F β) (Q : β → sProp (MM F)) :
    run c (p >>= k) Q = run c p (fun x => run c (k x) Q) := wp_bind _ _ _ _ _ _

theorem ret_step {α : Type} {c : Dev nD} {x : α} {Q : α → sProp (MM F)} : Q x ⊢ run c (Pure.pure x) Q := by
  show Q x ⊢ run c (Prog.ret x) Q
  unfold run
  rw [wp_ret]
  iintro H
  imodintro
  iexact H

theorem assume_step {α : Type} {c : Dev nD} {p : Prop} {dec : Decidable p} (h : p) {k : PLift p → TC F α} {Q : α → sProp (MM F)} :
    run c (k ⟨h⟩) Q ⊢ run c (Prog.lift (.assume p dec) >>= k) Q := wp_assume 𝒱₀ (c : Thread nD τ) none Set.univ h

/-- What the device owes, whatever it has waited for. -/
def owe (c : Dev nD) (O : CellTallies nD τ sig ℕ) : sProp (MM F) := iprop(∃ W : Waits sig ℕ, owes (c : Thread nD τ) O W)

/-- A cell's invariant, under the names `Kn`. -/
abbrev inv (c : Dev nD) (k : Kd) : sProp (MM F) := cellInv ER (Rd P) (Kn (cell c k)) (cell c k)

/-- What every device may consult: the invariants of all the cells, that the barriers' round is reached, and the levels. -/
def ctx : sProp (MM F) :=
  iprop((bigSep (Finset.univ ×ˢ kds.toFinset : Finset (Dev nD × Kd)) fun x => inv P Kn x.1 x.2)
    ∗ (bigSep Finset.univ fun c : Dev nD => reached ER (cell c .bar) 0) ∗ levAts L lv)

instance ctx_persistent : BI.Persistent (ctx P Kn) := by unfold ctx; infer_instance

theorem ctx_inv (c : Dev nD) (k : Kd) : ctx P Kn ⊢ inv P Kn c k := by
  unfold ctx
  iintro ⟨#H, -⟩
  have h : (bigSep (Finset.univ ×ˢ kds.toFinset : Finset (Dev nD × Kd)) fun x => inv P Kn x.1 x.2) ⊢ inv P Kn c k :=
    bigSep_elim (Φ := fun x : Dev nD × Kd => inv P Kn x.1 x.2) (i := (c, k))
      (Finset.mem_product.mpr ⟨Finset.mem_univ _, List.mem_toFinset.mpr (mem_kds k)⟩)
  iapply h
  iexact H

theorem ctx_bar (c : Dev nD) : ctx P Kn ⊢ reached ER (cell c .bar) 0 := by
  unfold ctx
  have h : (bigSep Finset.univ fun c : Dev nD => reached ER (cell c .bar) 0 : sProp (MM F)) ⊢ reached ER (cell c .bar) 0 :=
    bigSep_elim (Φ := fun c : Dev nD => (reached ER (cell c .bar) 0 : sProp (MM F))) (Finset.mem_univ c)
  iintro ⟨-, H, -⟩
  iapply h
  iexact H

/-- A device may wait at an index below everything it owes. -/
theorem ctx_may (c : Dev nD) (sm : SemLoc sig) (b : ℕ) (hb : b < 40) {O : CellTallies nD τ sig ℕ} (h : Above b O) :
    ctx P Kn ⊢ MayWait (c : Thread nD τ) sm b O := by
  have h' := mayWait (F := F) c sm b hb h
  unfold ctx
  iintro ⟨-, -, H⟩
  iapply h'
  iexact H

/-! ## Copies -/

section Copies

variable {sp sp' : Space} {s : Shape} {e : EltTy}

/-- A copy to another device: the source is handed in until it is read, the destination is handed to its owner when it is filled. -/
theorem send_step {c c' : Dev nD} {ks kr : Kd} {sS sR : DmaSem sig} (hsS : semOf ks = .dma sS) (hsR : semOf kr = .dma sR)
    {src : Memref sig .tc sp s e} {dst : Memref sig .tc sp' s e} {hsc : dst.view.ref.isScScratch = false}
    {hsrc : src.view.WordExact} {hdst : dst.view.WordExact} {hsem : DmaTarget.Typed sp (.dma sR) (.remote (Dev.tc c') dst (.dma sS) hsc)}
    {q : PosShare TreeShare} {v : s.Idx → Elt F e} {X : sProp (MM F)} {r₁ r₂ : ℕ} (ι N : ℕ)
    (hd₁ : (0 : Fin 3) ∈ kduties ks r₁) (hd₂ : (0 : Fin 3) ∈ kduties kr r₂)
    (hN : dst.view.dmaCredit = N) (hk₁ : kamount ks r₁ = N) (hk₂ : kamount kr r₂ = N)
    {O₀ : CellTallies nD τ sig ℕ} (O : CellTallies nD τ sig ℕ) (hO : O₀ = O + tallyAt (cell c' kr) ι N)
    (hp₁ : holds src c q v ⊢ kpay P c ks r₁ 0) (hp₂ : iprop(holds dst c' fullShare v ∗ X) ⊢ kpay P c' kr r₂ 0)
    {Q : PUnit → sProp (MM F)} :
    iprop(ctx P Kn ∗ holds src c q v ∗ has dst c' ∗ X ∗ owe c O₀ ∗ dutyTok ER (cell c ks) r₁ 0 ∗ reached ER (cell c ks) r₁
        ∗ dutyTok ER (cell c' kr) r₂ 0 ∗ reached ER (cell c' kr) r₂)
      ⊢ iprop((iprop(cred (tallyAt (cell c ks) 0 N) ∗ owe c O) -∗ Q ⟨⟩)
          -∗ run c (Prog.lift (.enqueueDma src (.remote (Dev.tc c') dst (.dma sS) hsc) (.dma sR) hsrc hdst hsem)) Q) := by
  iintro ⟨#Hctx, Hs, Hd, HX, HO, Ht1, Hr1, Ht2, Hr2⟩ Hk
  unfold holds has owe
  icases Hs with ⟨%fs, %hfs, Hs⟩
  icases Hd with ⟨%fd, Hd⟩
  icases HO with ⟨%W, HO⟩
  have e1 : cell c ks = ((c : Thread nD τ), SemLoc.dma sS) := congrArg _ hsS
  have e2 : cell c' kr = ((c' : Thread nD τ), SemLoc.dma sR) := congrArg _ hsR
  ihave Hi1 := (ctx_inv P Kn c ks) $$ Hctx
  ihave Hi2 := (ctx_inv P Kn c' kr) $$ Hctx
  have hp₁' : (src.view.loc (c : Thread nD τ) ↦[src.view.set]{q} fs) ⊢ (Rd P).payload ((c : Thread nD τ), SemLoc.dma sS) r₁ 0 := by
    rw [← e1, Rd_payload]; exact (hfs ▸ holds_intro src c q fs).trans hp₁
  have hp₂' : iprop((dst.view.loc (c' : Thread nD τ) ↦[dst.view.set]{fullShare} (dst.view.write (Elt F) fd (src.view.read (Elt F) fs) Finset.univ)) ∗ X)
      ⊢ (Rd P).payload ((c' : Thread nD τ), SemLoc.dma sR) r₂ 0 := by
    rw [← e2, Rd_payload]
    have h := holds_intro dst c' fullShare (dst.view.write (Elt F) fd (src.view.read (Elt F) fs) Finset.univ)
    rw [show dst.view.read (Elt F) (dst.view.write (Elt F) fd (src.view.read (Elt F) fs) Finset.univ) = v from
      (View.read_write_univ _ _).trans hfs] at h
    exact (sep_mono_left h).trans hp₂
  unfold inv
  rw [e1, e2]
  iapply (Rounds.wp_send_pointsTo_with 𝒱₀ ER (Rd P) (c : Thread nD τ) none (c' := (c' : Thread nD τ)) (src := src) (dst := dst)
      (sS := .dma sS) (sem := .dma sR) (q := q) (fs := fs) (fd := fd) (F := X) (κ₁ := Kn ((c : Thread nD τ), SemLoc.dma sS)) (κ₂ := Kn ((c' : Thread nD τ), SemLoc.dma sR))
      (r₁ := r₁) (r₂ := r₂) (d₁ := 0) (d₂ := 0)
      (by rw [← e1, Rd_duties]; exact hd₁) (by rw [← e2, Rd_duties]; exact hd₂)
      ι 0 N hN (by rw [← e1, Rd_amount]; exact hk₁) (by rw [← e2, Rd_amount]; exact hk₂) (O₀ := O₀) O (by rw [hO, e2]) (W := W)
      hp₁' hp₂') $$ [Hs Hd HX HO Ht1 Hr1 Ht2 Hr2]
  · isplitr; · iexact Hi1
    isplitr; · iexact Hi2
    isplitl [Hs]; · iexact Hs
    isplitl [Hd HX]; · isplitl [Hd] <;> iassumption
    isplitl [HO]; · iexact HO
    isplitl [Ht1]; · iexact Ht1
    isplitl [Hr1]; · iexact Hr1
    isplitl [Ht2]; · iexact Ht2
    iexact Hr2
  iintro ⟨HcS, HO⟩
  rw [wp_ret]
  imodintro
  iapply Hk
  isplitl [HcS]; · iexact HcS
  iexists W; iexact HO

/-- A copy within the device: in flight until its semaphore is waited for. -/
theorem store_step {c : Dev nD} {sm : DmaSem sig} {src : Memref sig .tc sp s e} {dst : Memref sig .tc sp' s e}
    {hsrc : src.view.WordExact} {hdst : dst.view.WordExact} {hsem : DmaTarget.Typed (nD := nD) (τ := τ) (p := .tc) sp (.dma sm) (.here dst)}
    {q : PosShare TreeShare} {v : s.Idx → Elt F e} (hpos : 0 < dst.view.dmaCredit) {Q : PUnit → sProp (MM F)} :
    iprop(holds src c q v ∗ has dst c ∗ semVal ((c : Thread nD τ), .dma sm) 0)
      ⊢ iprop((Flight EC (c : Thread nD τ) (.dma sm) 0 dst.view.dmaCredit iprop(holds dst c fullShare v ∗ holds src c q v) -∗ Q ⟨⟩)
          -∗ run c (Prog.lift (.enqueueDma src (.here dst) (.dma sm) hsrc hdst hsem)) Q) := by
  iintro ⟨Hs, Hd, Hv⟩ Hk
  unfold holds has
  icases Hs with ⟨%fs, %hfs, Hs⟩
  icases Hd with ⟨%fd, Hd⟩
  iapply (wp_dmaLocal EC 𝒱₀ (c : Thread nD τ) none (src := src) (dst := dst) (fs := fs) (fd := fd) (q := q) (Sd := dst.view.set) 0 dst.view.dmaCredit rfl hpos subset_rfl) $$ [Hs Hd Hv]
  · isplitl [Hs]; · iexact Hs
    isplitl [Hd]; · iexact Hd
    iexact Hv
  iintro HF
  rw [wp_ret]
  imodintro
  iapply Hk
  have hm : iprop((dst.view.loc (c : Thread nD τ) ↦[dst.view.set]{fullShare} (dst.view.write (Elt F) fd (src.view.read (Elt F) fs) Finset.univ))
      ∗ (src.view.loc (c : Thread nD τ) ↦[src.view.set]{q} fs)) ⊢ iprop(holds dst c fullShare v ∗ holds src c q v) := by
    unfold holds
    iintro ⟨Hd, Hs⟩
    isplitl [Hd]
    · iexists (dst.view.write (Elt F) fd (src.view.read (Elt F) fs) Finset.univ)
      isplitr; · ipureintro; exact (View.read_write_univ _ _).trans hfs
      iexact Hd
    · iexists fs
      isplitr; · ipureintro; exact hfs
      iexact Hs
  iapply (Flight_mono EC (c : Thread nD τ) hm) $$ HF

/-- The wait for such a copy. -/
theorem storeW_step {s' : Shape} {e' : EltTy} {c : Dev nD} {sm : DmaSem sig} {src : Memref sig .tc sp s' e'} {dst : Memref sig .tc sp' s e}
    {hsrc : src.view.WordExact} {hdst : dst.view.WordExact} {D : sProp (MM F)} {O : CellTallies nD τ sig ℕ} (hO : Above 0 O) {Q : PUnit → sProp (MM F)} :
    iprop(ctx P Kn ∗ Flight EC (c : Thread nD τ) (.dma sm) 0 dst.view.dmaCredit D ∗ owe c O)
      ⊢ iprop((iprop(D ∗ semVal ((c : Thread nD τ), .dma sm) 0 ∗ owe c O) -∗ Q ⟨⟩)
          -∗ run c (Prog.lift (.waitDma2 sm src dst hsrc hdst)) Q) := by
  iintro ⟨#Hctx, HF, HO⟩ Hk
  unfold owe
  icases HO with ⟨%W, HO⟩
  iapply (wp_waitLocalO EC 𝒱₀ (c : Thread nD τ) none (srcw := src) (dstw := dst) 0 rfl (O := O) (W := W)) $$ [HF HO]
  · isplitl [HF]; · iexact HF
    isplitl [HO]; · iexact HO
    iapply (ctx_may P Kn c (.dma sm) 0 (by decide) hO); iexact Hctx
  iintro ⟨HD, Hv, HO⟩
  rw [wp_ret]
  imodintro
  iapply Hk
  isplitl [HD]; · iexact HD
  isplitl [Hv]; · iexact Hv
  iexists _; iexact HO

end Copies

/-! ## Waits and signals -/

/-- The wait for a round of one duty. -/
theorem wait_step {c : Dev nD} (k : Kd) (r n ι : ℕ) {w : TpuEff nD τ sig (Elt F) Λ₀ .tc PUnit}
    (hw : ∀ K : PUnit → sProp (MM F), wpE (defs₀ (F := F)) 𝒱₀ (c : Thread nD τ) none Set.univ w K = waitSpec (c : Thread nD τ) Set.univ (semOf k) n K)
    (hd : kduties k r = {0}) (hn : n = kamount k r) (hι : ι < 40) {O : CellTallies nD τ sig ℕ} (hO : Above ι O) {Q : PUnit → sProp (MM F)} :
    iprop(ctx P Kn ∗ cred (tallyAt (cell c k) ι n) ∗ owe c O ∗ atPos ER (cell c k) r ∅ 0)
      ⊢ iprop((iprop(owe c O ∗ atPos ER (cell c k) (r + 1) ∅ 0 ∗ reached ER (cell c k) (r + 1) ∗ kpay P c k r 0) -∗ Q ⟨⟩)
          -∗ run c (Prog.lift w) Q) := by
  iintro ⟨#Hctx, Hc, HO, Hat⟩ Hk
  unfold owe
  icases HO with ⟨%W, HO⟩
  ihave Hi := (ctx_inv P Kn c k) $$ Hctx
  iapply (Rounds.wp_wait_rest_token 𝒱₀ ER (Rd P) (c : Thread nD τ) none (κ := Kn (cell c k)) (sm := semOf k) hw (Set.mem_univ _) ι (O := O) (W := W)
      (R := r) (m := 0) (T := ∅) ((Nat.zero_add _).trans (hn.trans (Rd_expect_one P c k r hd).symm))) $$ [Hc HO Hat]
  · isplitr; · iexact Hi
    isplitl [Hc]; · iexact Hc
    isplitl [HO]; · iexact HO
    isplitr; · iapply (ctx_may P Kn c (semOf k) ι hι hO); iexact Hctx
    iexact Hat
  iintro ⟨HO, Hat, Hr, Hpay⟩
  ihave Hp := (Entails.of_eq (Rd_rest_one P c k r hd)) $$ Hpay
  rw [wp_ret]
  imodintro
  iapply Hk
  isplitl [HO]; · iexists _; iexact HO
  isplitl [Hat]; · iexact Hat
  isplitl [Hr]; · iexact Hr
  iexact Hp

/-- The wait of the barrier, for its three duties. -/
theorem bar_step {c : Dev nD} {O : CellTallies nD τ sig ℕ} (hO : Above 1 O) {Q : PUnit → sProp (MM F)} :
    iprop(ctx P Kn ∗ cred (tallyAt (cell c .bar) 1 3) ∗ owe c O ∗ atPos ER (cell c .bar) 0 ∅ 0)
      ⊢ iprop((iprop(owe c O ∗ atPos ER (cell c .bar) 1 ∅ 0 ∗ kpay P c .bar 0 0 ∗ kpay P c .bar 0 1 ∗ kpay P c .bar 0 2) -∗ Q ⟨⟩)
          -∗ run c (semWaitWord barS 3#32) Q) := by
  iintro ⟨#Hctx, Hc, HO, Hat⟩ Hk
  unfold owe
  icases HO with ⟨%W, HO⟩
  ihave Hi := (ctx_inv P Kn c .bar) $$ Hctx
  unfold semWaitWord
  iapply (Rounds.wp_wait_rest_token 𝒱₀ ER (Rd P) (c : Thread nD τ) none (κ := Kn (cell c .bar)) (sm := semOf .bar)
      (wpE_semWait_eq 𝒱₀ (c : Thread nD τ) none Set.univ) (Set.mem_univ _) 1 (O := O) (W := W)
      (R := 0) (m := 0) (T := ∅) ((Nat.zero_add _).trans (Rd_expect_bar P c).symm)) $$ [Hc HO Hat]
  · isplitr; · iexact Hi
    isplitl [Hc]; · iexact Hc
    isplitl [HO]; · iexact HO
    isplitr; · iapply (ctx_may P Kn c (semOf .bar) 1 (by decide) hO); iexact Hctx
    iexact Hat
  iintro ⟨HO, Hat, -, Hpay⟩
  ihave Hp := (Entails.of_eq (Rd_rest_bar P c)) $$ Hpay
  rw [wp_ret]
  imodintro
  iapply Hk
  isplitl [HO]; · iexists _; iexact HO
  isplitl [Hat]; · iexact Hat
  iexact Hp

/-- A signal of one unit. -/
theorem signal_step {c c' : Dev nD} (k : Kd) (r : ℕ) (x : Fin 3) (ι : ℕ) {sem : Sem sig} (hs : semOf k = .reg sem) (hd : x ∈ kduties k r)
    (hk : kamount k r = 1) {O₀ : CellTallies nD τ sig ℕ} (O : CellTallies nD τ sig ℕ) (hO : O₀ = O + tallyAt (cell c' k) ι 1) {Q : PUnit → sProp (MM F)} :
    iprop(ctx P Kn ∗ owe c O₀ ∗ dutyTok ER (cell c' k) r x ∗ kpay P c' k r x ∗ reached ER (cell c' k) r)
      ⊢ iprop((owe c O -∗ Q ⟨⟩) -∗ run c (semSignalWord c' sem 1#32) Q) := by
  iintro ⟨#Hctx, HO, Ht, Hp, Hr⟩ Hk
  unfold owe
  icases HO with ⟨%W, HO⟩
  have e1 : cell c' k = ((c' : Thread nD τ), SemLoc.reg sem) := congrArg _ hs
  ihave Hi := (ctx_inv P Kn c' k) $$ Hctx
  ihave Hp := (Entails.of_eq (Rd_payload P c' k r x).symm) $$ Hp
  unfold inv semSignalWord
  rw [e1]
  iapply (Rounds.wp_signal 𝒱₀ ER (Rd P) (c : Thread nD τ) none (dst := (c' : Thread nD τ)) (sem := sem) (r := r) (d := x) (κ := Kn ((c' : Thread nD τ), SemLoc.reg sem)) (k' := 1)
      (by rw [← e1, Rd_duties]; exact hd) (by rw [← e1, Rd_amount]; exact hk) ι (O₀ := O₀) O (by rw [hO, e1]) (W := W)) $$ [HO Ht Hp Hr]
  · isplitr; · iexact Hi
    isplitl [HO]; · iexact HO
    isplitl [Ht]; · iexact Ht
    isplitl [Hp]; · iexact Hp
    iexact Hr
  iintro HO
  rw [wp_ret]
  imodintro
  iapply Hk
  iexists W; iexact HO

/-! ## The schedule's words -/

/-- Word `n` of device `c`'s schedule: the `(y, z)` of the neighbours to the right and to the left, then the blocks of columns that
    arrive from the left and from the right. -/
def word (c : Dev nD) (n : Fin 20) : BitVec 32 :=
  if n.val = 0 then BitVec.ofNat 32 ((nx 0 c).val % 16 / 4)
  else if n.val = 1 then BitVec.ofNat 32 ((nx 0 c).val % 4)
  else if n.val = 2 then BitVec.ofNat 32 ((nx 1 c).val % 16 / 4)
  else if n.val = 3 then BitVec.ofNat 32 ((nx 1 c).val % 4)
  else if n.val < 12 then BitVec.ofNat 32 ((back 0 (n.val - 3) c).val % 16)
  else BitVec.ofNat 32 ((back 1 (n.val - 11) c).val % 16)

/-- Device `c`'s copy of the schedule. -/
def sched (M : Memref sig .tc .smem S20 .i32) (c : Dev nD) (q : PosShare TreeShare) : sProp (MM F) :=
  holds M c q (fun i => word c (i 0))

theorem word_step {c : Dev nD} {M : Memref sig .tc .smem S20 .i32} {q : PosShare TreeShare} (n : Fin 20) (inb : ∀ a, (![n.val] : Fin 1 → Nat) a + S1.size a ≤ S20.size a)
    {Q : Elt F .i32 → sProp (MM F)} :
    (sched M c q : sProp (MM F)) ⊢ iprop((sched M c q -∗ Q (word c n)) -∗ run c (smemLoad M (Rect.unit (s := S20) ![n.val] S1.size inb) numel1_S1 rfl) Q) := by
  iintro H Hk
  unfold sched holds smemLoad
  icases H with ⟨%f, %hf, H⟩
  iapply (wp_smemLoadElt 𝒱₀ (c : Thread nD τ) none Set.univ (m := M) (r := Rect.unit (s := S20) ![n.val] S1.size inb) (f := f) (S := M.view.set) (q := q) (View.set_slice_subset _ _)) $$ H
  iintro H
  rw [wp_ret]
  imodintro
  have hv : (M.access (Rect.unit (s := S20) ![n.val] S1.size inb)).read (Elt F) f (Shape.Idx.first (numel1_S1.symm ▸ Nat.one_pos)) = word c n := by
    refine Eq.trans (b := M.view.read (Elt F) f ((Rect.unit (s := S20) ![n.val] S1.size inb).emb (Shape.Idx.first (numel1_S1.symm ▸ Nat.one_pos)))) rfl ?_
    rw [hf]
    refine congrArg (word c) (Fin.ext ?_)
    show n.val + 1 * _ = n.val
    have h : ((Shape.Idx.first (s := S1) (numel1_S1.symm ▸ Nat.one_pos)) 0).val < 1 := Fin.isLt _
    have : ((Shape.Idx.first (s := S1) (numel1_S1.symm ▸ Nat.one_pos)) 0).val = 0 := by omega
    omega
  rw [hv]
  iapply Hk
  iexists f; isplitr; · ipureintro; exact hf
  iexact H

theorem chk_right : ∀ c : Dev nD, k1_chk2 c (word c 0) (word c 1) := by decide
theorem chk_left : ∀ c : Dev nD, k1_chk1 c (word c 2) (word c 3) := by decide
theorem dev_right : ∀ c : Dev nD, (⟨k1_dev3 c (word c 0) (word c 1), k1_dev3_lt c (word c 0) (word c 1) (chk_right c)⟩ : Dev nD) = nx 0 c := by decide
theorem dev_left : ∀ c : Dev nD, (⟨k1_dev2 c (word c 2) (word c 3), k1_dev2_lt c (word c 2) (word c 3) (chk_left c)⟩ : Dev nD) = nx 1 c := by decide
theorem chk_block : ∀ e : Fin 16, k1_chk3 (BitVec.ofNat 32 e.val) := by decide
theorem chk_top : ∀ e : Fin 16, k1_chk17 (BitVec.ofNat 32 e.val) := by decide
theorem chk_bot : ∀ e : Fin 16, k1_chk18 (BitVec.ofNat 32 e.val) := by decide

end Cert.KernelIdeal.Ring

end
-- ==== Proof.Matmul.lean ====
/-
  The first call on each device: the product of the transposed rows of x with the device's columns of dy,
  block by block, each block of the result summed over the eight blocks of rows.
-/
module

public import proofs.«01_k».proof.Proof.Steps
public import proofs.«01_k».proof.Proof.Gen.KernelIdeal.Points

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

/-- One block. -/
abbrev Blk (F : FTy → Type) : Type := S512x512.Idx → Elt F .f32

/-! ## The body at a point -/

abbrev rectB : Rect S512x512 := Rect.unit (s := S512x512) ![0, 0] S512x512.size inb_S512x512_S512x512_0_0

theorem rectB_emb (x : S512x512.Idx) : rectB.emb x = x := by
  refine funext fun a => Fin.ext ?_
  rw [Rect.emb_apply]
  show (![0, 0] : Fin 2 → ℕ) a + 1 * (x a).val = (x a).val
  have h : (![0, 0] : Fin 2 → ℕ) a = 0 := by fin_cases a <;> rfl
  omega

theorem load_block {c : Dev nD} {b : Memref sig .tc .vmem S512x512 .f32} {hl : b.view.LoadsAt rectB.toLoadRect} {v : Blk F}
    {Q : Blk F → sProp (MM F)} :
    (holds b c fullShare v : sProp (MM F)) ⊢ iprop((holds b c fullShare v -∗ Q v) -∗ run c (Prog.lift (.load b rectB.toLoadRect hl)) Q) := by
  iintro H Hk
  unfold holds
  icases H with ⟨%f, %hf, H⟩
  iapply (wp_load_rect 𝒱₀ (c : Thread nD τ) none Set.univ (m := b) (r := rectB) (hl := hl) (f := f) (S := b.view.set) (q := fullShare) (View.set_slice_subset _ _)) $$ H
  iintro H
  rw [wp_ret]
  imodintro
  have hv : (b.access rectB).read (Elt F) f = v := funext fun x => (congrArg (b.view.read (Elt F) f) (rectB_emb x)).trans (congrFun hf x)
  rw [hv]
  iapply Hk
  iexists f; isplitr; · ipureintro; exact hf
  iexact H

theorem store_block {c : Dev nD} {b : Memref sig .tc .vmem S512x512 .f32} {v w : Blk F} {hx : (b.access rectB).Stores Finset.univ}
    {hm : (Finset.univ : Finset rectB.shape.Idx) = Finset.univ ∨ ∀ a, rectB.stride a = 1} {Q : PUnit → sProp (MM F)} :
    (holds b c fullShare v : sProp (MM F))
      ⊢ iprop((holds b c fullShare w -∗ Q ⟨⟩) -∗ run c (Prog.lift (.store b rectB w Finset.univ hx hm)) Q) := by
  iintro H Hk
  unfold holds
  icases H with ⟨%f, -, H⟩
  iapply (wp_store 𝒱₀ (c : Thread nD τ) none Set.univ (m := b) (r := rectB) (w := w) (Mk := Finset.univ) (hx := hx) (hm := hm) (f := f) (S := b.view.set) (View.set_slice_subset _ _)) $$ H
  iintro H
  rw [wp_ret]
  imodintro
  iapply Hk
  iexists ((b.access rectB).write (Elt F) f w Finset.univ)
  isplitr
  · ipureintro
    exact funext fun x => (congrArg (b.view.read (Elt F) ((b.access rectB).write (Elt F) f w Finset.univ)) (rectB_emb x)).symm.trans
      (congrFun (View.read_write_univ (v := b.access rectB) f w) x)
  iexact H

theorem first_iff : ∀ k : Fin 8, (Scalar.cmpi .ne (Scalar.extui (Scalar.cmpi .eq (BitVec.ofNat 32 k.val) (0#32)) : BitVec 32) (0#32) = 1#1) ↔ k.val = 0 := by decide

/-- A point after its first step: the product of the two blocks is added to what the result's block holds. -/
def sumUp (A B C : Memref sig .tc .vmem S512x512 .f32) : Prog (TpuEff nD τ sig (Elt F) Λ₀ .tc) PUnit := do
  let v3 : Vec F S512x512 .f32 ← Prog.lift (.load C rectB.toLoadRect (View.loadsAt_vmem h_S512x512))
  let v5 : Vec F S512x512 .f32 ← Prog.lift (.load A rectB.toLoadRect (View.loadsAt_vmem h_S512x512))
  let v7 : Vec F S512x512 .f32 ← Prog.lift (.load B rectB.toLoadRect (View.loadsAt_vmem h_S512x512))
  let _v11 : Vec F S512x512 .f32 ← Prog.lift (.load C rectB.toLoadRect (View.loadsAt_vmem h_S512x512))
  Prog.lift (.store C rectB (k0_pay2 v3 v5 v7) Finset.univ (View.stores_vmem_bits_univ h_S512x512 rfl) (.inl rfl))
  pure ⟨⟩

/-- A point's first step where the sum begins. -/
def clear (C : Memref sig .tc .vmem S512x512 .f32) (k : Prog (TpuEff nD τ sig (Elt F) Λ₀ .tc) PUnit) : Prog (TpuEff nD τ sig (Elt F) Λ₀ .tc) PUnit := do
  let _v13 : Vec F S512x512 .f32 ← Prog.lift (.load C rectB.toLoadRect (View.loadsAt_vmem h_S512x512))
  Prog.lift (.store C rectB (k0_pay1 (F := F)) Finset.univ (View.stores_vmem_bits_univ h_S512x512 rfl) (.inl rfl))
  k

theorem point_eq (i : grid0.Coords) (A : Memref sig .tc .vmem S512x512 .f32) (hA : A.IsWhole) (B : Memref sig .tc .vmem S512x512 .f32) (hB : B.IsWhole)
    (C : Memref sig .tc .vmem S512x512 .f32) (hC : C.IsWhole) :
    cc0__matmul_body (F := F) i A hA B hB C hC = if (i 2).val = 0 then clear C (sumUp A B C) else sumUp A B C := by
  rw [cc0__matmul_body_eq_skeleton]
  by_cases h : (i 2).val = 0
  · rw [if_pos h]
    exact dif_pos ((first_iff (i 2)).mpr h)
  · rw [if_neg h]
    exact dif_neg (fun e => h ((first_iff (i 2)).mp e))

theorem sum_run {c : Dev nD} {A B C : Memref sig .tc .vmem S512x512 .f32} {x y z : Blk F} {Q : PUnit → sProp (MM F)} :
    iprop(holds A c fullShare x ∗ holds B c fullShare y ∗ holds C c fullShare z)
      ⊢ iprop((iprop(holds A c fullShare x ∗ holds B c fullShare y ∗ holds C c fullShare (k0_pay2 z x y)) -∗ Q ⟨⟩) -∗ run c (sumUp A B C) Q) := by
  unfold sumUp
  iintro ⟨HA, HB, HC⟩ Hk
  rw [run_bind]
  iapply load_block $$ HC
  iintro HC
  rw [run_bind]
  iapply load_block $$ HA
  iintro HA
  rw [run_bind]
  iapply load_block $$ HB
  iintro HB
  rw [run_bind]
  iapply load_block $$ HC
  iintro HC
  rw [run_bind]
  iapply store_block $$ HC
  iintro HC
  iapply ret_step
  iapply Hk
  isplitl [HA]; · iexact HA
  isplitl [HB]; · iexact HB
  iexact HC

theorem point_run {c : Dev nD} (i : grid0.Coords) {A : Memref sig .tc .vmem S512x512 .f32} {hA : A.IsWhole} {B : Memref sig .tc .vmem S512x512 .f32} {hB : B.IsWhole}
    {C : Memref sig .tc .vmem S512x512 .f32} {hC : C.IsWhole} {x y z : Blk F} {Q : PUnit → sProp (MM F)} :
    iprop(holds A c fullShare x ∗ holds B c fullShare y ∗ holds C c fullShare z)
      ⊢ iprop((iprop(holds A c fullShare x ∗ holds B c fullShare y ∗ holds C c fullShare (k0_pay2 (if (i 2).val = 0 then k0_pay1 else z) x y)) -∗ Q ⟨⟩)
        -∗ run c (cc0__matmul_body i A hA B hB C hC) Q) := by
  rw [point_eq]
  by_cases h : (i 2).val = 0
  · rw [if_pos h, if_pos h]
    unfold clear
    iintro ⟨HA, HB, HC⟩ Hk
    rw [run_bind]
    iapply load_block $$ HC
    iintro HC
    rw [run_bind]
    iapply store_block $$ HC
    iintro HC
    iapply sum_run $$ [HA HB HC] [Hk]
    · isplitl [HA]; · iexact HA
      isplitl [HB]; · iexact HB
      iexact HC
    iexact Hk
  · rw [if_neg h, if_neg h]
    exact sum_run

/-! ## The blocks, and the sums along the grid -/

section Dat

variable (V : Dev nD → Valuation τ sig (Elt F)) (D : Dev nD → CellTallies nD τ sig ℕ)

/-- The block of x at a point. -/
def xBlk (c : Dev nD) (t : Fin cfg0.N) : Blk F := ((cfg0.win 0).blk t).view.read (Elt F) (V c main_arg0)
/-- The block of the device's columns of dy at a point. -/
def yBlk (c : Dev nD) (t : Fin cfg0.N) : Blk F := ((cfg0.win 1).blk t).view.read (Elt F) (V c main_v15)

/-- What the result's block holds after each point. -/
def acc (c : Dev nD) : (n : ℕ) → n < cfg0.N → Blk F
  | 0, h => k0_pay2 k0_pay1 (xBlk V c ⟨0, h⟩) (yBlk V c ⟨0, h⟩)
  | n + 1, h => k0_pay2 (if (n + 1) % 8 = 0 then k0_pay1 else acc c n (Nat.lt_of_succ_lt h)) (xBlk V c ⟨n + 1, h⟩) (yBlk V c ⟨n + 1, h⟩)

/-- The proof data of the first call: the scoped buffers and the generator ride along, and what is owed stays owed. -/
def dat0 (c : Dev nD) : Pipeline.Dat τ (Elt F) ℕ ℕ UU ℕ cfg0 c where
  A := fun | 0 => V c main_arg0 | 1 => V c main_v15 | 2 => V c main_v16
  after := fun | 0 => xBlk V c | 1 => yBlk V c | 2 => fun t => acc V c t.val t.isLt
  Φ _ := iprop(Pipeline.scopedRest spec0 c ∗ ∃ r, prngReg c r)
  q _ := fullShare
  owed _ := D c

theorem step0 : ∀ t : Fin cfg0.N, ((grid0.coords t) 2).val = t.val % 8 := by decide +kernel

theorem found_x (c : Dev nD) (t : Fin cfg0.N) (d) : (dat0 V D c).before 0 t d = xBlk V c t := by
  rw [(dat0 V D c).before_fetched 0 t (fetch0_0 t)]
  unfold Pipeline.Dat.fetched Pipeline.Dat.blockOf
  dsimp only
  rfl
theorem found_y (c : Dev nD) (t : Fin cfg0.N) (d) : (dat0 V D c).before 1 t d = yBlk V c t := by
  rw [(dat0 V D c).before_fetched 1 t (fetch0_1 t)]
  unfold Pipeline.Dat.fetched Pipeline.Dat.blockOf
  dsimp only
  rfl
theorem found_z (c : Dev nD) (t : Fin cfg0.N) (h0 : t.val % 8 ≠ 0) (d) :
    (dat0 V D c).before 2 t d = acc V c (t.val - 1) (Nat.lt_of_le_of_lt (Nat.sub_le _ _) t.isLt) := by
  refine (dat0 V D c).before_out_kept 2 rfl t (fun e => h0 (by rw [e])) ?_ (fun _ => rfl) (fun _ _ => rfl) d
  refine Bool.eq_false_iff.mpr fun e => ?_
  have := (flush0_2 _).mp e
  dsimp only at this
  omega

theorem acc_step (c : Dev nD) (t : Fin cfg0.N) (z : Blk F)
    (hz : t.val % 8 ≠ 0 → z = acc V c (t.val - 1) (Nat.lt_of_le_of_lt (Nat.sub_le _ _) t.isLt)) :
    k0_pay2 (if ((grid0.coords t) 2).val = 0 then k0_pay1 else z) (xBlk V c t) (yBlk V c t) = acc V c t.val t.isLt := by
  rw [step0]
  obtain ⟨n, hn⟩ := t
  cases n with
  | zero => rfl
  | succ n =>
    by_cases h : (n + 1) % 8 = 0
    · simp only [acc, h, if_true]
    · rw [hz h]; rfl

/-- A point of the grid, between what its three blocks hold before and after it. -/
theorem point_dat (c : Dev nD) (t : Fin cfg0.N) (d0 d1 d2) {Q : PUnit → sProp (MM F)} :
    iprop(owns (c : Thread nD τ) ((cfg0.win 0).stage (cfg0.slots t 0)) fullShare ((dat0 V D c).before 0 t d0)
        ∗ owns (c : Thread nD τ) ((cfg0.win 1).stage (cfg0.slots t 1)) fullShare ((dat0 V D c).before 1 t d1)
        ∗ owns (c : Thread nD τ) ((cfg0.win 2).stage (cfg0.slots t 2)) fullShare ((dat0 V D c).before 2 t d2))
      ⊢ iprop((iprop(owns (c : Thread nD τ) ((cfg0.win 0).stage (cfg0.slots t 0)) fullShare ((dat0 V D c).after 0 t)
          ∗ owns (c : Thread nD τ) ((cfg0.win 1).stage (cfg0.slots t 1)) fullShare ((dat0 V D c).after 1 t)
          ∗ owns (c : Thread nD τ) ((cfg0.win 2).stage (cfg0.slots t 2)) fullShare ((dat0 V D c).after 2 t)) -∗ Q ⟨⟩)
        -∗ run c (bodyAt0 t) Q) := by
  rw [found_x, found_y, show (dat0 V D c).after 2 t = acc V c t.val t.isLt from rfl, ← acc_step V c t _ (fun h => found_z V D c t h d2)]
  exact point_run (F := F) (c := c) (grid0.coords t) (x := xBlk V c t) (y := yBlk V c t) (z := (dat0 V D c).before 2 t d2)

theorem body0 (c : Dev nD) : Pipeline.BodyObligation (dat0 V D c) defs₀ 𝒱₀ 0 Set.univ := fun t => by
  rw [bigSep_W0, bigSep_W0]
  show iprop((dat0 V D c).Φ t.castSucc ∗ (dat0 V D c).owesAt 0 t.castSucc
      ∗ (∃ d, owns (c : Thread nD τ) ((cfg0.win 0).stage (cfg0.slots t 0)) fullShare ((dat0 V D c).before 0 t d))
      ∗ (∃ d, owns (c : Thread nD τ) ((cfg0.win 1).stage (cfg0.slots t 1)) fullShare ((dat0 V D c).before 1 t d))
      ∗ (∃ d, owns (c : Thread nD τ) ((cfg0.win 2).stage (cfg0.slots t 2)) fullShare ((dat0 V D c).before 2 t d)))
    ⊢ run c (bodyAt0 t) (fun _ => iprop((dat0 V D c).Φ t.castSucc ∗ (dat0 V D c).owesAt 0 t.castSucc
      ∗ owns (c : Thread nD τ) ((cfg0.win 0).stage (cfg0.slots t 0)) fullShare ((dat0 V D c).after 0 t)
      ∗ owns (c : Thread nD τ) ((cfg0.win 1).stage (cfg0.slots t 1)) fullShare ((dat0 V D c).after 1 t)
      ∗ owns (c : Thread nD τ) ((cfg0.win 2).stage (cfg0.slots t 2)) fullShare ((dat0 V D c).after 2 t)))
  iintro ⟨HΦ, HO, ⟨%d0, H0⟩, ⟨%d1, H1⟩, ⟨%d2, H2⟩⟩
  iapply (point_dat V D c t d0 d1 d2) $$ [H0 H1 H2]
  · isplitl [H0]; · iexact H0
    isplitl [H1]; · iexact H1
    iexact H2
  iintro ⟨H0, H1, H2⟩
  isplitl [HΦ]; · iexact HΦ
  isplitl [HO]; · iexact HO
  isplitl [H0]; · iexact H0
  isplitl [H1]; · iexact H1
  iexact H2

end Dat

end Cert.KernelIdeal.Ring

end

end
-- ==== Proof.Hop.lean ====
/-
  One hop of the ring, in one direction and then in both.

  A hop `h` moves the sum a device holds in slot `h mod 2` to slot `(h + 1) mod 2` of the next device.  Before it a device waits
  for the credit that this slot is free; after it the device pays the credit for its own slot `h mod 2` back, and stores what has
  arrived to its block of columns while the next hop is under way.
-/
module

public import proofs.«01_k».proof.Proof.Steps

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Cert.KernelIdeal Cert.KernelIdeal.Gen

variable {F : FTy → Type} [FloatOps F]
variable (P : Dev nD → Vec F S4096x512 .f32) (Kn : GSem nD τ sig → ℕ)

/-! ## The schedule, by hop -/

theorem sl_two (h : ℕ) : sl (h + 2) = sl h := Fin.ext (by show (h + 2) % 2 = h % 2; omega)
theorem two_sl (h : ℕ) : 2 * (h / 2) + (sl h).val = h := by show 2 * (h / 2) + h % 2 = h; omega
theorem sl_succ (h : ℕ) : 1 - (sl (h + 1)).val = (sl h).val := by show 1 - (h + 1) % 2 = h % 2; omega

theorem duties_snd (d i : Fin 2) (r : ℕ) (hr : r < 4) : kduties (.snd d i) r = {0} := if_pos hr
theorem duties_rcv (d i : Fin 2) (r : ℕ) (hr : r < 4) : kduties (.rcv d i) r = {0} := if_pos hr
theorem duties_crd (d : Fin 2) (r : ℕ) (hr : r < 7) : kduties (.crd d) r = {0} := if_pos hr

theorem snd_small {h : ℕ} (hh : h ≤ 6) : ¬(h / 2 = 3 ∧ sl h = 1) := fun ⟨h1, h2⟩ => by
  have h3 : h % 2 = 1 := congrArg Fin.val h2
  omega
theorem rcv_small {h : ℕ} (hh : h ≤ 6) : ¬(h / 2 = 3 ∧ sl (h + 1) = 0) := fun ⟨h1, h2⟩ => by
  have h3 : (h + 1) % 2 = 0 := congrArg Fin.val h2
  omega

theorem amount_snd (d : Fin 2) {h : ℕ} (hh : h ≤ 6) : kamount (.snd d (sl h)) (h / 2) = NS := if_neg (snd_small hh)
theorem amount_rcv (d : Fin 2) {h : ℕ} (hh : h ≤ 6) : kamount (.rcv d (sl (h + 1))) (h / 2) = NS := if_neg (rcv_small hh)
theorem pay_snd (d : Fin 2) (c : Dev nD) {h : ℕ} (hh : h ≤ 6) :
    kpay P c (.snd d (sl h)) (h / 2) 0 = holds (slot (bufM d) (sl h)) c fullShare.left (Wv P d c h) := by
  refine (if_neg (snd_small hh)).trans ?_
  rw [two_sl]
theorem pay_rcv (d : Fin 2) (c : Dev nD) {h : ℕ} (hh : h ≤ 6) :
    kpay P c (.rcv d (sl (h + 1))) (h / 2) 0
      = iprop(holds (slot (bufM d) (sl (h + 1))) c fullShare (Wv P d c (h + 1)) ∗ reached ER (cell (pv d c) (.crd d)) h) := by
  show iprop((if h / 2 = 3 ∧ sl (h + 1) = 0 then holds (half (bufM d) d 0) c fullShare (part d (Wv P d c 8))
      else holds (slot (bufM d) (sl (h + 1))) c fullShare (Wv P d c (2 * (h / 2) + (1 - (sl (h + 1)).val) + 1)))
      ∗ reached ER (cell (pv d c) (.crd d)) (2 * (h / 2) + (1 - (sl (h + 1)).val))) = _
  rw [if_neg (rcv_small hh), sl_succ, two_sl]
theorem pay_rcv_nx (d : Fin 2) (c : Dev nD) {h : ℕ} (hh : h ≤ 6) :
    kpay P (nx d c) (.rcv d (sl (h + 1))) (h / 2) 0
      = iprop(holds (slot (bufM d) (sl (h + 1))) (nx d c) fullShare (Wv P d c h) ∗ reached ER (cell c (.crd d)) h) := by
  rw [pay_rcv P d (nx d c) hh, Wv_nx, pv_nx]

theorem credit_slot : ∀ d i : Fin 2, (slot (bufM d) i).view.dmaCredit = NS := by
  intro d i; fin_cases d <;> rfl
theorem credit_half : ∀ d r i : Fin 2, (half (bufM d) r i).view.dmaCredit = NH := by
  intro d r i; fin_cases d <;> rfl

/-! ## Blocks of columns -/

/-- The word naming block `e`. -/
abbrev bv (e : Fin 16) : {v : BitVec 32 // k1_chk3 v} := ⟨BitVec.ofNat 32 e.val, chk_block e⟩
/-- Block `e` of the result. -/
abbrev blk (e : Fin 16) : Memref sig .tc .hbm S2048x512 .f32 := block outM (bv e).1 (bv e).2
/-- The position of the device `k` steps before `c`. -/
abbrev eb (d : Fin 2) (k : ℕ) (c : Dev nD) : Fin 16 := rank (back d k c)

theorem blk_pos (e : Fin 16) : 0 < (blk e).view.dmaCredit := View.dmaCredit_pos _ (by decide)

/-! ## What a device holds between hops -/

section Dir

variable (d : Fin 2) (c : Dev nD)

/-- The store of the sum before hop `h`, on its way. -/
def flying (h : ℕ) : sProp (MM F) :=
  Flight EC (c : Thread nD τ) (.dma (one (stM d) (sl (h + 1))).sem) 0 (blk (eb d h c)).view.dmaCredit
    iprop(holds (blk (eb d h c)) c fullShare (Wv P d c h) ∗ holds (slot (bufM d) (sl h)) c fullShare.right (Wv P d c h))

/-- Where the device's own cells stand. -/
def pos (h : ℕ) : sProp (MM F) :=
  iprop(atPos ER (cell c (.snd d (sl h))) (h / 2) ∅ 0 ∗ reached ER (cell c (.snd d (sl h))) (h / 2)
    ∗ atPos ER (cell c (.snd d (sl (h + 1)))) ((h + 1) / 2) ∅ 0 ∗ reached ER (cell c (.snd d (sl (h + 1)))) ((h + 1) / 2)
    ∗ atPos ER (cell c (.rcv d (sl (h + 1)))) (h / 2) ∅ 0
    ∗ atPos ER (cell c (.rcv d (sl h))) ((h + 1) / 2) ∅ 0 ∗ reached ER (cell c (.rcv d (sl h))) ((h + 1) / 2))

/-- What it holds before hop `h`, from the second on. -/
def St (h : ℕ) : sProp (MM F) :=
  iprop(holds (slot (bufM d) (sl h)) c fullShare.left (Wv P d c h) ∗ flying P d c h
    ∗ semVal ((c : Thread nD τ), .dma (one (stM d) (sl h)).sem) 0 ∗ pos d c h ∗ atPos ER (cell c (.crd d)) (h - 1) ∅ 0)

/-- What hop `h` uses up. -/
def toks (h : ℕ) : sProp (MM F) :=
  iprop(dutyTok ER (cell c (.snd d (sl h))) (h / 2) 0 ∗ dutyTok ER (cell (nx d c) (.rcv d (sl (h + 1)))) (h / 2) 0
    ∗ cred (tallyAt (cell c (.rcv d (sl (h + 1)))) (3 * h + 3) (amt h)))
/-- What giving credit `h` uses up. -/
def pays (h : ℕ) : sProp (MM F) := dutyTok ER (cell (pv d c) (.crd d)) h 0
/-- What awaiting credit `h` uses up. -/
def takes (h : ℕ) : sProp (MM F) := cred (tallyAt (cell c (.crd d)) (3 * h + 4) 1)

variable {d c}

/-- Await credit `g`. -/
theorem take_step {g : ℕ} (hg : g < 7) {O : CellTallies nD τ sig ℕ} (hO : Above (3 * g + 4) O) {Q : PUnit → sProp (MM F)} :
    iprop(ctx P Kn ∗ takes d c g ∗ owe c O ∗ atPos ER (cell c (.crd d)) g ∅ 0)
      ⊢ iprop((iprop(owe c O ∗ atPos ER (cell c (.crd d)) (g + 1) ∅ 0 ∗ reached ER (cell c (.crd d)) (g + 1) ∗ piece d (nx d c) g
            ∗ reached ER (cell (nx d c) (.rcv d (sl g))) ((g + 1) / 2)) -∗ Q ⟨⟩)
          -∗ run c (semWaitWord (crdM d).sem 1#32) Q) := by
  unfold semWaitWord takes
  have key := wait_step P Kn (c := c) (.crd d) g 1 (3 * g + 4) (w := .semWait (crdM d).sem (1#32).toNat)
    (wpE_semWait_eq 𝒱₀ (c : Thread nD τ) none Set.univ) (duties_crd d g hg) rfl (by omega) hO (Q := Q)
  have e : kpay P c (.crd d) g 0 = iprop(piece d (nx d c) g ∗ reached ER (cell (nx d c) (.rcv d (sl g))) ((g + 1) / 2)) := rfl
  rw [e] at key
  exact key

/-- Send the sum of hop `h`. -/
theorem hop_send {h : ℕ} (hh : h ≤ 6) {O₀ : CellTallies nD τ sig ℕ} (O : CellTallies nD τ sig ℕ)
    (hO : O₀ = O + tallyAt (cell (nx d c) (.rcv d (sl (h + 1)))) (3 * h + 3) (amt h)) {Q : PUnit → sProp (MM F)} :
    iprop(ctx P Kn ∗ holds (slot (bufM d) (sl h)) c fullShare.left (Wv P d c h) ∗ has (slot (bufM d) (sl (h + 1))) (nx d c)
        ∗ reached ER (cell c (.crd d)) h ∗ owe c O₀ ∗ dutyTok ER (cell c (.snd d (sl h))) (h / 2) 0 ∗ reached ER (cell c (.snd d (sl h))) (h / 2)
        ∗ dutyTok ER (cell (nx d c) (.rcv d (sl (h + 1)))) (h / 2) 0 ∗ reached ER (cell (nx d c) (.rcv d (sl (h + 1)))) (h / 2))
      ⊢ iprop((iprop(cred (tallyAt (cell c (.snd d (sl h))) 0 NS) ∗ owe c O) -∗ Q ⟨⟩)
          -∗ run c (send (bufM d) (sndM d) (rcvM d) (nx d c) (sl h) (sl (h + 1))) Q) := by
  unfold send
  exact send_step P Kn (ks := .snd d (sl h)) (kr := .rcv d (sl (h + 1))) rfl rfl (3 * h + 3) NS
    (by rw [duties_snd _ _ _ (by omega)]; exact Finset.mem_singleton_self _) (by rw [duties_rcv _ _ _ (by omega)]; exact Finset.mem_singleton_self _)
    (credit_slot _ _) (amount_snd d hh) (amount_rcv d hh) O (by rw [hO]; unfold amt; rw [if_neg (by omega)])
    (Entails.of_eq (pay_snd P d c hh).symm) (Entails.of_eq (pay_rcv_nx P d c hh).symm)

/-- Await that it is read, and that the sum of hop `h + 1` has arrived. -/
theorem hop_sent {h : ℕ} (hh : h ≤ 6) {O : CellTallies nD τ sig ℕ} (hO : Above 0 O) {Q : PUnit → sProp (MM F)} :
    iprop(ctx P Kn ∗ cred (tallyAt (cell c (.snd d (sl h))) 0 NS) ∗ owe c O ∗ atPos ER (cell c (.snd d (sl h))) (h / 2) ∅ 0)
      ⊢ iprop((iprop(owe c O ∗ atPos ER (cell c (.snd d (sl h))) (h / 2 + 1) ∅ 0 ∗ reached ER (cell c (.snd d (sl h))) (h / 2 + 1)
            ∗ holds (slot (bufM d) (sl h)) c fullShare.left (Wv P d c h)) -∗ Q ⟨⟩)
          -∗ run c (sentW (bufM d) (sndM d) (sl h) (sl (h + 1))) Q) := by
  have key := wait_step P Kn (c := c) (.snd d (sl h)) (h / 2) NS 0
    (w := .waitDma2 (one (sndM d) (sl h)).sem (slot (bufM d) (sl (h + 1))) (slot (bufM d) (sl h)) ((View.wordExact_bits rfl).reshape _ _) ((View.wordExact_bits rfl).reshape _ _))
    (fun K => by rw [← credit_slot d (sl h)]; rfl)
    (duties_snd d _ _ (by omega)) (amount_snd d hh).symm (by decide) hO (Q := Q)
  rw [pay_snd P d c hh] at key
  exact key

theorem hop_rcvd {h : ℕ} (hh : h ≤ 6) {O : CellTallies nD τ sig ℕ} (hO : Above (3 * h + 3) O) {Q : PUnit → sProp (MM F)} :
    iprop(ctx P Kn ∗ cred (tallyAt (cell c (.rcv d (sl (h + 1)))) (3 * h + 3) (amt h)) ∗ owe c O ∗ atPos ER (cell c (.rcv d (sl (h + 1)))) (h / 2) ∅ 0)
      ⊢ iprop((iprop(owe c O ∗ atPos ER (cell c (.rcv d (sl (h + 1)))) (h / 2 + 1) ∅ 0 ∗ reached ER (cell c (.rcv d (sl (h + 1)))) (h / 2 + 1)
            ∗ holds (slot (bufM d) (sl (h + 1))) c fullShare (Wv P d c (h + 1)) ∗ reached ER (cell (pv d c) (.crd d)) h) -∗ Q ⟨⟩)
          -∗ run c (rcvdW (bufM d) (rcvM d) (sl h) (sl (h + 1))) Q) := by
  have e : amt h = NS := if_neg (by omega)
  rw [e]
  have key := wait_step P Kn (c := c) (.rcv d (sl (h + 1))) (h / 2) NS (3 * h + 3)
    (w := .waitDma2 (one (rcvM d) (sl (h + 1))).sem (slot (bufM d) (sl h)) (slot (bufM d) (sl (h + 1))) ((View.wordExact_bits rfl).reshape _ _) ((View.wordExact_bits rfl).reshape _ _))
    (fun K => by rw [← credit_slot d (sl (h + 1))]; rfl)
    (duties_rcv d _ _ (by omega)) (amount_rcv d hh).symm (by omega) hO (Q := Q)
  rw [pay_rcv P d c hh] at key
  exact key

/-- Give credit `h`. -/
theorem give_step {h : ℕ} (hh : h < 7) {O₀ : CellTallies nD τ sig ℕ} (O : CellTallies nD τ sig ℕ)
    (hO : O₀ = O + tallyAt (cell (pv d c) (.crd d)) (3 * h + 4) 1) {Q : PUnit → sProp (MM F)} :
    iprop(ctx P Kn ∗ owe c O₀ ∗ pays d c h ∗ piece d c h ∗ reached ER (cell c (.rcv d (sl h))) ((h + 1) / 2) ∗ reached ER (cell (pv d c) (.crd d)) h)
      ⊢ iprop((owe c O -∗ Q ⟨⟩) -∗ run c (semSignalWord (pv d c) (crdM d).sem 1#32) Q) := by
  have key := signal_step P Kn (c := c) (c' := pv d c) (.crd d) h 0 (3 * h + 4) (sem := (crdM d).sem) rfl
    (by rw [duties_crd _ _ hh]; exact Finset.mem_singleton_self _) rfl O hO (Q := Q)
  have e : kpay P (pv d c) (.crd d) h 0 = iprop(piece d c h ∗ reached ER (cell c (.rcv d (sl h))) ((h + 1) / 2)) := by
    show iprop(piece d (nx d (pv d c)) h ∗ reached ER (cell (nx d (pv d c)) (.rcv d (sl h))) ((h + 1) / 2)) = _
    rw [nx_pv]
  rw [e] at key
  unfold pays
  iintro ⟨Hc, HO, Ht, Hp, Hr1, Hr2⟩
  iapply key
  isplitl [Hc]; · iexact Hc
  isplitl [HO]; · iexact HO
  isplitl [Ht]; · iexact Ht
  isplitl [Hp Hr1]; · isplitl [Hp] <;> iassumption
  iexact Hr2

/-- Read the number of a block of columns. -/
theorem block_step {M : Memref sig .tc .smem S20 .i32} {q : PosShare TreeShare} (n : Fin 20) (e : Fin 16) (hw : word c n = BitVec.ofNat 32 e.val)
    {Q : {v : BitVec 32 // k1_chk3 v} → sProp (MM F)} :
    (sched M c q : sProp (MM F)) ⊢ iprop((sched M c q -∗ Q (bv e)) -∗ run c (readBlock M n) Q) := by
  iintro H Hk
  unfold readBlock
  rw [run_bind]
  iapply (word_step n (word_inb n)) $$ H
  iintro H
  have hc : k1_chk3 (word c n) := by rw [hw]; exact chk_block e
  iapply (assume_step hc)
  iapply ret_step
  have e1 : (⟨word c n, hc⟩ : {v : BitVec 32 // k1_chk3 v}) = bv e := Subtype.ext hw
  rw [← e1]
  iapply Hk; iexact H

/-- Start the store of the sum of hop `h + 1`. -/
theorem hop_store {h : ℕ} {Q : PUnit → sProp (MM F)} :
    iprop(holds (slot (bufM d) (sl (h + 1))) c fullShare.right (Wv P d c (h + 1)) ∗ has (blk (eb d (h + 1) c)) c ∗ semVal ((c : Thread nD τ), .dma (one (stM d) (sl h)).sem) 0)
      ⊢ iprop((flying P d c (h + 1) -∗ Q ⟨⟩)
          -∗ run c (store (bufM d) outM (one (stM d) (sl h)) (sl (h + 1)) (bv (eb d (h + 1) c))) Q) := by
  unfold store flying
  rw [show sl (h + 1 + 1) = sl h from sl_two h]
  exact store_step (blk_pos _)

/-- Await the store of the sum of hop `h`. -/
theorem hop_stored {h : ℕ} {O : CellTallies nD τ sig ℕ} (hO : Above 0 O) {Q : PUnit → sProp (MM F)} :
    iprop(ctx P Kn ∗ flying P d c h ∗ owe c O)
      ⊢ iprop((iprop(holds (blk (eb d h c)) c fullShare (Wv P d c h) ∗ holds (slot (bufM d) (sl h)) c fullShare.right (Wv P d c h)
            ∗ semVal ((c : Thread nD τ), .dma (one (stM d) (sl (h + 1))).sem) 0 ∗ owe c O) -∗ Q ⟨⟩)
          -∗ run c (storeW (bufM d) outM (one (stM d) (sl (h + 1))) (sl h) (bv (eb d h c))) Q) := by
  unfold storeW flying
  iintro H Hk
  iapply (storeW_step P Kn hO) $$ H
  iintro ⟨⟨Hb, Hs⟩, Hv, HO⟩
  iapply Hk
  isplitl [Hb]; · iexact Hb
  isplitl [Hs]; · iexact Hs
  isplitl [Hv]; · iexact Hv
  iexact HO

end Dir

end Cert.KernelIdeal.Ring

end
-- ==== Proof.Hops.lean ====
/-
  A whole hop in both directions, from the second hop to the seventh.
-/
module

public import proofs.«01_k».proof.Proof.Hop

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Cert.KernelIdeal Cert.KernelIdeal.Gen

variable {F : FTy → Type} [FloatOps F]
variable (P : Dev nD → Vec F S4096x512 .f32) (Kn : GSem nD τ sig → ℕ)

/-! ## What is owed along a hop -/

section Owed

variable (c : Dev nD) {a b a' b' : ℕ}

theorem Ow_r0 (h : a < 8) : Ow c a b a' b' = Ow c (a + 1) b a' b' + tallyAt (cell (nx 0 c) (.rcv 0 (sl (a + 1)))) (3 * a + 3) (amt a) := by
  unfold Ow; rw [rO_step 0 c a h]; ac_rfl
theorem Ow_r1 (h : a' < 8) : Ow c a b a' b' = Ow c a b (a' + 1) b' + tallyAt (cell (nx 1 c) (.rcv 1 (sl (a' + 1)))) (3 * a' + 3) (amt a') := by
  unfold Ow; rw [rO_step 1 c a' h]; ac_rfl
theorem Ow_c0 (h : b < 7) : Ow c a b a' b' = Ow c a (b + 1) a' b' + tallyAt (cell (pv 0 c) (.crd 0)) (3 * b + 4) 1 := by
  unfold Ow; rw [cO_step 0 c b h]; ac_rfl
theorem Ow_c1 (h : b' < 7) : Ow c a b a' b' = Ow c a b a' (b' + 1) + tallyAt (cell (pv 1 c) (.crd 1)) (3 * b' + 4) 1 := by
  unfold Ow; rw [cO_step 1 c b' h]; ac_rfl

end Owed

section Dir

variable (d : Fin 2) (c : Dev nD)

/-- What the device holds of a direction while the copies of hop `h` are under way, apart from the store of hop `h`. -/
def out (h : ℕ) : sProp (MM F) :=
  iprop(cred (tallyAt (cell c (.snd d (sl h))) 0 NS) ∗ cred (tallyAt (cell c (.rcv d (sl (h + 1)))) (3 * h + 3) (amt h))
    ∗ atPos ER (cell c (.snd d (sl h))) (h / 2) ∅ 0
    ∗ atPos ER (cell c (.snd d (sl (h + 1)))) ((h + 1) / 2) ∅ 0 ∗ reached ER (cell c (.snd d (sl (h + 1)))) ((h + 1) / 2)
    ∗ atPos ER (cell c (.rcv d (sl (h + 1)))) (h / 2) ∅ 0
    ∗ atPos ER (cell c (.rcv d (sl h))) ((h + 1) / 2) ∅ 0 ∗ reached ER (cell c (.rcv d (sl h))) ((h + 1) / 2)
    ∗ atPos ER (cell c (.crd d)) h ∅ 0)

/-- What has come of them. -/
def back_in (h : ℕ) : sProp (MM F) :=
  iprop(holds (slot (bufM d) (sl h)) c fullShare.left (Wv P d c h) ∗ holds (slot (bufM d) (sl (h + 1))) c fullShare (Wv P d c (h + 1))
    ∗ reached ER (cell c (.rcv d (sl h))) ((h + 1) / 2) ∗ reached ER (cell (pv d c) (.crd d)) h
    ∗ pos d c (h + 1) ∗ atPos ER (cell c (.crd d)) h ∅ 0)

variable {d c}

/-- Send: from where the device's cells stand, with the credit in hand. -/
theorem out_step {h : ℕ} (hh : h ≤ 6) {O₀ : CellTallies nD τ sig ℕ} (O : CellTallies nD τ sig ℕ)
    (hO : O₀ = O + tallyAt (cell (nx d c) (.rcv d (sl (h + 1)))) (3 * h + 3) (amt h)) {Q : PUnit → sProp (MM F)} :
    iprop(ctx P Kn ∗ holds (slot (bufM d) (sl h)) c fullShare.left (Wv P d c h) ∗ pos d c h ∗ atPos ER (cell c (.crd d)) h ∅ 0 ∗ toks d c h
        ∗ has (slot (bufM d) (sl (h + 1))) (nx d c) ∗ reached ER (cell c (.crd d)) h ∗ reached ER (cell (nx d c) (.rcv d (sl (h + 1)))) (h / 2) ∗ owe c O₀)
      ⊢ iprop((iprop(out d c h ∗ owe c O) -∗ Q ⟨⟩) -∗ run c (send (bufM d) (sndM d) (rcvM d) (nx d c) (sl h) (sl (h + 1))) Q) := by
  unfold pos toks out
  iintro ⟨Hctx, Hs, ⟨Hs1, Hr1, Hs2, Hr2, Hv1, Hv2, Hr3⟩, Hc, ⟨Ht1, Ht2, Hcr⟩, Hd, Hr4, Hr5, HO⟩ Hk
  iapply (hop_send P Kn hh O hO) $$ [Hctx Hs Hd Hr4 HO Ht1 Hr1 Ht2 Hr5]
  · isplitl [Hctx]; · iexact Hctx
    isplitl [Hs]; · iexact Hs
    isplitl [Hd]; · iexact Hd
    isplitl [Hr4]; · iexact Hr4
    isplitl [HO]; · iexact HO
    isplitl [Ht1]; · iexact Ht1
    isplitl [Hr1]; · iexact Hr1
    isplitl [Ht2]; · iexact Ht2
    iexact Hr5
  iintro ⟨Hsc, HO⟩
  iapply Hk
  isplitr [HO]
  · isplitl [Hsc]; · iexact Hsc
    isplitl [Hcr]; · iexact Hcr
    isplitl [Hs1]; · iexact Hs1
    isplitl [Hs2]; · iexact Hs2
    isplitl [Hr2]; · iexact Hr2
    isplitl [Hv1]; · iexact Hv1
    isplitl [Hv2]; · iexact Hv2
    isplitl [Hr3]; · iexact Hr3
    iexact Hc
  iexact HO

/-- Await the credit and send. -/
theorem dir_out {g : ℕ} (hg : g ≤ 5) {O₀ : CellTallies nD τ sig ℕ} (O : CellTallies nD τ sig ℕ) (hA : Above (3 * g + 4) O₀)
    (hO : O₀ = O + tallyAt (cell (nx d c) (.rcv d (sl (g + 2)))) (3 * (g + 1) + 3) (amt (g + 1))) {α : Type}
    {K : TC F α} {Q : α → sProp (MM F)} :
    iprop(ctx P Kn ∗ St P d c (g + 1) ∗ takes d c g ∗ toks d c (g + 1) ∗ owe c O₀)
      ⊢ iprop((iprop(out d c (g + 1) ∗ flying P d c (g + 1) ∗ semVal ((c : Thread nD τ), .dma (one (stM d) (sl (g + 1))).sem) 0 ∗ owe c O) -∗ run c K Q)
          -∗ run c (semWaitWord (crdM d).sem 1#32 >>= fun _ => send (bufM d) (sndM d) (rcvM d) (nx d c) (sl (g + 1)) (sl (g + 2)) >>= fun _ => K) Q) := by
  unfold St
  iintro ⟨#Hctx, ⟨Hs, Hf, Hv, Hpos, Hc⟩, Ht, Htk, HO⟩ Hk
  rw [run_bind]
  iapply (take_step P Kn (by omega) hA) $$ [Ht HO Hc]
  · isplitr; · iexact Hctx
    isplitl [Ht]; · iexact Ht
    isplitl [HO]; · iexact HO
    iexact Hc
  iintro ⟨HO, Hc, Hr, Hp, Hr'⟩
  have e : (piece d (nx d c) g : sProp (MM F)) = has (slot (bufM d) (sl (g + 2))) (nx d c) := by
    unfold piece; rw [if_neg (by omega), sl_two]
  ihave Hp := (Entails.of_eq e) $$ Hp
  rw [run_bind]
  iapply (out_step P Kn (h := g + 1) (by omega) O hO) $$ [Hs Hpos Hc Htk Hp Hr Hr' HO]
  · isplitr; · iexact Hctx
    isplitl [Hs]; · iexact Hs
    isplitl [Hpos]; · iexact Hpos
    isplitl [Hc]; · iexact Hc
    isplitl [Htk]; · iexact Htk
    isplitl [Hp]; · iexact Hp
    isplitl [Hr]; · iexact Hr
    isplitl [Hr']
    · rw [show sl (g + 1 + 1) = sl g from sl_two g]; iexact Hr'
    iexact HO
  iintro ⟨Ho, HO⟩
  iapply Hk
  isplitl [Ho]; · iexact Ho
  isplitl [Hf]; · iexact Hf
  isplitl [Hv]; · iexact Hv
  iexact HO

/-- Await both copies. -/
theorem in_step {h : ℕ} (hh : h ≤ 6) {O : CellTallies nD τ sig ℕ} (hA : Above (3 * h + 3) O) (hA' : Above 0 O) {α : Type} {K : TC F α} {Q : α → sProp (MM F)} :
    iprop(ctx P Kn ∗ out d c h ∗ owe c O)
      ⊢ iprop((iprop(back_in P d c h ∗ owe c O) -∗ run c K Q)
          -∗ run c (sentW (bufM d) (sndM d) (sl h) (sl (h + 1)) >>= fun _ => rcvdW (bufM d) (rcvM d) (sl h) (sl (h + 1)) >>= fun _ => K) Q) := by
  unfold out back_in pos
  iintro ⟨#Hctx, ⟨Hsc, Hcr, Hs1, Hs2, Hr2, Hv1, Hv2, #Hr3, Hc⟩, HO⟩ Hk
  rw [run_bind]
  iapply (hop_sent P Kn hh hA') $$ [Hsc HO Hs1]
  · isplitr; · iexact Hctx
    isplitl [Hsc]; · iexact Hsc
    isplitl [HO]; · iexact HO
    iexact Hs1
  iintro ⟨HO, Hs1, Hr1, Hl⟩
  rw [run_bind]
  iapply (hop_rcvd P Kn hh hA) $$ [Hcr HO Hv1]
  · isplitr; · iexact Hctx
    isplitl [Hcr]; · iexact Hcr
    isplitl [HO]; · iexact HO
    iexact Hv1
  iintro ⟨HO, Hv1, Hr4, Hn, Hr5⟩
  iapply Hk
  isplitr [HO]
  · isplitl [Hl]; · iexact Hl
    isplitl [Hn]; · iexact Hn
    isplitr; · iexact Hr3
    isplitl [Hr5]; · iexact Hr5
    isplitr [Hc]
    · rw [show sl (h + 1 + 1) = sl h from sl_two h, show (h + 1 + 1) / 2 = h / 2 + 1 by omega]
      isplitl [Hs2]; · iexact Hs2
      isplitl [Hr2]; · iexact Hr2
      isplitl [Hs1]; · iexact Hs1
      isplitl [Hr1]; · iexact Hr1
      isplitl [Hv2]; · iexact Hv2
      isplitl [Hv1]; · iexact Hv1
      iexact Hr4
    iexact Hc
  iexact HO

/-- Give the credit and start the next store. -/
theorem next_step {h : ℕ} (hh : h < 7) {M : Memref sig .tc .smem S20 .i32} {q : PosShare TreeShare} {a : Fin 20} (ha : word c a = BitVec.ofNat 32 (eb d (h + 1) c).val)
    {Kp : sProp (MM F)} (hk : (has (slot (bufM d) (sl h)) c : sProp (MM F)) ⊢ iprop(piece d c h ∗ Kp))
    {O₀ : CellTallies nD τ sig ℕ} (O : CellTallies nD τ sig ℕ) (hO : O₀ = O + tallyAt (cell (pv d c) (.crd d)) (3 * h + 4) 1) {α : Type}
    {K : {v : BitVec 32 // k1_chk3 v} → TC F α} {Q : α → sProp (MM F)} :
    iprop(ctx P Kn ∗ sched M c q ∗ back_in P d c h ∗ holds (slot (bufM d) (sl h)) c fullShare.right (Wv P d c h) ∗ pays d c h ∗ has (blk (eb d (h + 1) c)) c
        ∗ semVal ((c : Thread nD τ), .dma (one (stM d) (sl h)).sem) 0 ∗ semVal ((c : Thread nD τ), .dma (one (stM d) (sl (h + 1))).sem) 0 ∗ owe c O₀)
      ⊢ iprop((iprop(sched M c q ∗ St P d c (h + 1) ∗ Kp ∗ owe c O) -∗ run c (K (bv (eb d (h + 1) c))) Q)
          -∗ run c (semSignalWord (pv d c) (crdM d).sem 1#32 >>= fun _ => readBlock M a >>= fun v =>
            store (bufM d) outM (one (stM d) (sl h)) (sl (h + 1)) v >>= fun _ => K v) Q) := by
  unfold back_in
  iintro ⟨#Hctx, Hw, ⟨Hl, Hn, Hr3, Hr5, Hpos, Hc⟩, Hr, Hpay, Hb, Hv, Hv', HO⟩ Hk
  ihave Hs := (holds_join (slot (bufM d) (sl h)) c (Wv P d c h)) $$ [Hl Hr]
  · isplitl [Hl] <;> iassumption
  ihave Hs := (has_of_holds (slot (bufM d) (sl h)) c (Wv P d c h)) $$ Hs
  ihave Hs := hk $$ Hs
  icases Hs with ⟨Hp, HK⟩
  rw [run_bind]
  iapply (give_step P Kn hh O hO) $$ [HO Hpay Hp Hr3 Hr5]
  · isplitr; · iexact Hctx
    isplitl [HO]; · iexact HO
    isplitl [Hpay]; · iexact Hpay
    isplitl [Hp]; · iexact Hp
    isplitl [Hr3]; · iexact Hr3
    iexact Hr5
  iintro HO
  rw [run_bind]
  iapply (block_step a _ ha) $$ Hw
  iintro Hw
  ihave Hn := (holds_split (slot (bufM d) (sl (h + 1))) c (Wv P d c (h + 1))) $$ Hn
  icases Hn with ⟨Hnl, Hnr⟩
  rw [run_bind]
  iapply (hop_store P (h := h)) $$ [Hnr Hb Hv]
  · isplitl [Hnr]; · iexact Hnr
    isplitl [Hb]; · iexact Hb
    iexact Hv
  iintro Hf
  iapply Hk
  isplitl [Hw]; · iexact Hw
  isplitr [HK HO]
  · unfold St
    isplitl [Hnl]; · iexact Hnl
    isplitl [Hf]; · iexact Hf
    isplitl [Hv']; · iexact Hv'
    isplitl [Hpos]; · iexact Hpos
    iexact Hc
  isplitl [HK]; · iexact HK
  iexact HO

/-- What follows the copies of a hop. -/
theorem dir_in {h : ℕ} (hh : h ≤ 6) {M : Memref sig .tc .smem S20 .i32} {q : PosShare TreeShare} {a : Fin 20} (ha : word c a = BitVec.ofNat 32 (eb d (h + 1) c).val)
    {Kp : sProp (MM F)} (hk : (has (slot (bufM d) (sl h)) c : sProp (MM F)) ⊢ iprop(piece d c h ∗ Kp))
    {O₀ : CellTallies nD τ sig ℕ} (O : CellTallies nD τ sig ℕ) (hO : O₀ = O + tallyAt (cell (pv d c) (.crd d)) (3 * h + 4) 1)
    (hA : Above (3 * h + 3) O₀) (hA' : Above 0 O₀) {α : Type} {K : {v : BitVec 32 // k1_chk3 v} → TC F α} {Q : α → sProp (MM F)} :
    iprop(ctx P Kn ∗ sched M c q ∗ out d c h ∗ flying P d c h ∗ pays d c h ∗ has (blk (eb d (h + 1) c)) c
        ∗ semVal ((c : Thread nD τ), .dma (one (stM d) (sl h)).sem) 0 ∗ owe c O₀)
      ⊢ iprop((iprop(sched M c q ∗ St P d c (h + 1) ∗ Kp ∗ holds (blk (eb d h c)) c fullShare (Wv P d c h) ∗ owe c O) -∗ run c (K (bv (eb d (h + 1) c))) Q)
          -∗ run c (sentW (bufM d) (sndM d) (sl h) (sl (h + 1)) >>= fun _ => rcvdW (bufM d) (rcvM d) (sl h) (sl (h + 1)) >>= fun _ =>
            storeW (bufM d) outM (one (stM d) (sl (h + 1))) (sl h) (bv (eb d h c)) >>= fun _ =>
            semSignalWord (pv d c) (crdM d).sem 1#32 >>= fun _ => readBlock M a >>= fun v =>
            store (bufM d) outM (one (stM d) (sl h)) (sl (h + 1)) v >>= fun _ => K v) Q) := by
  iintro ⟨#Hctx, Hw, Hout, Hf, Hpay, Hb, Hv, HO⟩ Hk
  iapply (in_step P Kn hh hA hA') $$ [Hout HO]
  · isplitr; · iexact Hctx
    isplitl [Hout]; · iexact Hout
    iexact HO
  iintro ⟨Hin, HO⟩
  rw [run_bind]
  iapply (hop_stored P Kn hA') $$ [Hf HO]
  · isplitr; · iexact Hctx
    isplitl [Hf]; · iexact Hf
    iexact HO
  iintro ⟨Hdone, Hr, Hv', HO⟩
  iapply (next_step P Kn (by omega) ha hk O hO) $$ [Hw Hin Hr Hpay Hb Hv Hv' HO]
  · isplitr; · iexact Hctx
    isplitl [Hw]; · iexact Hw
    isplitl [Hin]; · iexact Hin
    isplitl [Hr]; · iexact Hr
    isplitl [Hpay]; · iexact Hpay
    isplitl [Hb]; · iexact Hb
    isplitl [Hv]; · iexact Hv
    isplitl [Hv']; · iexact Hv'
    iexact HO
  iintro ⟨Hw, HSt, HK, HO⟩
  iapply Hk
  isplitl [Hw]; · iexact Hw
  isplitl [HSt]; · iexact HSt
  isplitl [HK]; · iexact HK
  isplitl [Hdone]; · iexact Hdone
  iexact HO

end Dir

/-! ## Both directions -/

/-- The neighbours, as the schedule's words name them. -/
def nbrs (c : Dev nD) : Nbrs c := ⟨word c 0, word c 1, chk_right c, word c 2, word c 3, chk_left c⟩

theorem nbrs_R (c : Dev nD) : (nbrs c).R = nx 0 c := dev_right c
theorem nbrs_L (c : Dev nD) : (nbrs c).L = nx 1 c := dev_left c

/-- The hop program at the kernel's own buffers and semaphores. -/
abbrev hopP (M : Memref sig .tc .smem S20 .i32) (c : Dev nD) (i j : Fin 2) (a b : Fin 20) (p : {v : BitVec 32 // k1_chk3 v} × {v : BitVec 32 // k1_chk3 v}) :
    TC F ({v : BitVec 32 // k1_chk3 v} × {v : BitVec 32 // k1_chk3 v}) :=
  hop M outM (bufM 1) (bufM 0) (sndM 0) (rcvM 0) (sndM 1) (rcvM 1) (stM 0) (stM 1) (crdM 0) (crdM 1) c (nbrs c) i j a b p

/-- The blocks of columns in flight before hop `h`. -/
abbrev blks (c : Dev nD) (h : ℕ) : {v : BitVec 32 // k1_chk3 v} × {v : BitVec 32 // k1_chk3 v} := (bv (eb 0 h c), bv (eb 1 h c))

/-- What a device holds before hop `h`, in both directions, with the schedule and what it owes. -/
def Both (M : Memref sig .tc .smem S20 .i32) (q : PosShare TreeShare) (c : Dev nD) (h : ℕ) : sProp (MM F) :=
  iprop(sched M c q ∗ St P 0 c h ∗ St P 1 c h ∗ owe c (Ow c h h h h))

/-- What hop `g + 1` uses up in a direction. -/
def uses (d : Fin 2) (c : Dev nD) (g : ℕ) : sProp (MM F) :=
  iprop(takes d c g ∗ toks d c (g + 1) ∗ pays d c (g + 1) ∗ has (blk (eb d (g + 2) c)) c)

/-- What it leaves done. -/
def done (d : Fin 2) (c : Dev nD) (h : ℕ) : sProp (MM F) := holds (blk (eb d h c)) c fullShare (Wv P d c h)

theorem hop_run {c : Dev nD} {M : Memref sig .tc .smem S20 .i32} {q : PosShare TreeShare} {g : ℕ} (hg : g ≤ 5) {a b : Fin 20}
    (ha : word c a = BitVec.ofNat 32 (eb 0 (g + 2) c).val) (hb : word c b = BitVec.ofNat 32 (eb 1 (g + 2) c).val) {Kp : Fin 2 → sProp (MM F)}
    (hk : ∀ d, (has (slot (bufM d) (sl (g + 1))) c : sProp (MM F)) ⊢ iprop(piece d c (g + 1) ∗ Kp d))
    {Q : {v : BitVec 32 // k1_chk3 v} × {v : BitVec 32 // k1_chk3 v} → sProp (MM F)} :
    iprop(ctx P Kn ∗ Both P M q c (g + 1) ∗ uses 0 c g ∗ uses 1 c g)
      ⊢ iprop((iprop(Both P M q c (g + 2) ∗ done P 0 c (g + 1) ∗ done P 1 c (g + 1) ∗ Kp 0 ∗ Kp 1) -∗ Q (blks c (g + 2)))
          -∗ run c (hopP M c (sl (g + 1)) (sl (g + 2)) a b (blks c (g + 1))) Q) := by
  unfold Both uses hopP hop done
  rw [nbrs_R, nbrs_L]
  iintro ⟨#Hctx, ⟨Hw, HS0, HS1, HO⟩, ⟨Ht0, Hk0, Hp0, Hb0⟩, ⟨Ht1, Hk1, Hp1, Hb1⟩⟩ Hk
  iapply (dir_out P Kn (d := 0) hg (Ow c (g + 2) (g + 1) (g + 1) (g + 1))
    (above_Ow c _ _ _ _ (by omega) (by omega) (by omega) (by omega)) (Ow_r0 c (by omega))) $$ [HS0 Ht0 Hk0 HO]
  · isplitr; · iexact Hctx
    isplitl [HS0]; · iexact HS0
    isplitl [Ht0]; · iexact Ht0
    isplitl [Hk0]; · iexact Hk0
    iexact HO
  iintro ⟨Ho0, Hf0, Hv0, HO⟩
  iapply (dir_out P Kn (d := 1) hg (Ow c (g + 2) (g + 1) (g + 2) (g + 1))
    (above_Ow c _ _ _ _ (by omega) (by omega) (by omega) (by omega)) (Ow_r1 c (by omega))) $$ [HS1 Ht1 Hk1 HO]
  · isplitr; · iexact Hctx
    isplitl [HS1]; · iexact HS1
    isplitl [Ht1]; · iexact Ht1
    isplitl [Hk1]; · iexact Hk1
    iexact HO
  iintro ⟨Ho1, Hf1, Hv1, HO⟩
  iapply (dir_in P Kn (d := 0) (h := g + 1) (by omega) ha (hk 0) (Ow c (g + 2) (g + 2) (g + 2) (g + 1)) (Ow_c0 c (by omega))
    (above_Ow c _ _ _ _ (by omega) (by omega) (by omega) (by omega)) (above_Ow c _ _ _ _ (by omega) (by omega) (by omega) (by omega))) $$ [Hw Ho0 Hf0 Hp0 Hb0 Hv0 HO]
  · isplitr; · iexact Hctx
    isplitl [Hw]; · iexact Hw
    isplitl [Ho0]; · iexact Ho0
    isplitl [Hf0]; · iexact Hf0
    isplitl [Hp0]; · iexact Hp0
    isplitl [Hb0]; · iexact Hb0
    isplitl [Hv0]; · iexact Hv0
    iexact HO
  iintro ⟨Hw, HS0, HK0, Hd0, HO⟩
  iapply (dir_in P Kn (d := 1) (h := g + 1) (by omega) hb (hk 1) (Ow c (g + 2) (g + 2) (g + 2) (g + 2)) (Ow_c1 c (by omega))
    (above_Ow c _ _ _ _ (by omega) (by omega) (by omega) (by omega)) (above_Ow c _ _ _ _ (by omega) (by omega) (by omega) (by omega))) $$ [Hw Ho1 Hf1 Hp1 Hb1 Hv1 HO]
  · isplitr; · iexact Hctx
    isplitl [Hw]; · iexact Hw
    isplitl [Ho1]; · iexact Ho1
    isplitl [Hf1]; · iexact Hf1
    isplitl [Hp1]; · iexact Hp1
    isplitl [Hb1]; · iexact Hb1
    isplitl [Hv1]; · iexact Hv1
    iexact HO
  iintro ⟨Hw, HS1, HK1, Hd1, HO⟩
  iapply ret_step
  iapply Hk
  isplitl [Hw HS0 HS1 HO]
  · isplitl [Hw]; · iexact Hw
    isplitl [HS0]; · iexact HS0
    isplitl [HS1]; · iexact HS1
    iexact HO
  isplitl [Hd0]; · iexact Hd0
  isplitl [Hd1]; · iexact Hd1
  isplitl [HK0]; · iexact HK0
  iexact HK1

end Cert.KernelIdeal.Ring

end
-- ==== Proof.Cut.lean ====
/-
  Cutting what a device holds of a buffer into parts, and joining the parts again.

  A part of a buffer is named by an embedding of its indices into the buffer's; slices and squeezed slices are such parts.
-/
module

public import proofs.«01_k».proof.Proof.Hops

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Cert.KernelIdeal Cert.KernelIdeal.Gen

variable {F : FTy → Type} [FloatOps F]

section Part

variable {sp : Space} {s s₀ s₁ : Shape} {e : EltTy} (b : Memref sig .tc sp s e) (c : Dev nD)

/-- The elements of a part. -/
abbrev under (j : s₁.Idx ↪ s.Idx) : Finset b.view.ty.Idx := Finset.univ.map (j.trans b.view.emb)

/-- Device `c` holds a share of a part of `b`, and it reads `v`. -/
def holdsE (q : PosShare TreeShare) (j : s₁.Idx ↪ s.Idx) (v : s₁.Idx → Elt F e) : sProp (MM F) :=
  iprop(∃ f : Buf (Elt F) (b.view.loc (c : Thread nD τ)), ⌜∀ x, b.view.read (Elt F) f (j x) = v x⌝ ∗ b.view.loc (c : Thread nD τ) ↦[under b j]{q} f)

theorem holds_slice (r : Rect s) (hr : ∀ a, r.stride a = 1) (q : PosShare TreeShare) (v : r.shape.Idx → Elt F e) :
    (holds (b.slice r hr) c q v : sProp (MM F)) = holdsE b c q r.emb v := by
  unfold holds holdsE
  simp only [funext_iff]
  rfl

theorem holds_squeeze (r : Rect s) (hr : ∀ a, r.stride a = 1) (hs : r.shape.Squeezes s₁) (q : PosShare TreeShare) (v : s₁.Idx → Elt F e) :
    (holds ((b.slice r hr).squeeze s₁ hs) c q v : sProp (MM F)) = holdsE b c q ((Shape.reshapeEquiv hs.numel_eq).toEmbedding.trans r.emb) v := by
  unfold holds holdsE
  simp only [funext_iff]
  rfl

theorem holds_whole (q : PosShare TreeShare) (v : s.Idx → Elt F e) :
    (holds b c q v : sProp (MM F)) = holdsE b c q (Function.Embedding.refl _) v := by
  unfold holds holdsE
  simp only [funext_iff]
  rfl

/-- To hold elements is to hold them at some contents. -/
theorem has_iff : (has b c : sProp (MM F)) = iprop(∃ v, holds b c fullShare v) := by
  refine Idealize.SL.BI.Entails.antisymm ?_ ?_
  · show (has b c : sProp (MM F)) ⊢ iprop(∃ v, holds b c fullShare v)
    unfold has holds
    iintro ⟨%f, H⟩
    iexists (b.view.read (Elt F) f); iexists f
    isplitr; · ipureintro; rfl
    iexact H
  · show iprop(∃ v, holds b c fullShare v) ⊢ (has b c : sProp (MM F))
    iintro ⟨%v, H⟩
    iapply (has_of_holds b c v); iexact H

variable {b c}

theorem holdsE_elim {q : PosShare TreeShare} {j : s₁.Idx ↪ s.Idx} {v : s₁.Idx → Elt F e} (g : Buf (Elt F) (b.view.loc (c : Thread nD τ)))
    (hg : ∀ x, b.view.read (Elt F) g (j x) = v x) : holdsE b c q j v ⊢ (b.view.loc (c : Thread nD τ) ↦[under b j]{q} g : sProp (MM F)) := by
  unfold holdsE
  iintro ⟨%f, %h, H⟩
  have key : ∀ i ∈ under b j, f i = g i := by
    intro i hi
    obtain ⟨x, -, rfl⟩ := Finset.mem_map.mp hi
    exact (cast_bijective _).1 ((h x).trans (hg x).symm)
  iapply (Entails.of_eq (pointsTo_congr key)) $$ H

theorem holdsE_intro {q : PosShare TreeShare} {j : s₁.Idx ↪ s.Idx} {v : s₁.Idx → Elt F e} (g : Buf (Elt F) (b.view.loc (c : Thread nD τ)))
    (hg : ∀ x, b.view.read (Elt F) g (j x) = v x) : (b.view.loc (c : Thread nD τ) ↦[under b j]{q} g : sProp (MM F)) ⊢ holdsE b c q j v := by
  unfold holdsE
  iintro H
  iexists g
  isplitr; · ipureintro; exact hg
  iexact H

/-- Contents that read `v` under an embedding. -/
theorem exists_contents [Nonempty (Elt F e)] (j : s₀.Idx ↪ s.Idx) (v : s₀.Idx → Elt F e) :
    ∃ g : Buf (Elt F) (b.view.loc (c : Thread nD τ)), ∀ y, b.view.read (Elt F) g (j y) = v y := by
  classical
  let f₀ : Buf (Elt F) (b.view.loc (c : Thread nD τ)) := fun _ => cast (congrArg (Elt F) b.view.elt_eq.symm) (Classical.choice inferInstance)
  refine ⟨b.view.write (Elt F) f₀ (fun z => if h : ∃ y, j y = z then v h.choose else b.view.read (Elt F) f₀ z) Finset.univ, fun y => ?_⟩
  rw [View.read_write_univ]
  have h : ∃ y', j y' = j y := ⟨y, rfl⟩
  show (if h : ∃ y', j y' = j y then v h.choose else _) = v y
  rw [dif_pos h, j.injective h.choose_spec]

variable [Nonempty (Elt F e)] {T : Type} [Fintype T] [DecidableEq T]

/-- A part is cut along a partition of its indices. -/
theorem holdsE_cut {q : PosShare TreeShare} (j : s₀.Idx ↪ s.Idx) (g : T → (s₁.Idx ↪ s₀.Idx))
    (hcov : ∀ y, ∃ t x, g t x = y) (hdis : ∀ t t' x x', g t x = g t' x' → t = t') (v : s₀.Idx → Elt F e) :
    (holdsE b c q j v : sProp (MM F)) = bigSep Finset.univ fun t => holdsE b c q ((g t).trans j) (fun x => v (g t x)) := by
  have hS : under b j = Finset.univ.biUnion fun t => under b ((g t).trans j) := by
    ext i
    constructor
    · intro hi
      obtain ⟨y, -, rfl⟩ := Finset.mem_map.mp hi
      obtain ⟨t, x, rfl⟩ := hcov y
      exact Finset.mem_biUnion.mpr ⟨t, Finset.mem_univ _, Finset.mem_map.mpr ⟨x, Finset.mem_univ _, rfl⟩⟩
    · intro hi
      obtain ⟨t, -, hi⟩ := Finset.mem_biUnion.mp hi
      obtain ⟨x, -, rfl⟩ := Finset.mem_map.mp hi
      exact Finset.mem_map.mpr ⟨g t x, Finset.mem_univ _, rfl⟩
  have hd : ∀ t ∈ (Finset.univ : Finset T), ∀ t' ∈ (Finset.univ : Finset T), t ≠ t' → Disjoint (under b ((g t).trans j)) (under b ((g t').trans j)) := by
    intro t _ t' _ hne
    rw [Finset.disjoint_left]
    intro i hi hi'
    obtain ⟨x, -, rfl⟩ := Finset.mem_map.mp hi
    obtain ⟨x', -, hx⟩ := Finset.mem_map.mp hi'
    exact hne (hdis t t' x x' ((j.trans b.view.emb).injective hx.symm))
  have hb := fun f : Buf (Elt F) (b.view.loc (c : Thread nD τ)) =>
    pointsTo_biUnion (ℓ := b.view.loc (c : Thread nD τ)) (q := q) (f := f) (Ix := ℕ) (Name := ℕ) (U := UU) (Lvl := ℕ) (Finset.univ : Finset T) (fun t => under b ((g t).trans j)) hd
  refine Idealize.SL.BI.Entails.antisymm ?_ ?_
  · show holdsE b c q j v ⊢ _
    unfold holdsE
    iintro ⟨%f, %h, H⟩
    have e1 : (b.view.loc (c : Thread nD τ) ↦[under b j]{q} f : sProp (MM F)) ⊢ bigSep Finset.univ fun t => holdsE b c q ((g t).trans j) (fun x => v (g t x)) := by
      rw [hS, hb f]
      exact bigSep_mono fun t _ => holdsE_intro f fun x => h (g t x)
    unfold holdsE at e1
    iapply e1 $$ H
  · obtain ⟨G, hG⟩ := exists_contents (F := F) (b := b) (c := c) j v
    refine (bigSep_mono fun t _ => holdsE_elim (v := fun x => v (g t x)) G fun x => hG (g t x)).trans ?_
    rw [← hb G, ← hS]
    exact holdsE_intro G hG

/-- The same with no contents named. -/
theorem hasE_join (j : s₀.Idx ↪ s.Idx) (g : T → (s₁.Idx ↪ s₀.Idx))
    (hcov : ∀ y, ∃ t x, g t x = y) (hdis : ∀ t t' x x', g t x = g t' x' → t = t') :
    (bigSep Finset.univ fun t => iprop(∃ v : s₁.Idx → Elt F e, holdsE b c fullShare ((g t).trans j) v)) ⊢ (iprop(∃ v, holdsE b c fullShare j v) : sProp (MM F)) := by
  classical
  refine (bigSep_exists_pi (Y := fun _ : T => (s₁.Idx → Elt F e)) Finset.univ (fun t v => holdsE b c fullShare ((g t).trans j) v)).trans ?_
  iintro ⟨%w, H⟩
  have hinj : ∀ t x t' x', g t x = g t' x' → w t x = w t' x' := by
    intro t x t' x' h
    obtain rfl := hdis t t' x x' h
    rw [(g t).injective h]
  iexists (fun y => w (hcov y).choose (hcov y).choose_spec.choose)
  have e1 := (holdsE_cut (F := F) (b := b) (c := c) (q := fullShare) j g hcov hdis (fun y => w (hcov y).choose (hcov y).choose_spec.choose))
  have e2 : ∀ t, (fun x => (fun y => w (hcov y).choose (hcov y).choose_spec.choose) (g t x)) = w t := fun t => funext fun x =>
    hinj _ _ _ _ (hcov (g t x)).choose_spec.choose_spec
  simp only [e2] at e1
  iapply (Entails.of_eq e1.symm) $$ H

end Part

/-! ## Slots and halves -/

instance nonempty_f32 : Nonempty (Elt F .f32) := ⟨(k0_pay1 (F := F) : FVec F S512x512 .f32) (fun a => ⟨0, by fin_cases a <;> decide⟩)⟩

theorem slot_numel : (S2048x512 : Shape).numel = (S1x2048x512 : Shape).numel := squeezes_S1x2048x512_S2048x512.numel_eq
theorem half_numel : (S1024x512 : Shape).numel = (S1x1024x512 : Shape).numel := squeezes_S1x1024x512_S1024x512.numel_eq

/-- Where slot `i`'s elements lie in a two-slot buffer. -/
def slotE (i : Fin 2) : S2048x512.Idx ↪ S2x2048x512.Idx :=
  (Shape.reshapeEquiv slot_numel).toEmbedding.trans (Rect.unit (s := S2x2048x512) ![i.val, 0, 0] S1x2048x512.size (slot_inb i)).emb
/-- Where half `r` of slot `i` lies. -/
def halfE (r i : Fin 2) : S1024x512.Idx ↪ S2x2048x512.Idx :=
  (Shape.reshapeEquiv half_numel).toEmbedding.trans (Rect.unit (s := S2x2048x512) ![i.val, 1024 * r.val, 0] S1x1024x512.size (half_inb i r)).emb

theorem slotE_val (i : Fin 2) (x : S2048x512.Idx) (a : Fin 3) : (slotE i x a).val = (![i.val, (x 0).val, (x 1).val] : Fin 3 → ℕ) a := by
  have h : Shape.reshapeEquiv slot_numel x = Fin.cons ⟨0, Nat.one_pos⟩ x := Shape.reshapeEquiv_cons_one (d := ![2048, 512]) slot_numel x
  show (![i.val, 0, 0] : Fin 3 → ℕ) a + 1 * (Shape.reshapeEquiv slot_numel x a).val = _
  rw [h]
  fin_cases a
  · rfl
  · show 0 + 1 * (x 0).val = (x 0).val; omega
  · show 0 + 1 * (x 1).val = (x 1).val; omega

/-- Where half `r` of a slot lies in it. -/
abbrev halfG (r : Fin 2) : S1024x512.Idx ↪ S2048x512.Idx := (halfR r).emb

theorem halfE_eq (r i : Fin 2) : halfE r i = (halfG r).trans (slotE i) := by
  refine Function.Embedding.ext fun x => funext fun a => Fin.ext ?_
  show (halfE r i x a).val = (slotE i ((halfR r).emb x) a).val
  rw [slotE_val]
  have h : Shape.reshapeEquiv half_numel x = Fin.cons ⟨0, Nat.one_pos⟩ x := Shape.reshapeEquiv_cons_one (d := ![1024, 512]) half_numel x
  show (![i.val, 1024 * r.val, 0] : Fin 3 → ℕ) a + 1 * (Shape.reshapeEquiv half_numel x a).val = _
  rw [h]
  fin_cases a
  · rfl
  · rfl
  · show 0 + 1 * (x 1).val = 0 + 1 * (x 1).val; rfl

theorem slots_cover (y : S2x2048x512.Idx) : ∃ (t : Fin 2) (x : S2048x512.Idx), slotE t x = y := by
  refine ⟨y 0, fun a => ⟨(y a.succ).val, by fin_cases a <;> exact (y _).isLt⟩, ?_⟩
  funext a
  refine Fin.ext ((slotE_val (y 0) _ a).trans ?_)
  fin_cases a <;> rfl

theorem slots_disjoint (t t' : Fin 2) (x x' : S2048x512.Idx) (h : slotE t x = slotE t' x') : t = t' := by
  have h0 := congrArg (fun y : S2x2048x512.Idx => (y 0).val) h
  simp only [slotE_val] at h0
  exact Fin.ext h0

theorem halves_cover (y : S2048x512.Idx) : ∃ (t : Fin 2) (x : S1024x512.Idx), halfG t x = y := by
  have h0 : (y 0).val < 2048 := (y 0).isLt
  have h1 : (y 1).val < 512 := (y 1).isLt
  refine ⟨⟨(y 0).val / 1024, by omega⟩, fun a => ⟨(![(y 0).val % 1024, (y 1).val] : Fin 2 → ℕ) a, by
    fin_cases a
    · exact Nat.mod_lt _ (by decide)
    · exact h1⟩, ?_⟩
  funext a
  refine Fin.ext ?_
  fin_cases a
  · show 1024 * ((y 0).val / 1024) + 1 * ((y 0).val % 1024) = (y 0).val; omega
  · show 0 + 1 * (y 1).val = (y 1).val; omega

theorem halves_disjoint (t t' : Fin 2) (x x' : S1024x512.Idx) (h : halfG t x = halfG t' x') : t = t' := by
  have h0 : 1024 * t.val + 1 * (x 0).val = 1024 * t'.val + 1 * (x' 0).val := congrArg (fun y : S2048x512.Idx => (y 0).val) h
  have h1 : (x 0).val < 1024 := (x 0).isLt
  have h2 : (x' 0).val < 1024 := (x' 0).isLt
  exact Fin.ext (by omega)

section Bufs

variable (b : Memref sig .tc .vmem S2x2048x512 .f32) (c : Dev nD)

theorem holds_slot (i : Fin 2) (q : PosShare TreeShare) (v : S2048x512.Idx → Elt F .f32) :
    (holds (slot b i) c q v : sProp (MM F)) = holdsE b c q (slotE i) v := holds_squeeze b c _ _ _ q v
theorem holds_half (r i : Fin 2) (q : PosShare TreeShare) (v : S1024x512.Idx → Elt F .f32) :
    (holds (half b r i) c q v : sProp (MM F)) = holdsE b c q ((halfG r).trans (slotE i)) v := by
  rw [← halfE_eq]; exact holds_squeeze b c _ _ _ q v

theorem two (Φ : Fin 2 → sProp (MM F)) : bigSep Finset.univ Φ = iprop(Φ 0 ∗ Φ 1) :=
  bigSep_univ_eq_bigSepL [(0 : Fin 2), (1 : Fin 2)] (by decide) (by decide) Φ

/-- A slot is its two halves. -/
theorem slot_halves (i : Fin 2) (q : PosShare TreeShare) (v : S2048x512.Idx → Elt F .f32) :
    (holds (slot b i) c q v : sProp (MM F)) = iprop(holds (half b 0 i) c q (part 0 v) ∗ holds (half b 1 i) c q (part 1 v)) := by
  rw [holds_slot, holdsE_cut (slotE i) halfG halves_cover halves_disjoint v, two, holds_half, holds_half]
  rfl

theorem has_split_slot (i : Fin 2) : (has (slot b i) c : sProp (MM F)) ⊢ iprop(has (half b 0 i) c ∗ has (half b 1 i) c) := by
  rw [has_iff (slot b i)]
  iintro ⟨%v, H⟩
  ihave H := (Entails.of_eq (slot_halves b c i fullShare v)) $$ H
  icases H with ⟨H0, H1⟩
  isplitl [H0]
  · iapply (has_of_holds (half b 0 i) c _) $$ H0
  · iapply (has_of_holds (half b 1 i) c _) $$ H1

theorem has_join_slot (i : Fin 2) : iprop(has (half b 0 i) c ∗ has (half b 1 i) c) ⊢ (has (slot b i) c : sProp (MM F)) := by
  have h := hasE_join (F := F) (b := b) (c := c) (slotE i) halfG halves_cover halves_disjoint
  rw [two] at h
  simp only [← holds_half, ← holds_slot] at h
  rw [has_iff (slot b i), has_iff (half b 0 i), has_iff (half b 1 i)]
  exact h

/-- A two-slot buffer is its two slots. -/
theorem has_split_buf : (has b c : sProp (MM F)) ⊢ iprop(has (slot b 0) c ∗ has (slot b 1) c) := by
  rw [has_iff b]
  iintro ⟨%v, H⟩
  have e : (holds b c fullShare v : sProp (MM F)) = iprop(holds (slot b 0) c fullShare (fun x => v (slotE 0 x)) ∗ holds (slot b 1) c fullShare (fun x => v (slotE 1 x))) := by
    rw [holds_whole, holdsE_cut (Function.Embedding.refl _) slotE slots_cover slots_disjoint v, two, holds_slot, holds_slot]
    rfl
  ihave H := (Entails.of_eq e) $$ H
  icases H with ⟨H0, H1⟩
  isplitl [H0]
  · iapply (has_of_holds (slot b 0) c _) $$ H0
  · iapply (has_of_holds (slot b 1) c _) $$ H1

theorem has_join_buf : iprop(has (slot b 0) c ∗ has (slot b 1) c) ⊢ (has b c : sProp (MM F)) := by
  have h := hasE_join (F := F) (b := b) (c := c) (Function.Embedding.refl _) slotE slots_cover slots_disjoint
  rw [two] at h
  rw [has_iff b, has_iff (slot b 0), has_iff (slot b 1)]
  simp only [holds_slot, holds_whole]
  exact h

end Bufs

end Cert.KernelIdeal.Ring

end
-- ==== Proof.Last.lean ====
/-
  The last hop: of half slots, after which the last two stores are awaited.
-/
module

public import proofs.«01_k».proof.Proof.Cut

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Cert.KernelIdeal Cert.KernelIdeal.Gen

variable {F : FTy → Type} [FloatOps F]
variable (P : Dev nD → Vec F S4096x512 .f32) (Kn : GSem nD τ sig → ℕ)

/-! ## The last round of the schedule -/

theorem pay_snd7 (d : Fin 2) (c : Dev nD) : kpay P c (.snd d 1) 3 0 = holds (half (bufM d) d 1) c fullShare.left (part d (Wv P d c 7)) := rfl
theorem pay_rcv7 (d : Fin 2) (c : Dev nD) :
    kpay P c (.rcv d 0) 3 0 = iprop(holds (half (bufM d) d 0) c fullShare (part d (Wv P d c 8)) ∗ reached ER (cell (pv d c) (.crd d)) 7) := rfl
theorem pay_rcv7_nx (d : Fin 2) (c : Dev nD) :
    kpay P (nx d c) (.rcv d 0) 3 0 = iprop(holds (half (bufM d) d 0) (nx d c) fullShare (part d (Wv P d c 7)) ∗ reached ER (cell c (.crd d)) 7) := by
  rw [pay_rcv7 P d (nx d c), Wv_nx, pv_nx]

theorem sep_swap (A B : sProp (MM F)) : iprop(A ∗ B) = iprop(B ∗ A) :=
  Idealize.SL.BI.Entails.antisymm (show iprop(A ∗ B) ⊢ iprop(B ∗ A) from sep_comm.1) (show iprop(B ∗ A) ⊢ iprop(A ∗ B) from sep_comm.1)

/-- The half of a slot that does not travel in the last hop. -/
abbrev oth (d : Fin 2) : Fin 2 := 1 - d

section Dir

variable (d : Fin 2) (c : Dev nD)

/-- What the device holds of a direction while the half slots travel. -/
def out7 : sProp (MM F) :=
  iprop(cred (tallyAt (cell c (.snd d 1)) 0 NH) ∗ cred (tallyAt (cell c (.rcv d 0)) 24 NH)
    ∗ holds (half (bufM d) (oth d) 1) c fullShare.left (part (oth d) (Wv P d c 7))
    ∗ atPos ER (cell c (.snd d 1)) 3 ∅ 0 ∗ atPos ER (cell c (.snd d 0)) 4 ∅ 0 ∗ atPos ER (cell c (.rcv d 0)) 3 ∅ 0 ∗ atPos ER (cell c (.rcv d 1)) 4 ∅ 0
    ∗ atPos ER (cell c (.crd d)) 7 ∅ 0)

/-- All the device's cells of a direction, after the last round. -/
def ended : sProp (MM F) :=
  iprop(atPos ER (cell c (.snd d 0)) 4 ∅ 0 ∗ atPos ER (cell c (.snd d 1)) 4 ∅ 0 ∗ atPos ER (cell c (.rcv d 0)) 4 ∅ 0 ∗ atPos ER (cell c (.rcv d 1)) 4 ∅ 0
    ∗ atPos ER (cell c (.crd d)) 7 ∅ 0)

/-- What is left of a direction once the halves have travelled. -/
def in7 : sProp (MM F) :=
  iprop(holds (slot (bufM d) 1) c fullShare.left (Wv P d c 7) ∗ holds (half (bufM d) d 0) c fullShare (part d (Wv P d c 8)) ∗ ended d c)

variable {d c}

theorem slot_halves' (q : PosShare TreeShare) (i : Fin 2) (v : S2048x512.Idx → Elt F .f32) :
    (holds (slot (bufM d) i) c q v : sProp (MM F)) = iprop(holds (half (bufM d) d i) c q (part d v) ∗ holds (half (bufM d) (oth d) i) c q (part (oth d) v)) := by
  rw [slot_halves]
  rcases (by revert d; decide : d = 0 ∨ d = 1) with rfl | rfl
  · rfl
  · exact sep_swap _ _

theorem has_split_slot' (i : Fin 2) : (has (slot (bufM d) i) c : sProp (MM F)) ⊢ iprop(has (half (bufM d) d i) c ∗ has (half (bufM d) (oth d) i) c) := by
  rcases (by revert d; decide : d = 0 ∨ d = 1) with rfl | rfl
  · exact has_split_slot _ _ _
  · exact (has_split_slot _ _ _).trans sep_comm.1

theorem has_join_slot' (i : Fin 2) : iprop(has (half (bufM d) d i) c ∗ has (half (bufM d) (oth d) i) c) ⊢ (has (slot (bufM d) i) c : sProp (MM F)) := by
  rcases (by revert d; decide : d = 0 ∨ d = 1) with rfl | rfl
  · exact has_join_slot _ _ _
  · exact sep_comm.1.trans (has_join_slot _ _ _)

theorem St_seven : St P d c 7 = iprop(holds (slot (bufM d) 1) c fullShare.left (Wv P d c 7) ∗ flying P d c 7
    ∗ semVal ((c : Thread nD τ), .dma (one (stM d) 1).sem) 0
    ∗ (atPos ER (cell c (.snd d 1)) 3 ∅ 0 ∗ reached ER (cell c (.snd d 1)) 3
      ∗ atPos ER (cell c (.snd d 0)) 4 ∅ 0 ∗ reached ER (cell c (.snd d 0)) 4
      ∗ atPos ER (cell c (.rcv d 0)) 3 ∅ 0 ∗ atPos ER (cell c (.rcv d 1)) 4 ∅ 0 ∗ reached ER (cell c (.rcv d 1)) 4)
    ∗ atPos ER (cell c (.crd d)) 6 ∅ 0) := rfl

theorem toks_seven : (toks d c 7 : sProp (MM F)) = iprop(dutyTok ER (cell c (.snd d 1)) 3 0 ∗ dutyTok ER (cell (nx d c) (.rcv d 0)) 3 0
    ∗ cred (tallyAt (cell c (.rcv d 0)) 24 NH)) := rfl

theorem piece_six (c : Dev nD) : (piece d c 6 : sProp (MM F)) = has (half (bufM d) d 0) c := rfl

/-- Await the last credit and send. -/
theorem dir_out7 {O₀ : CellTallies nD τ sig ℕ} (O : CellTallies nD τ sig ℕ) (hA : Above 22 O₀)
    (hO : O₀ = O + tallyAt (cell (nx d c) (.rcv d 0)) 24 NH) {α : Type} {K : TC F α} {Q : α → sProp (MM F)} :
    iprop(ctx P Kn ∗ St P d c 7 ∗ takes d c 6 ∗ toks d c 7 ∗ owe c O₀)
      ⊢ iprop((iprop(out7 P d c ∗ flying P d c 7 ∗ semVal ((c : Thread nD τ), .dma (one (stM d) 1).sem) 0 ∗ owe c O) -∗ run c K Q)
          -∗ run c (semWaitWord (crdM d).sem 1#32 >>= fun _ => sendH (bufM d) d (sndM d) (rcvM d) (nx d c) 1 0 >>= fun _ => K) Q) := by
  rw [St_seven, toks_seven]
  iintro ⟨#Hctx, ⟨Hs, Hf, Hv, ⟨Hs1, Hr1, Hs2, -, Hv1, Hv2, -⟩, Hc⟩, Ht, ⟨Ht1, Ht2, Hcr⟩, HO⟩ Hk
  rw [run_bind]
  iapply (take_step P Kn (d := d) (c := c) (g := 6) (by decide) hA) $$ [Ht HO Hc]
  · isplitr; · iexact Hctx
    isplitl [Ht]; · iexact Ht
    isplitl [HO]; · iexact HO
    iexact Hc
  iintro ⟨HO, Hc, Hr, Hp, Hr'⟩
  ihave Hp := (Entails.of_eq (piece_six (F := F) (d := d) (nx d c))) $$ Hp
  ihave Hs := (Entails.of_eq (slot_halves' (F := F) (d := d) (c := c) fullShare.left 1 (Wv P d c 7))) $$ Hs
  icases Hs with ⟨Hs, Ho⟩
  rw [run_bind]
  unfold sendH
  have key := send_step P Kn (c := c) (c' := nx d c) (ks := .snd d 1) (kr := .rcv d 0) (sS := (one (sndM d) 1).sem) (sR := (one (rcvM d) 0).sem) rfl rfl
    (src := half (bufM d) d 1) (dst := half (bufM d) d 0) (hsc := rfl) (hsrc := (View.wordExact_bits rfl).reshape _ _) (hdst := (View.wordExact_bits rfl).reshape _ _)
    (hsem := ⟨⟨rfl, Or.inl rfl⟩, trivial⟩) (r₁ := 3) (r₂ := 3) (q := fullShare.left) (v := part d (Wv P d c 7)) (X := reached ER (cell c (.crd d)) 7) 24 NH
    (by rw [duties_snd _ _ _ (by decide)]; exact Finset.mem_singleton_self _) (by rw [duties_rcv _ _ _ (by decide)]; exact Finset.mem_singleton_self _)
    (credit_half _ _ _) rfl rfl O hO (Entails.of_eq (pay_snd7 P d c).symm) (Entails.of_eq (pay_rcv7_nx P d c).symm)
    (Q := fun _ => run c K Q)
  iapply key $$ [Hs Hp Hr HO Ht1 Hr1 Ht2 Hr']
  · isplitr; · iexact Hctx
    isplitl [Hs]; · iexact Hs
    isplitl [Hp]; · iexact Hp
    isplitl [Hr]; · iexact Hr
    isplitl [HO]; · iexact HO
    isplitl [Ht1]; · iexact Ht1
    isplitl [Hr1]; · iexact Hr1
    isplitl [Ht2]; · iexact Ht2
    iexact Hr'
  iintro ⟨Hsc, HO⟩
  iapply Hk
  isplitr [Hf Hv HO]
  · unfold out7
    isplitl [Hsc]; · iexact Hsc
    isplitl [Hcr]; · iexact Hcr
    isplitl [Ho]; · iexact Ho
    isplitl [Hs1]; · iexact Hs1
    isplitl [Hs2]; · iexact Hs2
    isplitl [Hv1]; · iexact Hv1
    isplitl [Hv2]; · iexact Hv2
    iexact Hc
  isplitl [Hf]; · iexact Hf
  isplitl [Hv]; · iexact Hv
  iexact HO

/-- Await both copies, and the store of the sum before. -/
theorem dir_in7 {O : CellTallies nD τ sig ℕ} (hA : Above 24 O) (hA' : Above 0 O) {α : Type} {K : TC F α} {Q : α → sProp (MM F)} :
    iprop(ctx P Kn ∗ out7 P d c ∗ flying P d c 7 ∗ owe c O)
      ⊢ iprop((iprop(has (slot (bufM d) 1) c ∗ holds (half (bufM d) d 0) c fullShare (part d (Wv P d c 8)) ∗ ended d c ∗ done P d c 7
            ∗ semVal ((c : Thread nD τ), .dma (one (stM d) 0).sem) 0 ∗ owe c O) -∗ run c K Q)
          -∗ run c (sentHW (bufM d) d (sndM d) 1 0 >>= fun _ => rcvdHW (bufM d) d (rcvM d) 1 0 >>= fun _ =>
            storeW (bufM d) outM (one (stM d) 0) 1 (bv (eb d 7 c)) >>= fun _ => K) Q) := by
  unfold out7 ended done
  iintro ⟨#Hctx, ⟨Hsc, Hcr, Ho, Hs1, Hs0, Hv0, Hv1, Hc⟩, Hf, HO⟩ Hk
  have k1 := wait_step P Kn (c := c) (.snd d 1) 3 NH 0
    (w := .waitDma2 (one (sndM d) 1).sem (half (bufM d) d 0) (half (bufM d) d 1) ((View.wordExact_bits rfl).reshape _ _) ((View.wordExact_bits rfl).reshape _ _))
    (fun K => by rw [← credit_half d d 1]; rfl)
    (duties_snd d _ _ (by decide)) rfl (by decide) hA'
    (Q := fun _ => run c (rcvdHW (bufM d) d (rcvM d) 1 0 >>= fun _ => storeW (bufM d) outM (one (stM d) 0) 1 (bv (eb d 7 c)) >>= fun _ => K) Q)
  rw [pay_snd7 P d c] at k1
  have k2 := wait_step P Kn (c := c) (.rcv d 0) 3 NH 24
    (w := .waitDma2 (one (rcvM d) 0).sem (half (bufM d) d 1) (half (bufM d) d 0) ((View.wordExact_bits rfl).reshape _ _) ((View.wordExact_bits rfl).reshape _ _))
    (fun K => by rw [← credit_half d d 0]; rfl)
    (duties_rcv d _ _ (by decide)) rfl (by decide) hA
    (Q := fun _ => run c (storeW (bufM d) outM (one (stM d) 0) 1 (bv (eb d 7 c)) >>= fun _ => K) Q)
  rw [pay_rcv7 P d c] at k2
  rw [run_bind]
  unfold sentHW
  unfold rcvdHW at *
  iapply k1 $$ [Hsc HO Hs1]
  · isplitr; · iexact Hctx
    isplitl [Hsc]; · iexact Hsc
    isplitl [HO]; · iexact HO
    iexact Hs1
  iintro ⟨HO, Hs1, -, Hl⟩
  rw [run_bind]
  iapply k2 $$ [Hcr HO Hv0]
  · isplitr; · iexact Hctx
    isplitl [Hcr]; · iexact Hcr
    isplitl [HO]; · iexact HO
    iexact Hv0
  iintro ⟨HO, Hv0, -, Hn, -⟩
  rw [run_bind]
  iapply (hop_stored P Kn (d := d) (c := c) (h := 7) hA') $$ [Hf HO]
  · isplitr; · iexact Hctx
    isplitl [Hf]; · iexact Hf
    iexact HO
  iintro ⟨Hb, Hr, Hv, HO⟩
  iapply Hk
  isplitl [Hl Ho Hr]
  · iapply (has_of_holds (slot (bufM d) 1) c (Wv P d c 7))
    iapply (holds_join (slot (bufM d) 1) c (Wv P d c 7))
    isplitl [Hl Ho]
    · iapply (Entails.of_eq (slot_halves' (F := F) (d := d) (c := c) fullShare.left 1 (Wv P d c 7)).symm)
      isplitl [Hl]; · iexact Hl
      iexact Ho
    iexact Hr
  isplitl [Hn]; · iexact Hn
  isplitl [Hs0 Hs1 Hv0 Hv1 Hc]
  · isplitl [Hs0]; · iexact Hs0
    isplitl [Hs1]; · iexact Hs1
    isplitl [Hv0]; · iexact Hv0
    isplitl [Hv1]; · iexact Hv1
    iexact Hc
  isplitl [Hb]; · iexact Hb
  isplitl [Hv]; · iexact Hv
  iexact HO

end Dir

/-! ## Both directions -/

/-- The upper half of block `e` of the result, and the lower. -/
abbrev top (e : Fin 16) : Memref sig .tc .hbm S1024x512 .f32 := blockT outM (BitVec.ofNat 32 e.val) (chk_top e)
abbrev bot (e : Fin 16) : Memref sig .tc .hbm S1024x512 .f32 := blockB outM (BitVec.ofNat 32 e.val) (chk_bot e)

theorem top_pos (e : Fin 16) : 0 < (top e).view.dmaCredit := View.dmaCredit_pos _ (by decide)
theorem bot_pos (e : Fin 16) : 0 < (bot e).view.dmaCredit := View.dmaCredit_pos _ (by decide)

theorem word_step' {c : Dev nD} {M : Memref sig .tc .smem S20 .i32} {q : PosShare TreeShare} {k : ℕ} (n : Fin 20) (hn : n.val = k)
    {inb : ∀ a, (![k] : Fin 1 → Nat) a + S1.size a ≤ S20.size a} {Q : Elt F .i32 → sProp (MM F)} :
    (sched M c q : sProp (MM F)) ⊢ iprop((sched M c q -∗ Q (word c n)) -∗ run c (smemLoad M (Rect.unit (s := S20) ![k] S1.size inb) numel1_S1 rfl) Q) := by
  subst hn
  exact word_step n inb

/-- The last hop at the kernel's own buffers and semaphores. -/
abbrev hop7P (M : Memref sig .tc .smem S20 .i32) (c : Dev nD) (p : {v : BitVec 32 // k1_chk3 v} × {v : BitVec 32 // k1_chk3 v}) : TC F PUnit :=
  hop7 M outM (bufM 1) (bufM 0) (sndM 0) (rcvM 0) (sndM 1) (rcvM 1) (stM 0) (stM 1) (crdM 0) (crdM 1) c (nbrs c) p

/-- What is left of a direction at the end, apart from the last half block. -/
def rest (d : Fin 2) (c : Dev nD) : sProp (MM F) :=
  iprop(has (slot (bufM d) 1) c ∗ has (half (bufM d) d 0) c ∗ ended d c ∗ done P d c 7
    ∗ semVal ((c : Thread nD τ), .dma (one (stM d) 0).sem) 0 ∗ semVal ((c : Thread nD τ), .dma (one (stM d) 1).sem) 0)

theorem word_last0 : ∀ c : Dev nD, word c 11 = BitVec.ofNat 32 (eb 0 8 c).val := by decide
theorem word_last1 : ∀ c : Dev nD, word c 19 = BitVec.ofNat 32 (eb 1 8 c).val := by decide

theorem hop7_run {c : Dev nD} {M : Memref sig .tc .smem S20 .i32} {q : PosShare TreeShare} {Q : PUnit → sProp (MM F)} :
    iprop(ctx P Kn ∗ Both P M q c 7 ∗ (takes 0 c 6 ∗ toks 0 c 7) ∗ (takes 1 c 6 ∗ toks 1 c 7) ∗ has (top (eb 0 8 c)) c ∗ has (bot (eb 1 8 c)) c)
      ⊢ iprop((iprop(sched M c q ∗ rest P 0 c ∗ rest P 1 c ∗ holds (top (eb 0 8 c)) c fullShare (part 0 (Wv P 0 c 8))
            ∗ holds (bot (eb 1 8 c)) c fullShare (part 1 (Wv P 1 c 8)) ∗ owe c 0) -∗ Q ⟨⟩)
          -∗ run c (hop7P M c (blks c 7)) Q) := by
  have hz : Ow c 8 7 8 7 = 0 := by unfold Ow; rw [rO_end, cO_end, rO_end, cO_end]; simp only [add_zero]
  unfold Both hop7P hop7
  rw [nbrs_R, nbrs_L]
  iintro ⟨#Hctx, ⟨Hw, HS0, HS1, HO⟩, ⟨Ht0, Hk0⟩, ⟨Ht1, Hk1⟩, HT, HB⟩ Hk
  iapply (dir_out7 P Kn (d := 0) (Ow c 8 7 7 7) (above_Ow c _ _ _ _ (by omega) (by omega) (by omega) (by omega)) (Ow_r0 c (by omega))) $$ [HS0 Ht0 Hk0 HO]
  · isplitr; · iexact Hctx
    isplitl [HS0]; · iexact HS0
    isplitl [Ht0]; · iexact Ht0
    isplitl [Hk0]; · iexact Hk0
    iexact HO
  iintro ⟨Ho0, Hf0, Hv0, HO⟩
  iapply (dir_out7 P Kn (d := 1) (Ow c 8 7 8 7) (above_Ow c _ _ _ _ (by omega) (by omega) (by omega) (by omega)) (Ow_r1 c (by omega))) $$ [HS1 Ht1 Hk1 HO]
  · isplitr; · iexact Hctx
    isplitl [HS1]; · iexact HS1
    isplitl [Ht1]; · iexact Ht1
    isplitl [Hk1]; · iexact Hk1
    iexact HO
  iintro ⟨Ho1, Hf1, Hv1, HO⟩
  ihave HO := (Entails.of_eq (congrArg (owe (F := F) c) hz)) $$ HO
  iapply (dir_in7 P Kn (d := 0) (c := c) (O := 0) (above_zero _) (above_zero _)) $$ [Ho0 Hf0 HO]
  · isplitr; · iexact Hctx
    isplitl [Ho0]; · iexact Ho0
    isplitl [Hf0]; · iexact Hf0
    iexact HO
  iintro ⟨Hs0, Hh0, He0, Hd0, Hu0, HO⟩
  rw [run_bind]
  iapply (word_step' 11 rfl) $$ Hw
  iintro Hw
  rw [word_last0]
  iapply (assume_step (chk_top _))
  rw [run_bind]
  iapply (store_step (src := half (bufM 0) 0 0) (dst := top (eb 0 8 c)) (sm := (one (stM 0) 1).sem) (top_pos _)) $$ [Hh0 HT Hv0]
  · isplitl [Hh0]; · iexact Hh0
    isplitl [HT]; · iexact HT
    iexact Hv0
  iintro HF0
  iapply (dir_in7 P Kn (d := 1) (c := c) (O := 0) (above_zero _) (above_zero _)) $$ [Ho1 Hf1 HO]
  · isplitr; · iexact Hctx
    isplitl [Ho1]; · iexact Ho1
    isplitl [Hf1]; · iexact Hf1
    iexact HO
  iintro ⟨Hs1, Hh1, He1, Hd1, Hu1, HO⟩
  rw [run_bind]
  iapply (word_step' 19 rfl) $$ Hw
  iintro Hw
  rw [word_last1]
  iapply (assume_step (chk_bot _))
  rw [run_bind]
  iapply (store_step (src := half (bufM 1) 1 0) (dst := bot (eb 1 8 c)) (sm := (one (stM 1) 1).sem) (bot_pos _)) $$ [Hh1 HB Hv1]
  · isplitl [Hh1]; · iexact Hh1
    isplitl [HB]; · iexact HB
    iexact Hv1
  iintro HF1
  rw [run_bind]
  iapply (storeW_step P Kn (O := 0) (above_zero _)) $$ [HF0 HO]
  · isplitr; · iexact Hctx
    isplitl [HF0]; · iexact HF0
    iexact HO
  iintro ⟨⟨HT, Hh0⟩, Hv0, HO⟩
  iapply (storeW_step P Kn (O := 0) (above_zero _)) $$ [HF1 HO]
  · isplitr; · iexact Hctx
    isplitl [HF1]; · iexact HF1
    iexact HO
  iintro ⟨⟨HB, Hh1⟩, Hv1, HO⟩
  iapply Hk
  unfold rest
  isplitl [Hw]; · iexact Hw
  isplitl [Hs0 Hh0 He0 Hd0 Hu0 Hv0]
  · isplitl [Hs0]; · iexact Hs0
    isplitl [Hh0]; · iapply (has_of_holds (half (bufM 0) 0 0) c _) $$ Hh0
    isplitl [He0]; · iexact He0
    isplitl [Hd0]; · iexact Hd0
    isplitl [Hu0]; · iexact Hu0
    iexact Hv0
  isplitl [Hs1 Hh1 He1 Hd1 Hu1 Hv1]
  · isplitl [Hs1]; · iexact Hs1
    isplitl [Hh1]; · iapply (has_of_holds (half (bufM 1) 1 0) c _) $$ Hh1
    isplitl [He1]; · iexact He1
    isplitl [Hd1]; · iexact Hd1
    isplitl [Hu1]; · iexact Hu1
    iexact Hv1
  isplitl [HT]; · iexact HT
  isplitl [HB]; · iexact HB
  iexact HO

end Cert.KernelIdeal.Ring

end
-- ==== Proof.First.lean ====
/-
  The start of a device: it reads its neighbours, tells its three partners that it has entered,
  exchanges rows with the device across `x`, sums up, and makes the first hop.
-/
module

public import proofs.«01_k».proof.Proof.Last
public import Idealize.ShloMosaic.Lib.Pipeline.Value

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Cert.KernelIdeal Cert.KernelIdeal.Gen

variable {F : FTy → Type} [FloatOps F]
variable (P : Dev nD → Vec F S4096x512 .f32) (Kn : GSem nD τ sig → ℕ)

/-! ## The neighbours -/

theorem nbrs_step {c : Dev nD} {M : Memref sig .tc .smem S20 .i32} {q : PosShare TreeShare} {Q : Nbrs c → sProp (MM F)} :
    (sched M c q : sProp (MM F)) ⊢ iprop((sched M c q -∗ Q (nbrs c)) -∗ run c (readNbrs M c) Q) := by
  unfold readNbrs
  iintro Hw Hk
  rw [run_bind]
  iapply (word_step' 0 rfl) $$ Hw
  iintro Hw
  rw [run_bind]
  iapply (word_step' 1 rfl) $$ Hw
  iintro Hw
  iapply (assume_step (chk_right c))
  rw [run_bind]
  iapply (word_step' 2 rfl) $$ Hw
  iintro Hw
  rw [run_bind]
  iapply (word_step' 3 rfl) $$ Hw
  iintro Hw
  iapply (assume_step (chk_left c))
  iapply ret_step
  rw [show (⟨word c 0, word c 1, chk_right c, word c 2, word c 3, chk_left c⟩ : Nbrs c) = nbrs c from rfl]
  iapply Hk
  iexact Hw

/-! ## The barrier -/

/-- What the barrier of device `c` gives: its partners' empty buffers. -/
def met (c : Dev nD) : sProp (MM F) :=
  iprop((has rxM (across c) ∗ reached ER (cell (across c) .xr) 0) ∗ (has (slot (bufM 0) 1) (nx 0 c) ∗ reached ER (cell (nx 0 c) (.rcv 0 1)) 0)
    ∗ (has (slot (bufM 1) 1) (nx 1 c) ∗ reached ER (cell (nx 1 c) (.rcv 1 1)) 0))

/-- What entering uses up. -/
def enters (c : Dev nD) : sProp (MM F) :=
  iprop(dutyTok ER (cell (across c) .bar) 0 0 ∗ dutyTok ER (cell (nx 1 c) .bar) 0 1 ∗ dutyTok ER (cell (nx 0 c) .bar) 0 2
    ∗ cred (tallyAt (cell c .bar) 1 3) ∗ atPos ER (cell c .bar) 0 ∅ 0
    ∗ reached ER (cell c .xr) 0 ∗ reached ER (cell c (.rcv 0 1)) 0 ∗ reached ER (cell c (.rcv 1 1)) 0)

theorem pay_bar0 (c : Dev nD) : kpay P (across c) .bar 0 0 = iprop(has rxM c ∗ reached ER (cell c .xr) 0) := by
  show iprop(has rxM (across (across c)) ∗ reached ER (cell (across (across c)) .xr) 0) = _
  rw [across_across]
theorem pay_bar1 (c : Dev nD) : kpay P (nx 1 c) .bar 0 1 = iprop(has (slot (bufM 0) 1) c ∗ reached ER (cell c (.rcv 0 1)) 0) := by
  show iprop(has (slot (bufM 0) 1) (nx 0 (pv 0 c)) ∗ reached ER (cell (nx 0 (pv 0 c)) (.rcv 0 1)) 0) = _
  rw [nx_pv]
theorem pay_bar2 (c : Dev nD) : kpay P (nx 0 c) .bar 0 2 = iprop(has (slot (bufM 1) 1) c ∗ reached ER (cell c (.rcv 1 1)) 0) := by
  show iprop(has (slot (bufM 1) 1) (nx 1 (pv 1 c)) ∗ reached ER (cell (nx 1 (pv 1 c)) (.rcv 1 1)) 0) = _
  rw [nx_pv]

/-- What device `c` owes its partners' barriers, over `O`. -/
def owesBar (c : Dev nD) (O : CellTallies nD τ sig ℕ) : CellTallies nD τ sig ℕ :=
  O + tallyAt (cell (nx 0 c) .bar) 1 1 + tallyAt (cell (nx 1 c) .bar) 1 1 + tallyAt (cell (across c) .bar) 1 1

theorem enter_step {c : Dev nD} {O : CellTallies nD τ sig ℕ} (hO : Above 1 O) {Q : PUnit → sProp (MM F)} :
    iprop(ctx P Kn ∗ owe c (owesBar c O) ∗ enters c ∗ has rxM c ∗ has (slot (bufM 0) 1) c ∗ has (slot (bufM 1) 1) c)
      ⊢ iprop((iprop(owe c O ∗ atPos ER (cell c .bar) 1 ∅ 0 ∗ met c) -∗ Q ⟨⟩) -∗ run c (enter c (nbrs c)) Q) := by
  unfold enter enters met
  rw [nbrs_R, nbrs_L]
  iintro ⟨#Hctx, HO, ⟨Ht0, Ht1, Ht2, Hc, Hat, #HR0, #HR1, #HR2⟩, Hrx, Hb0, Hb1⟩ Hk
  rw [run_bind]
  iapply (signal_step P Kn (c := c) (c' := across c) .bar 0 0 1 rfl (by decide) rfl
    (O + tallyAt (cell (nx 0 c) .bar) 1 1 + tallyAt (cell (nx 1 c) .bar) 1 1) rfl) $$ [HO Ht0 Hrx]
  · isplitr; · iexact Hctx
    isplitl [HO]; · iexact HO
    isplitl [Ht0]; · iexact Ht0
    isplitl [Hrx]
    · iapply (Entails.of_eq (pay_bar0 P c).symm)
      isplitl [Hrx]; · iexact Hrx
      iexact HR0
    iapply (ctx_bar P Kn (across c)); iexact Hctx
  iintro HO
  rw [run_bind]
  iapply (signal_step P Kn (c := c) (c' := nx 1 c) .bar 0 1 1 rfl (by decide) rfl
    (O + tallyAt (cell (nx 0 c) .bar) 1 1) rfl) $$ [HO Ht1 Hb0]
  · isplitr; · iexact Hctx
    isplitl [HO]; · iexact HO
    isplitl [Ht1]; · iexact Ht1
    isplitl [Hb0]
    · iapply (Entails.of_eq (pay_bar1 P c).symm)
      isplitl [Hb0]; · iexact Hb0
      iexact HR1
    iapply (ctx_bar P Kn (nx 1 c)); iexact Hctx
  iintro HO
  rw [run_bind]
  iapply (signal_step P Kn (c := c) (c' := nx 0 c) .bar 0 2 1 rfl (by decide) rfl O rfl) $$ [HO Ht2 Hb1]
  · isplitr; · iexact Hctx
    isplitl [HO]; · iexact HO
    isplitl [Ht2]; · iexact Ht2
    isplitl [Hb1]
    · iapply (Entails.of_eq (pay_bar2 P c).symm)
      isplitl [Hb1]; · iexact Hb1
      iexact HR2
    iapply (ctx_bar P Kn (nx 0 c)); iexact Hctx
  iintro HO
  iapply (bar_step P Kn hO) $$ [HO Hc Hat]
  · isplitr; · iexact Hctx
    isplitl [Hc]; · iexact Hc
    isplitl [HO]; · iexact HO
    iexact Hat
  iintro ⟨HO, Hat, Hp0, Hp1, Hp2⟩
  have e0 : kpay P c .bar 0 0 = iprop(has rxM (across c) ∗ reached ER (cell (across c) .xr) 0) := rfl
  have e1 : kpay P c .bar 0 1 = iprop(has (slot (bufM 0) 1) (nx 0 c) ∗ reached ER (cell (nx 0 c) (.rcv 0 1)) 0) := rfl
  have e2 : kpay P c .bar 0 2 = iprop(has (slot (bufM 1) 1) (nx 1 c) ∗ reached ER (cell (nx 1 c) (.rcv 1 1)) 0) := rfl
  ihave Hp0 := (Entails.of_eq e0) $$ Hp0
  ihave Hp1 := (Entails.of_eq e1) $$ Hp1
  ihave Hp2 := (Entails.of_eq e2) $$ Hp2
  iapply Hk
  isplitl [HO]; · iexact HO
  isplitl [Hat]; · iexact Hat
  isplitl [Hp0]; · iexact Hp0
  isplitl [Hp1]; · iexact Hp1
  iexact Hp2

/-! ## The exchange -/

/-- The rows of device `c`'s partial product that it reads, at the shares it reads them with. -/
def source (c : Dev nD) : sProp (MM F) :=
  iprop(holds (rowsX c) c fullShare.left ((rowsX c).view.read (Elt F) (P c)) ∗ holds (rowsO c) c fullShare.right ((rowsO c).view.read (Elt F) (P c)))

/-- What the exchange uses up. -/
def exchanges (c : Dev nD) : sProp (MM F) :=
  iprop(dutyTok ER (cell c .xs) 0 0 ∗ dutyTok ER (cell (across c) .xr) 0 0 ∗ cred (tallyAt (cell c .xr) 2 NX)
    ∗ atPos ER (cell c .xs) 0 ∅ 0 ∗ atPos ER (cell c .xr) 0 ∅ 0 ∗ reached ER (cell c .xs) 0)

theorem own_pos : 0 < (ownM : Memref sig .tc .vmem S2048x512 .f32).view.dmaCredit := View.dmaCredit_pos _ (by decide)

theorem pay_xr (c : Dev nD) : kpay P (across c) .xr 0 0 = holds rxM (across c) fullShare ((rowsX c).view.read (Elt F) (P c)) := by
  show holds rxM (across c) fullShare ((rowsX (across (across c))).view.read (Elt F) (P (across (across c)))) = _
  rw [across_across]

/-- The exchange at the kernel's own buffers and semaphores. -/
abbrev exchangeP (c : Dev nD) : TC F PUnit :=
  exchange pM ownM (Memref.isWhole_whole _) rxM (Memref.isWhole_whole _) cc1_scratch8 cc1_scratch9 cc1_scratch10 c

theorem exchange_step {c : Dev nD} {O : CellTallies nD τ sig ℕ} (hO : Above 2 O) (hO0 : Above 0 O) {Q : PUnit → sProp (MM F)} :
    iprop(ctx P Kn ∗ owe c (O + tallyAt (cell (across c) .xr) 2 NX) ∗ source P c ∗ exchanges c ∗ (has rxM (across c) ∗ reached ER (cell (across c) .xr) 0) ∗ has ownM c
        ∗ semVal ((c : Thread nD τ), .dma cc1_scratch10.sem) 0)
      ⊢ iprop((iprop(owe c O ∗ source P c ∗ holds ownM c fullShare ((rowsO c).view.read (Elt F) (P c))
            ∗ holds rxM c fullShare ((rowsX (across c)).view.read (Elt F) (P (across c)))
            ∗ atPos ER (cell c .xs) 1 ∅ 0 ∗ atPos ER (cell c .xr) 1 ∅ 0 ∗ semVal ((c : Thread nD τ), .dma cc1_scratch10.sem) 0) -∗ Q ⟨⟩)
          -∗ run c (exchangeP c) Q) := by
  unfold exchangeP exchange source exchanges
  iintro ⟨#Hctx, HO, ⟨HX, HOw⟩, ⟨Ht1, Ht2, Hcr, Hs, Hr, #HR⟩, ⟨Hrx, #HR'⟩, Hown, Hv⟩ Hk
  rw [run_bind]
  have hp : iprop(holds rxM (across c) fullShare ((rowsX c).view.read (Elt F) (P c)) ∗ reached ER (cell c .xs) 0) ⊢ kpay P (across c) .xr 0 0 := by
    rw [pay_xr]
    iintro ⟨H, -⟩
    iexact H
  iapply (send_step P Kn (ks := .xs) (kr := .xr) rfl rfl (src := rowsX c) (dst := rxM) (q := fullShare.left)
    (v := (rowsX c).view.read (Elt F) (P c)) (X := reached ER (cell c .xs) 0) (r₁ := 0) (r₂ := 0) 2 NX (by decide) (by decide) rfl rfl rfl O rfl
    (Entails.of_eq rfl) hp) $$ [HX Hrx HO Ht1 Ht2]
  · isplitr; · iexact Hctx
    isplitl [HX]; · iexact HX
    isplitl [Hrx]; · iexact Hrx
    isplitr; · iexact HR
    isplitl [HO]; · iexact HO
    isplitl [Ht1]; · iexact Ht1
    isplitr; · iexact HR
    isplitl [Ht2]; · iexact Ht2
    iexact HR'
  iintro ⟨Hcs, HO⟩
  rw [run_bind]
  iapply (store_step (src := rowsO c) (dst := ownM) (sm := cc1_scratch10.sem) own_pos) $$ [HOw Hown Hv]
  · isplitl [HOw]; · iexact HOw
    isplitl [Hown]; · iexact Hown
    iexact Hv
  iintro HF
  rw [run_bind]
  iapply (storeW_step P Kn hO0) $$ [HF HO]
  · isplitr; · iexact Hctx
    isplitl [HF]; · iexact HF
    iexact HO
  iintro ⟨⟨Hown, HOw⟩, Hv, HO⟩
  rw [run_bind]
  have k1 := wait_step P Kn (c := c) .xs 0 NX 0
    (w := .waitDma2 cc1_scratch8.sem rxM (rowsX c) (Memref.isWhole_whole _).wordExact (View.wordExact_bits rfl))
    (fun K => rfl) rfl rfl (by decide) hO0
    (Q := fun _ => run c (Prog.lift (.waitDma2 cc1_scratch9.sem (rowsX c) rxM (View.wordExact_bits rfl) (Memref.isWhole_whole _).wordExact)) Q)
  iapply k1 $$ [Hcs HO Hs]
  · isplitr; · iexact Hctx
    isplitl [Hcs]; · iexact Hcs
    isplitl [HO]; · iexact HO
    iexact Hs
  iintro ⟨HO, Hs, -, HX⟩
  have k2 := wait_step P Kn (c := c) .xr 0 NX 2
    (w := .waitDma2 cc1_scratch9.sem (rowsX c) rxM (View.wordExact_bits rfl) (Memref.isWhole_whole _).wordExact)
    (fun K => rfl) rfl rfl (by decide) hO (Q := Q)
  iapply k2 $$ [Hcr HO Hr]
  · isplitr; · iexact Hctx
    isplitl [Hcr]; · iexact Hcr
    isplitl [HO]; · iexact HO
    iexact Hr
  iintro ⟨HO, Hr, -, Hrx⟩
  have e1 : kpay P c .xs 0 0 = holds (rowsX c) c fullShare.left ((rowsX c).view.read (Elt F) (P c)) := rfl
  have e2 : kpay P c .xr 0 0 = holds rxM c fullShare ((rowsX (across c)).view.read (Elt F) (P (across c))) := rfl
  ihave HX := (Entails.of_eq e1) $$ HX
  ihave Hrx := (Entails.of_eq e2) $$ Hrx
  iapply Hk
  isplitl [HO]; · iexact HO
  isplitl [HX HOw]
  · isplitl [HX]; · iexact HX
    iexact HOw
  isplitl [Hown]; · iexact Hown
  isplitl [Hrx]; · iexact Hrx
  isplitl [Hs]; · iexact Hs
  isplitl [Hr]; · iexact Hr
  iexact Hv

/-! ## The sum -/

abbrev rect0 : Rect S2048x512 := Rect.unit (s := S2048x512) ![0, 0] S2048x512.size inb_S2048x512_S2048x512_0_0
abbrev rectS : Rect S2x2048x512 := Rect.unit (s := S2x2048x512) ![0, 0, 0] S1x2048x512.size inb_S2x2048x512_S1x2048x512_0_0_0

theorem rect0_emb (x : S2048x512.Idx) : rect0.emb x = x := by
  refine funext fun a => Fin.ext ?_
  rw [Rect.emb_apply]
  show (![0, 0] : Fin 2 → ℕ) a + 1 * (x a).val = (x a).val
  have h : (![0, 0] : Fin 2 → ℕ) a = 0 := by fin_cases a <;> rfl
  omega

/-- Load a buffer whole. -/
theorem load_step {c : Dev nD} {b : Memref sig .tc .vmem S2048x512 .f32} {hl : b.view.LoadsAt rect0.toLoadRect} {v : S2048x512.Idx → Elt F .f32}
    {Q : (S2048x512.Idx → Elt F .f32) → sProp (MM F)} :
    (holds b c fullShare v : sProp (MM F)) ⊢ iprop((holds b c fullShare v -∗ Q v) -∗ run c (Prog.lift (.load b rect0.toLoadRect hl)) Q) := by
  iintro H Hk
  unfold holds
  icases H with ⟨%f, %hf, H⟩
  iapply (wp_load_rect 𝒱₀ (c : Thread nD τ) none Set.univ (m := b) (r := rect0) (hl := hl) (f := f) (S := b.view.set) (q := fullShare) (View.set_slice_subset _ _)) $$ H
  iintro H
  rw [wp_ret]
  imodintro
  have hv : (b.access rect0).read (Elt F) f = v := funext fun x => (congrArg (b.view.read (Elt F) f) (rect0_emb x)).trans (congrFun hf x)
  rw [hv]
  iapply Hk
  iexists f; isplitr; · ipureintro; exact hf
  iexact H

/-- The indices of a slot, as those of the rectangle that holds it. -/
abbrev un (x : S2048x512.Idx) : S1x2048x512.Idx := Shape.reshapeEquiv slot_numel x

theorem slot_set (b : Memref sig .tc .vmem S2x2048x512 .f32) : (slot b 0).view.set = (b.access rectS).set := View.set_reshape _ _

/-- Load slot `0`. -/
theorem load_slot {c : Dev nD} {b : Memref sig .tc .vmem S2x2048x512 .f32} {hl : b.view.LoadsAt rectS.toLoadRect} {v : S2048x512.Idx → Elt F .f32}
    {Q : (S1x2048x512.Idx → Elt F .f32) → sProp (MM F)} :
    (holds (slot b 0) c fullShare v : sProp (MM F))
      ⊢ iprop((∀ w, ⌜v = fun x => w (un x)⌝ -∗ holds (slot b 0) c fullShare v -∗ Q w) -∗ run c (Prog.lift (.load b rectS.toLoadRect hl)) Q) := by
  iintro H Hk
  unfold holds
  icases H with ⟨%f, %hf, H⟩
  iapply (wp_load_rect 𝒱₀ (c : Thread nD τ) none Set.univ (m := b) (r := rectS) (hl := hl) (f := f) (S := (slot b 0).view.set) (q := fullShare) (slot_set b).ge) $$ H
  iintro H
  rw [wp_ret]
  imodintro
  iapply Hk $$ %((b.access rectS).read (Elt F) f)
  · ipureintro; exact hf.symm
  iexists f; isplitr; · ipureintro; exact hf
  iexact H

/-- Store slot `0`. -/
theorem store_slot {c : Dev nD} {b : Memref sig .tc .vmem S2x2048x512 .f32} {w : S1x2048x512.Idx → Elt F .f32} {hx : (b.access rectS).Stores Finset.univ}
    {hm : (Finset.univ : Finset rectS.shape.Idx) = Finset.univ ∨ ∀ a, rectS.stride a = 1} {Q : PUnit → sProp (MM F)} :
    (has (slot b 0) c : sProp (MM F))
      ⊢ iprop((holds (slot b 0) c fullShare (fun x => w (un x)) -∗ Q ⟨⟩) -∗ run c (Prog.lift (.store b rectS w Finset.univ hx hm)) Q) := by
  iintro H Hk
  unfold has holds
  icases H with ⟨%f, H⟩
  iapply (wp_store 𝒱₀ (c : Thread nD τ) none Set.univ (m := b) (r := rectS) (w := w) (Mk := Finset.univ) (hx := hx) (hm := hm) (f := f) (S := (slot b 0).view.set) (slot_set b).ge) $$ H
  iintro H
  rw [wp_ret]
  imodintro
  iapply Hk
  iexists ((b.access rectS).write (Elt F) f w Finset.univ)
  isplitr
  · ipureintro
    exact funext fun x => congrFun (View.read_write_univ (v := b.access rectS) f w) (un x)
  iexact H

theorem un_pay2 (T : S2048x512.Idx → Elt F .f32) : (fun x => k1_pay2 T (un x)) = T :=
  shapeCast_shapeCast T shapeCasts_S2048x512_S1x2048x512 shapeCasts_S1x2048x512_S2048x512

theorem un_pay3 (w : S1x2048x512.Idx → Elt F .f32) : (fun x => k1_pay3 w (un x)) = fun x => w (un x) :=
  shapeCast_shapeCast (shapeCast S2048x512 w shapeCasts_S1x2048x512_S2048x512) shapeCasts_S2048x512_S1x2048x512 shapeCasts_S1x2048x512_S2048x512

theorem seed_step {c : Dev nD} {a b : S2048x512.Idx → Elt F .f32} {Q : PUnit → sProp (MM F)} :
    iprop(holds ownM c fullShare a ∗ holds rxM c fullShare b ∗ has (slot (bufM 0) 0) c ∗ has (slot (bufM 1) 0) c)
      ⊢ iprop((iprop(holds ownM c fullShare a ∗ holds rxM c fullShare b ∗ holds (slot (bufM 0) 0) c fullShare (k1_pay1 a b)
            ∗ holds (slot (bufM 1) 0) c fullShare (k1_pay1 a b)) -∗ Q ⟨⟩)
          -∗ run c (seed ownM rxM (bufM 1) (bufM 0)) Q) := by
  unfold seed
  iintro ⟨Ha, Hb, H0, H1⟩ Hk
  rw [run_bind]
  iapply load_step $$ Ha
  iintro Ha
  rw [run_bind]
  iapply load_step $$ Hb
  iintro Hb
  rw [run_bind]
  ihave H0 := (Entails.of_eq (has_iff (slot (bufM 0) 0) c)) $$ H0
  icases H0 with ⟨%v0, H0⟩
  iapply load_slot $$ H0
  iintro %w0 - H0
  ihave H0 := (has_of_holds (slot (bufM 0) 0) c _) $$ H0
  rw [run_bind]
  iapply store_slot $$ H0
  iintro H0
  ihave H0 := (Entails.of_eq (congrArg (holds (slot (bufM 0) 0) c fullShare) (un_pay2 (k1_pay1 a b)))) $$ H0
  rw [run_bind]
  iapply load_slot $$ H0
  iintro %w1 %hw1 H0
  ihave H1 := (Entails.of_eq (has_iff (slot (bufM 1) 0) c)) $$ H1
  icases H1 with ⟨%v1, H1⟩
  rw [run_bind]
  iapply load_slot $$ H1
  iintro %w2 - H1
  ihave H1 := (has_of_holds (slot (bufM 1) 0) c _) $$ H1
  iapply store_slot $$ H1
  iintro H1
  ihave H1 := (Entails.of_eq (congrArg (holds (slot (bufM 1) 0) c fullShare) ((un_pay3 w1).trans hw1.symm))) $$ H1
  iapply Hk
  isplitl [Ha]; · iexact Ha
  isplitl [Hb]; · iexact Hb
  isplitl [H0]; · iexact H0
  iexact H1

end Cert.KernelIdeal.Ring

end
-- ==== Proof.Whole.lean ====
/-
  The communication kernel, run whole on one device.
-/
module

public import proofs.«01_k».proof.Proof.First

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Cert.KernelIdeal Cert.KernelIdeal.Gen

variable {F : FTy → Type} [FloatOps F]
variable (P : Dev nD → Vec F S4096x512 .f32) (Kn : GSem nD τ sig → ℕ)

/-! ## The words that name blocks -/

theorem word_cw : ∀ (n : Fin 20) (c : Dev nD), 4 ≤ n.val → n.val < 12 → word c n = BitVec.ofNat 32 (eb 0 (n.val - 3) c).val := by decide
theorem word_ccw : ∀ (n : Fin 20) (c : Dev nD), 12 ≤ n.val → word c n = BitVec.ofNat 32 (eb 1 (n.val - 11) c).val := by decide

/-! ## The device's own block -/

theorem own_off : ∀ c : Dev nD, k1_off3 c = k1_off4 (BitVec.ofNat 32 (rank c).val) := by decide +kernel

theorem slice_congr {o o' : Fin 2 → ℕ} (h : o = o') (hb : ∀ a, o a + S2048x512.size a ≤ S2048x8192.size a) (hb' : ∀ a, o' a + S2048x512.size a ≤ S2048x8192.size a) :
    (outM.slice (Rect.unit (s := S2048x8192) o S2048x512.size hb) (fun _ => rfl) : Memref sig .tc .hbm S2048x512 .f32)
      = outM.slice (Rect.unit (s := S2048x8192) o' S2048x512.size hb') (fun _ => rfl) := by
  subst h; rfl

theorem own_blk (c : Dev nD) : ownBlock outM c = blk (rank c) := slice_congr (own_off c) _ _

theorem ownBlock_pos (c : Dev nD) : 0 < (ownBlock outM c).view.dmaCredit := View.dmaCredit_pos _ (by decide)

/-- The store of the device's own block, on its way. -/
def flyingOwn (c : Dev nD) : sProp (MM F) :=
  Flight EC (c : Thread nD τ) (.dma cc1_scratch11.sem) 0 (ownBlock outM c).view.dmaCredit
    iprop(holds (ownBlock outM c) c fullShare (total P c) ∗ holds (slot (bufM 0) (sl 0)) c fullShare.right (Wv P 0 c 0))

theorem own_step {c : Dev nD} {Q : PUnit → sProp (MM F)} :
    iprop(holds (slot (bufM 0) 0) c fullShare.right (total P c) ∗ has (ownBlock outM c) c ∗ semVal ((c : Thread nD τ), .dma cc1_scratch11.sem) 0)
      ⊢ iprop((flyingOwn P c -∗ Q ⟨⟩) -∗ run c (ownStore outM (bufM 0) cc1_scratch11 c) Q) :=
  store_step (ownBlock_pos c)

/-! ## The first hop -/

/-- What the first hop takes in a direction. -/
def ready (d : Fin 2) (c : Dev nD) : sProp (MM F) :=
  iprop(holds (slot (bufM d) (sl 0)) c fullShare.left (Wv P d c 0) ∗ pos d c 0 ∗ atPos ER (cell c (.crd d)) 0 ∅ 0 ∗ toks d c 0
    ∗ (has (slot (bufM d) (sl 1)) (nx d c) ∗ reached ER (cell (nx d c) (.rcv d (sl 1))) 0) ∗ reached ER (cell c (.crd d)) 0)

def after0 (d : Fin 2) (c : Dev nD) : sProp (MM F) :=
  iprop(pays d c 0 ∗ has (blk (eb d 1 c)) c ∗ semVal ((c : Thread nD τ), .dma (one (stM d) (sl 0)).sem) 0
    ∗ semVal ((c : Thread nD τ), .dma (one (stM d) (sl 1)).sem) 0)

/-- The first hop at the kernel's own buffers and semaphores. -/
abbrev hop0P (M : Memref sig .tc .smem S20 .i32) (c : Dev nD) : TC F ({v : BitVec 32 // k1_chk3 v} × {v : BitVec 32 // k1_chk3 v}) :=
  hop0 M outM (bufM 1) (bufM 0) (sndM 0) (rcvM 0) (sndM 1) (rcvM 1) cc1_scratch11 (stM 0) (stM 1) (crdM 0) (crdM 1) c (nbrs c)

theorem first_out (d : Fin 2) (c : Dev nD) {O₀ : CellTallies nD τ sig ℕ} (O : CellTallies nD τ sig ℕ)
    (hO : O₀ = O + tallyAt (cell (nx d c) (.rcv d (sl 1))) 3 (amt 0)) {Q : PUnit → sProp (MM F)} :
    iprop(ctx P Kn ∗ ready P d c ∗ owe c O₀)
      ⊢ iprop((iprop(out d c 0 ∗ owe c O) -∗ Q ⟨⟩) -∗ run c (send (bufM d) (sndM d) (rcvM d) (nx d c) 0 1) Q) := by
  have key := out_step P Kn (d := d) (c := c) (h := 0) (by omega) O hO (Q := Q)
  unfold ready
  iintro ⟨#Hctx, ⟨Hs, Hp, Hc, Ht, ⟨Hn, #HR⟩, #HR'⟩, HO⟩
  iapply key
  isplitr; · iexact Hctx
  isplitl [Hs]; · iexact Hs
  isplitl [Hp]; · iexact Hp
  isplitl [Hc]; · iexact Hc
  isplitl [Ht]; · iexact Ht
  isplitl [Hn]; · iexact Hn
  isplitr; · iexact HR'
  isplitr; · iexact HR
  iexact HO

theorem keep (d : Fin 2) (c : Dev nD) {h : ℕ} (hh : h ≤ 5) : (has (slot (bufM d) (sl h)) c : sProp (MM F)) ⊢ iprop(piece d c h ∗ emp) := by
  have e : (piece d c h : sProp (MM F)) = has (slot (bufM d) (sl h)) c := if_neg (by omega)
  rw [e]
  exact Idealize.SL.BI.Laws.sep_emp.2

theorem first_in (d : Fin 2) (c : Dev nD) {O : CellTallies nD τ sig ℕ} (hA : Above 3 O) (hA' : Above 0 O) {α : Type} {K : TC F α} {Q : α → sProp (MM F)} :
    iprop(ctx P Kn ∗ out d c 0 ∗ owe c O)
      ⊢ iprop((iprop(back_in P d c 0 ∗ owe c O) -∗ run c K Q)
          -∗ run c (sentW (bufM d) (sndM d) 0 1 >>= fun _ => rcvdW (bufM d) (rcvM d) 0 1 >>= fun _ => K) Q) :=
  in_step P Kn (h := 0) (by omega) hA hA'

theorem first_next (d : Fin 2) (c : Dev nD) {M : Memref sig .tc .smem S20 .i32} {q : PosShare TreeShare} {a : Fin 20}
    (ha : word c a = BitVec.ofNat 32 (eb d 1 c).val) {O₀ : CellTallies nD τ sig ℕ} (O : CellTallies nD τ sig ℕ)
    (hO : O₀ = O + tallyAt (cell (pv d c) (.crd d)) 4 1) {α : Type} {K : {v : BitVec 32 // k1_chk3 v} → TC F α} {Q : α → sProp (MM F)} :
    iprop(ctx P Kn ∗ sched M c q ∗ back_in P d c 0 ∗ holds (slot (bufM d) (sl 0)) c fullShare.right (Wv P d c 0) ∗ after0 d c ∗ owe c O₀)
      ⊢ iprop((iprop(sched M c q ∗ St P d c 1 ∗ owe c O) -∗ run c (K (bv (eb d 1 c))) Q)
          -∗ run c (semSignalWord (pv d c) (crdM d).sem 1#32 >>= fun _ => readBlock M a >>= fun v =>
            store (bufM d) outM (one (stM d) 0) 1 v >>= fun _ => K v) Q) := by
  have key := next_step P Kn (d := d) (c := c) (h := 0) (by omega) (M := M) (q := q) ha (keep d c (by omega)) O hO (K := K) (Q := Q)
  unfold after0
  iintro ⟨#Hctx, Hw, Hi, Hs, ⟨Hp, Hb, Hv, Hv'⟩, HO⟩ Hk
  iapply key $$ [Hw Hi Hs Hp Hb Hv Hv' HO]
  · isplitr; · iexact Hctx
    isplitl [Hw]; · iexact Hw
    isplitl [Hi]; · iexact Hi
    isplitl [Hs]; · iexact Hs
    isplitl [Hp]; · iexact Hp
    isplitl [Hb]; · iexact Hb
    isplitl [Hv]; · iexact Hv
    isplitl [Hv']; · iexact Hv'
    iexact HO
  iintro ⟨Hw, HS, -, HO⟩
  iapply Hk
  isplitl [Hw]; · iexact Hw
  isplitl [HS]; · iexact HS
  iexact HO

theorem hop0_run {c : Dev nD} {M : Memref sig .tc .smem S20 .i32} {q : PosShare TreeShare}
    {Q : {v : BitVec 32 // k1_chk3 v} × {v : BitVec 32 // k1_chk3 v} → sProp (MM F)} :
    iprop(ctx P Kn ∗ sched M c q ∗ ready P 0 c ∗ ready P 1 c ∗ after0 0 c ∗ after0 1 c ∗ flyingOwn P c
        ∗ holds (slot (bufM 1) (sl 0)) c fullShare.right (Wv P 1 c 0) ∗ owe c (Ow c 0 0 0 0))
      ⊢ iprop((iprop(Both P M q c 1 ∗ holds (ownBlock outM c) c fullShare (total P c) ∗ semVal ((c : Thread nD τ), .dma cc1_scratch11.sem) 0) -∗ Q (blks c 1))
          -∗ run c (hop0P M c) Q) := by
  unfold hop0P hop0
  rw [nbrs_R, nbrs_L]
  iintro ⟨#Hctx, Hw, Hr0, Hr1, Ha0, Ha1, HF, Hs1, HO⟩ Hk
  rw [run_bind]
  iapply (first_out P Kn 0 c (Ow c 1 0 0 0) (Ow_r0 c (by omega))) $$ [Hr0 HO]
  · isplitr; · iexact Hctx
    isplitl [Hr0]; · iexact Hr0
    iexact HO
  iintro ⟨Ho0, HO⟩
  rw [run_bind]
  iapply (first_out P Kn 1 c (Ow c 1 0 1 0) (Ow_r1 c (by omega))) $$ [Hr1 HO]
  · isplitr; · iexact Hctx
    isplitl [Hr1]; · iexact Hr1
    iexact HO
  iintro ⟨Ho1, HO⟩
  iapply (first_in P Kn 0 c (O := Ow c 1 0 1 0) (above_Ow c _ _ _ _ (by omega) (by omega) (by omega) (by omega))
    (above_Ow c _ _ _ _ (by omega) (by omega) (by omega) (by omega))) $$ [Ho0 HO]
  · isplitr; · iexact Hctx
    isplitl [Ho0]; · iexact Ho0
    iexact HO
  iintro ⟨Hi0, HO⟩
  unfold flyingOwn ownStoreW
  rw [run_bind]
  iapply (storeW_step P Kn (above_Ow c _ _ _ _ (by omega) (by omega) (by omega) (by omega))) $$ [HF HO]
  · isplitr; · iexact Hctx
    isplitl [HF]; · iexact HF
    iexact HO
  iintro ⟨⟨Hown, Hs0⟩, Hv, HO⟩
  iapply (first_next P Kn 0 c (word_cw 4 c (by decide) (by decide)) (Ow c 1 1 1 0) (Ow_c0 c (by omega))) $$ [Hw Hi0 Hs0 Ha0 HO]
  · isplitr; · iexact Hctx
    isplitl [Hw]; · iexact Hw
    isplitl [Hi0]; · iexact Hi0
    isplitl [Hs0]; · iexact Hs0
    isplitl [Ha0]; · iexact Ha0
    iexact HO
  iintro ⟨Hw, HS0, HO⟩
  iapply (first_in P Kn 1 c (O := Ow c 1 1 1 0) (above_Ow c _ _ _ _ (by omega) (by omega) (by omega) (by omega))
    (above_Ow c _ _ _ _ (by omega) (by omega) (by omega) (by omega))) $$ [Ho1 HO]
  · isplitr; · iexact Hctx
    isplitl [Ho1]; · iexact Ho1
    iexact HO
  iintro ⟨Hi1, HO⟩
  iapply (first_next P Kn 1 c (word_ccw 12 c (by decide)) (Ow c 1 1 1 1) (Ow_c1 c (by omega))) $$ [Hw Hi1 Hs1 Ha1 HO]
  · isplitr; · iexact Hctx
    isplitl [Hw]; · iexact Hw
    isplitl [Hi1]; · iexact Hi1
    isplitl [Hs1]; · iexact Hs1
    isplitl [Ha1]; · iexact Ha1
    iexact HO
  iintro ⟨Hw, HS1, HO⟩
  iapply ret_step
  iapply Hk
  unfold Both
  isplitl [Hw HS0 HS1 HO]
  · isplitl [Hw]; · iexact Hw
    isplitl [HS0]; · iexact HS0
    isplitl [HS1]; · iexact HS1
    iexact HO
  isplitl [Hown]; · iexact Hown
  iexact Hv

/-! ## The whole run -/

/-- The kernel at its own buffers and semaphores. -/
abbrev commP (M : Memref sig .tc .smem S20 .i32) : TC F PUnit :=
  comm M pM outM ownM (Memref.isWhole_whole _) rxM (Memref.isWhole_whole _) (bufM 1) (bufM 0) (sndM 0) (rcvM 0) (sndM 1) (rcvM 1)
    cc1_scratch8 cc1_scratch9 cc1_scratch10 cc1_scratch11 (stM 0) (stM 1) (crdM 0) (crdM 1)

theorem hop_at {c : Dev nD} {M : Memref sig .tc .smem S20 .i32} {q : PosShare TreeShare} (g : ℕ) (hg : g ≤ 5) {i j : Fin 2} {a b : Fin 20}
    (hi : sl (g + 1) = i) (hj : sl (g + 2) = j)
    (ha : word c a = BitVec.ofNat 32 (eb 0 (g + 2) c).val) (hb : word c b = BitVec.ofNat 32 (eb 1 (g + 2) c).val) {Kp : Fin 2 → sProp (MM F)}
    (hk : ∀ d, (has (slot (bufM d) (sl (g + 1))) c : sProp (MM F)) ⊢ iprop(piece d c (g + 1) ∗ Kp d))
    {Q : {v : BitVec 32 // k1_chk3 v} × {v : BitVec 32 // k1_chk3 v} → sProp (MM F)} :
    iprop(ctx P Kn ∗ Both P M q c (g + 1) ∗ uses 0 c g ∗ uses 1 c g)
      ⊢ iprop((iprop(Both P M q c (g + 2) ∗ done P 0 c (g + 1) ∗ done P 1 c (g + 1) ∗ Kp 0 ∗ Kp 1) -∗ Q (blks c (g + 2)))
          -∗ run c (hopP M c i j a b (blks c (g + 1))) Q) := by
  subst hi hj
  exact hop_run P Kn hg ha hb hk

/-- What a direction takes over the whole run. -/
def start (d : Fin 2) (c : Dev nD) : sProp (MM F) :=
  iprop(pos d c 0 ∗ (atPos ER (cell c (.crd d)) 0 ∅ 0 ∗ reached ER (cell c (.crd d)) 0) ∗ toks d c 0 ∗ after0 d c
    ∗ uses d c 0 ∗ uses d c 1 ∗ uses d c 2 ∗ uses d c 3 ∗ uses d c 4 ∗ uses d c 5 ∗ takes d c 6 ∗ toks d c 7)

/-- What it leaves. -/
def left (d : Fin 2) (c : Dev nD) : sProp (MM F) :=
  iprop(rest P d c ∗ has (half (bufM d) (oth d) 0) c ∗ done P d c 1 ∗ done P d c 2 ∗ done P d c 3 ∗ done P d c 4 ∗ done P d c 5 ∗ done P d c 6)

/-- What device `c` owes at its start. -/
def owes₀ (c : Dev nD) : CellTallies nD τ sig ℕ := owesBar c (Ow c 0 0 0 0 + tallyAt (cell (across c) .xr) 2 NX)

theorem above_xr (c : Dev nD) : Above 1 (Ow c 0 0 0 0 + tallyAt (cell (across c) .xr) 2 NX) :=
  above_add (above_Ow c _ _ _ _ (by omega) (by omega) (by omega) (by omega)) (above_tally _ _ _ _ (by omega) (by omega))

/-- What a device takes. -/
def takes₀ (M : Memref sig .tc .smem S20 .i32) (q : PosShare TreeShare) (c : Dev nD) : sProp (MM F) :=
  iprop(sched M c q ∗ owe c (owes₀ c) ∗ enters c ∗ exchanges c ∗ source P c ∗ has ownM c ∗ has rxM c ∗ has (bufM 0) c ∗ has (bufM 1) c
    ∗ semVal ((c : Thread nD τ), .dma cc1_scratch10.sem) 0 ∗ semVal ((c : Thread nD τ), .dma cc1_scratch11.sem) 0 ∗ start 0 c ∗ start 1 c
    ∗ has (ownBlock outM c) c ∗ has (top (eb 0 8 c)) c ∗ has (bot (eb 1 8 c)) c)

/-- What it leaves. -/
def leaves (M : Memref sig .tc .smem S20 .i32) (q : PosShare TreeShare) (c : Dev nD) : sProp (MM F) :=
  iprop(sched M c q ∗ owe c 0 ∗ atPos ER (cell c .bar) 1 ∅ 0 ∗ atPos ER (cell c .xs) 1 ∅ 0 ∗ atPos ER (cell c .xr) 1 ∅ 0 ∗ source P c ∗ has ownM c ∗ has rxM c
    ∗ semVal ((c : Thread nD τ), .dma cc1_scratch10.sem) 0 ∗ semVal ((c : Thread nD τ), .dma cc1_scratch11.sem) 0 ∗ left P 0 c ∗ left P 1 c
    ∗ holds (ownBlock outM c) c fullShare (total P c) ∗ holds (top (eb 0 8 c)) c fullShare (part 0 (Wv P 0 c 8))
    ∗ holds (bot (eb 1 8 c)) c fullShare (part 1 (Wv P 1 c 8)))

theorem split_total (b : Memref sig .tc .vmem S2048x512 .f32) (c : Dev nD) :
    holds b c fullShare (k1_pay1 ((rowsO c).view.read (Elt F) (P c)) ((rowsX (across c)).view.read (Elt F) (P (across c))))
      ⊢ iprop(holds b c fullShare.left (total P c) ∗ holds b c fullShare.right (total P c)) := holds_split b c (total P c)

theorem keep_last (d : Fin 2) (c : Dev nD) : (has (slot (bufM d) (sl 6)) c : sProp (MM F)) ⊢ iprop(piece d c 6 ∗ has (half (bufM d) (oth d) 0) c) :=
  has_split_slot' 0

theorem comm_run {c : Dev nD} {M : Memref sig .tc .smem S20 .i32} {q : PosShare TreeShare} {Q : PUnit → sProp (MM F)} :
    iprop(ctx P Kn ∗ takes₀ P M q c) ⊢ iprop((leaves P M q c -∗ Q ⟨⟩) -∗ run c (commP M) Q) := by
  unfold takes₀ commP comm
  iintro ⟨#Hctx, Hw, HO, Hen, Hex, Hsrc, Hown, Hrx, HB0, HB1, Hv10, Hv11, Hst0, Hst1, Hob, Htop, Hbot⟩ Hk
  rw [run_bind]
  iapply (Entails.of_eq (wp_deviceId 𝒱₀ (c : Thread nD τ) none Set.univ).symm)
  rw [wp_ret]
  imodintro
  rw [run_bind]
  iapply nbrs_step $$ Hw
  iintro Hw
  ihave HB0 := (has_split_buf (bufM 0) c) $$ HB0
  ihave HB1 := (has_split_buf (bufM 1) c) $$ HB1
  icases HB0 with ⟨HB00, HB01⟩
  icases HB1 with ⟨HB10, HB11⟩
  rw [run_bind]
  iapply (enter_step P Kn (above_xr c)) $$ [HO Hen Hrx HB01 HB11]
  · isplitr; · iexact Hctx
    isplitl [HO]; · iexact HO
    isplitl [Hen]; · iexact Hen
    isplitl [Hrx]; · iexact Hrx
    isplitl [HB01]; · iexact HB01
    iexact HB11
  iintro ⟨HO, Hbar, Hmet⟩
  unfold met
  icases Hmet with ⟨Hrx, HR, HL⟩
  rw [run_bind]
  iapply (exchange_step P Kn (O := Ow c 0 0 0 0) (above_Ow c _ _ _ _ (by omega) (by omega) (by omega) (by omega))
    (above_Ow c _ _ _ _ (by omega) (by omega) (by omega) (by omega))) $$ [HO Hsrc Hex Hrx Hown Hv10]
  · isplitr; · iexact Hctx
    isplitl [HO]; · iexact HO
    isplitl [Hsrc]; · iexact Hsrc
    isplitl [Hex]; · iexact Hex
    isplitl [Hrx]; · iexact Hrx
    isplitl [Hown]; · iexact Hown
    iexact Hv10
  iintro ⟨HO, Hsrc, Hown, Hrx, Hxs, Hxr, Hv10⟩
  rw [run_bind]
  iapply seed_step $$ [Hown Hrx HB00 HB10]
  · isplitl [Hown]; · iexact Hown
    isplitl [Hrx]; · iexact Hrx
    isplitl [HB00]; · iexact HB00
    iexact HB10
  iintro ⟨Hown, Hrx, HB0, HB1⟩
  ihave Hown := (has_of_holds ownM c _) $$ Hown
  ihave Hrx := (has_of_holds rxM c _) $$ Hrx
  ihave HB0 := (split_total P (slot (bufM 0) 0) c) $$ HB0
  ihave HB1 := (split_total P (slot (bufM 1) 0) c) $$ HB1
  icases HB0 with ⟨HB0l, HB0r⟩
  icases HB1 with ⟨HB1l, HB1r⟩
  rw [run_bind]
  iapply (own_step P) $$ [HB0r Hob Hv11]
  · isplitl [HB0r]; · iexact HB0r
    isplitl [Hob]; · iexact Hob
    iexact Hv11
  iintro HF
  unfold start
  icases Hst0 with ⟨Hp0, Hc0, Ht0, Ha0, Hu00, Hu01, Hu02, Hu03, Hu04, Hu05, Htk0, Htt0⟩
  icases Hst1 with ⟨Hp1, Hc1, Ht1, Ha1, Hu10, Hu11, Hu12, Hu13, Hu14, Hu15, Htk1, Htt1⟩
  rw [run_bind]
  iapply (hop0_run P Kn) $$ [Hw HB0l Hp0 Hc0 Ht0 HR HB1l Hp1 Hc1 Ht1 HL Ha0 Ha1 HF HB1r HO]
  · isplitr; · iexact Hctx
    isplitl [Hw]; · iexact Hw
    isplitl [HB0l Hp0 Hc0 Ht0 HR]
    · unfold ready
      isplitl [HB0l]; · iexact HB0l
      isplitl [Hp0]; · iexact Hp0
      icases Hc0 with ⟨Hc0, Hc0'⟩
      isplitl [Hc0]; · iexact Hc0
      isplitl [Ht0]; · iexact Ht0
      isplitl [HR]; · iexact HR
      iexact Hc0'
    isplitl [HB1l Hp1 Hc1 Ht1 HL]
    · unfold ready
      isplitl [HB1l]; · iexact HB1l
      isplitl [Hp1]; · iexact Hp1
      icases Hc1 with ⟨Hc1, Hc1'⟩
      isplitl [Hc1]; · iexact Hc1
      isplitl [Ht1]; · iexact Ht1
      isplitl [HL]; · iexact HL
      iexact Hc1'
    isplitl [Ha0]; · iexact Ha0
    isplitl [Ha1]; · iexact Ha1
    isplitl [HF]; · iexact HF
    isplitl [HB1r]; · iexact HB1r
    iexact HO
  iintro ⟨Hb, Hob, Hv11⟩
  rw [run_bind]
  iapply (hop_at P Kn 0 (by omega) rfl rfl (word_cw 5 c (by decide) (by decide)) (word_ccw 13 c (by decide)) (fun d => keep d c (by omega))) $$ [Hb Hu00 Hu10]
  · isplitr; · iexact Hctx
    isplitl [Hb]; · iexact Hb
    isplitl [Hu00]; · iexact Hu00
    iexact Hu10
  iintro ⟨Hb, Hd01, Hd11, -, -⟩
  rw [run_bind]
  iapply (hop_at P Kn 1 (by omega) rfl rfl (word_cw 6 c (by decide) (by decide)) (word_ccw 14 c (by decide)) (fun d => keep d c (by omega))) $$ [Hb Hu01 Hu11]
  · isplitr; · iexact Hctx
    isplitl [Hb]; · iexact Hb
    isplitl [Hu01]; · iexact Hu01
    iexact Hu11
  iintro ⟨Hb, Hd02, Hd12, -, -⟩
  rw [run_bind]
  iapply (hop_at P Kn 2 (by omega) rfl rfl (word_cw 7 c (by decide) (by decide)) (word_ccw 15 c (by decide)) (fun d => keep d c (by omega))) $$ [Hb Hu02 Hu12]
  · isplitr; · iexact Hctx
    isplitl [Hb]; · iexact Hb
    isplitl [Hu02]; · iexact Hu02
    iexact Hu12
  iintro ⟨Hb, Hd03, Hd13, -, -⟩
  rw [run_bind]
  iapply (hop_at P Kn 3 (by omega) rfl rfl (word_cw 8 c (by decide) (by decide)) (word_ccw 16 c (by decide)) (fun d => keep d c (by omega))) $$ [Hb Hu03 Hu13]
  · isplitr; · iexact Hctx
    isplitl [Hb]; · iexact Hb
    isplitl [Hu03]; · iexact Hu03
    iexact Hu13
  iintro ⟨Hb, Hd04, Hd14, -, -⟩
  rw [run_bind]
  iapply (hop_at P Kn 4 (by omega) rfl rfl (word_cw 9 c (by decide) (by decide)) (word_ccw 17 c (by decide)) (fun d => keep d c (by omega))) $$ [Hb Hu04 Hu14]
  · isplitr; · iexact Hctx
    isplitl [Hb]; · iexact Hb
    isplitl [Hu04]; · iexact Hu04
    iexact Hu14
  iintro ⟨Hb, Hd05, Hd15, -, -⟩
  rw [run_bind]
  iapply (hop_at P Kn 5 (by omega) rfl rfl (word_cw 10 c (by decide) (by decide)) (word_ccw 18 c (by decide)) (fun d => keep_last d c)) $$ [Hb Hu05 Hu15]
  · isplitr; · iexact Hctx
    isplitl [Hb]; · iexact Hb
    isplitl [Hu05]; · iexact Hu05
    iexact Hu15
  iintro ⟨Hb, Hd06, Hd16, Hh0, Hh1⟩
  iapply (hop7_run P Kn) $$ [Hb Htk0 Htt0 Htk1 Htt1 Htop Hbot]
  · isplitr; · iexact Hctx
    isplitl [Hb]; · iexact Hb
    isplitl [Htk0 Htt0]; · isplitl [Htk0]; · iexact Htk0
                           iexact Htt0
    isplitl [Htk1 Htt1]; · isplitl [Htk1]; · iexact Htk1
                           iexact Htt1
    isplitl [Htop]; · iexact Htop
    iexact Hbot
  iintro ⟨Hw, Hrs0, Hrs1, Htop, Hbot, HO⟩
  iapply Hk
  unfold leaves left
  isplitl [Hw]; · iexact Hw
  isplitl [HO]; · iexact HO
  isplitl [Hbar]; · iexact Hbar
  isplitl [Hxs]; · iexact Hxs
  isplitl [Hxr]; · iexact Hxr
  isplitl [Hsrc]; · iexact Hsrc
  isplitl [Hown]; · iexact Hown
  isplitl [Hrx]; · iexact Hrx
  isplitl [Hv10]; · iexact Hv10
  isplitl [Hv11]; · iexact Hv11
  isplitl [Hrs0 Hh0 Hd01 Hd02 Hd03 Hd04 Hd05 Hd06]
  · isplitl [Hrs0]; · iexact Hrs0
    isplitl [Hh0]; · iexact Hh0
    isplitl [Hd01]; · iexact Hd01
    isplitl [Hd02]; · iexact Hd02
    isplitl [Hd03]; · iexact Hd03
    isplitl [Hd04]; · iexact Hd04
    isplitl [Hd05]; · iexact Hd05
    iexact Hd06
  isplitl [Hrs1 Hh1 Hd11 Hd12 Hd13 Hd14 Hd15 Hd16]
  · isplitl [Hrs1]; · iexact Hrs1
    isplitl [Hh1]; · iexact Hh1
    isplitl [Hd11]; · iexact Hd11
    isplitl [Hd12]; · iexact Hd12
    isplitl [Hd13]; · iexact Hd13
    isplitl [Hd14]; · iexact Hd14
    isplitl [Hd15]; · iexact Hd15
    iexact Hd16
  isplitl [Hob]; · iexact Hob
  isplitl [Htop]; · iexact Htop
  iexact Hbot

end Cert.KernelIdeal.Ring

end
-- ==== Proof.Ends.lean ====
/-
  What the communication kernel starts from and what it ends with.

  The result of a device is sixteen blocks of columns, one for each position on the ring; the
  partial product is read in two parts of its rows.  Here the blocks are cut out of the result and
  put together again, and likewise the two parts of the partial product and the buffers of the two
  directions.
-/
module

public import proofs.«01_k».proof.Proof.Whole

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

/-! ## The blocks of the result -/

theorem col_inb (e : Fin 16) : ∀ a, (![0, 512 * e.val] : Fin 2 → ℕ) a + S2048x512.size a ≤ S2048x8192.size a := by
  revert e; decide

/-- Where the elements of block `e` lie in the result. -/
abbrev colE (e : Fin 16) : S2048x512.Idx ↪ S2048x8192.Idx :=
  (Rect.unit (s := S2048x8192) ![0, 512 * e.val] S2048x512.size (col_inb e)).emb

theorem colE_row (e : Fin 16) (x : S2048x512.Idx) : (colE e x 0).val = (x 0).val := by
  show 0 + 1 * (x 0).val = (x 0).val; omega
theorem colE_col (e : Fin 16) (x : S2048x512.Idx) : (colE e x 1).val = 512 * e.val + (x 1).val := by
  show 512 * e.val + 1 * (x 1).val = _; omega

/-- The block an element of the result lies in, and its place there. -/
def blkOf (y : S2048x8192.Idx) : Fin 16 := ⟨(y 1).val / 512, by have h : (y 1).val < 8192 := (y 1).isLt; omega⟩
def inBlk (y : S2048x8192.Idx) : S2048x512.Idx := fun a => ⟨(![(y 0).val, (y 1).val % 512] : Fin 2 → ℕ) a, by
  fin_cases a
  · exact (y 0).isLt
  · exact Nat.mod_lt _ (by decide)⟩

theorem colE_in (y : S2048x8192.Idx) : colE (blkOf y) (inBlk y) = y := by
  refine funext fun a => Fin.ext ?_
  fin_cases a
  · exact (colE_row _ _).trans rfl
  · refine (colE_col _ _).trans ?_
    show 512 * ((y 1).val / 512) + (y 1).val % 512 = (y 1).val
    omega

theorem blkOf_col (e : Fin 16) (x : S2048x512.Idx) : blkOf (colE e x) = e := Fin.ext (by
  show (colE e x 1).val / 512 = e.val
  have h : (x 1).val < 512 := (x 1).isLt
  rw [colE_col]; omega)
theorem inBlk_col (e : Fin 16) (x : S2048x512.Idx) : inBlk (colE e x) = x := by
  refine funext fun a => Fin.ext ?_
  have h : (x 1).val < 512 := (x 1).isLt
  fin_cases a
  · exact colE_row e x
  · show (colE e x 1).val % 512 = (x 1).val
    rw [colE_col]; omega

theorem off4_eq : ∀ e : Fin 16, k1_off4 (BitVec.ofNat 32 e.val) = ![0, 512 * e.val] := by decide +kernel
theorem off31_eq : ∀ e : Fin 16, k1_off31 (BitVec.ofNat 32 e.val) = ![0, 512 * e.val] := by decide +kernel
theorem off33_eq : ∀ e : Fin 16, k1_off33 (BitVec.ofNat 32 e.val) = ![1024, 512 * e.val] := by decide +kernel

theorem unit_emb_congr {s : Shape} {o o' : Fin s.rank → ℕ} (h : o = o') (z : Fin s.rank → ℕ) (i : ∀ a, o a + z a ≤ s.size a)
    (i' : ∀ a, o' a + z a ≤ s.size a) : (Rect.unit (s := s) o z i).emb = (Rect.unit (s := s) o' z i').emb := by subst h; rfl

theorem holds_blk (c : Dev nD) (e : Fin 16) (q : PosShare TreeShare) (v : S2048x512.Idx → Elt F .f32) :
    (holds (blk e) c q v : sProp (MM F)) = holdsE outM c q (colE e) v := by
  have h := holds_slice outM c (Rect.unit (s := S2048x8192) (k1_off4 (bv e).1) S2048x512.size (bv e).2.1) (fun _ => rfl) q v
  rw [unit_emb_congr (off4_eq e) _ _ (col_inb e)] at h
  exact h

theorem top_emb (e : Fin 16) (i : ∀ a, k1_off31 (BitVec.ofNat 32 e.val) a + S1024x512.size a ≤ S2048x8192.size a) :
    (Rect.unit (s := S2048x8192) (k1_off31 (BitVec.ofNat 32 e.val)) S1024x512.size i).emb = (halfG 0).trans (colE e) := by
  refine Function.Embedding.ext fun x => funext fun a => Fin.ext ?_
  show k1_off31 (BitVec.ofNat 32 e.val) a + 1 * (x a).val = (![0, 512 * e.val] : Fin 2 → ℕ) a + 1 * ((![1024 * 0, 0] : Fin 2 → ℕ) a + 1 * (x a).val)
  refine (congrArg (fun n => n + 1 * (x a).val) (congrFun (off31_eq e) a)).trans ?_
  fin_cases a
  · show 0 + 1 * (x 0).val = 0 + 1 * (1024 * 0 + 1 * (x 0).val); omega
  · show 512 * e.val + 1 * (x 1).val = 512 * e.val + 1 * (0 + 1 * (x 1).val); omega
theorem bot_emb (e : Fin 16) (i : ∀ a, k1_off33 (BitVec.ofNat 32 e.val) a + S1024x512.size a ≤ S2048x8192.size a) :
    (Rect.unit (s := S2048x8192) (k1_off33 (BitVec.ofNat 32 e.val)) S1024x512.size i).emb = (halfG 1).trans (colE e) := by
  refine Function.Embedding.ext fun x => funext fun a => Fin.ext ?_
  show k1_off33 (BitVec.ofNat 32 e.val) a + 1 * (x a).val = (![0, 512 * e.val] : Fin 2 → ℕ) a + 1 * ((![1024 * 1, 0] : Fin 2 → ℕ) a + 1 * (x a).val)
  refine (congrArg (fun n => n + 1 * (x a).val) (congrFun (off33_eq e) a)).trans ?_
  fin_cases a
  · show 1024 + 1 * (x 0).val = 0 + 1 * (1024 * 1 + 1 * (x 0).val); omega
  · show 512 * e.val + 1 * (x 1).val = 512 * e.val + 1 * (0 + 1 * (x 1).val); omega

/-- A block of columns is its two halves. -/
theorem blk_halves (c : Dev nD) (e : Fin 16) (q : PosShare TreeShare) (v : S2048x512.Idx → Elt F .f32) :
    (holds (blk e) c q v : sProp (MM F)) = iprop(holds (top e) c q (part 0 v) ∗ holds (bot e) c q (part 1 v)) := by
  have ht := holds_slice outM c (Rect.unit (s := S2048x8192) (k1_off31 (BitVec.ofNat 32 e.val)) S1024x512.size (k1_off31_inb _ (chk_top e))) (fun _ => rfl) q (part (F := F) 0 v)
  have hb := holds_slice outM c (Rect.unit (s := S2048x8192) (k1_off33 (BitVec.ofNat 32 e.val)) S1024x512.size (k1_off33_inb _ (chk_bot e))) (fun _ => rfl) q (part (F := F) 1 v)
  rw [top_emb] at ht
  rw [bot_emb] at hb
  rw [holds_blk, holdsE_cut (colE e) halfG halves_cover halves_disjoint v, two]
  refine congrArg₂ (fun a b => iprop(a ∗ b)) ?_ ?_
  · exact ht.symm
  · exact hb.symm

/-- The result is its blocks. -/
theorem out_blocks (c : Dev nD) (v : S2048x8192.Idx → Elt F .f32) :
    (holds outM c fullShare v : sProp (MM F)) = bigSep Finset.univ fun e : Fin 16 => holds (blk e) c fullShare (fun x => v (colE e x)) := by
  rw [holds_whole, holdsE_cut (Function.Embedding.refl _) colE (fun y => ⟨blkOf y, inBlk y, colE_in y⟩)
    (fun t t' x x' h => by rw [← blkOf_col t x, h, blkOf_col]) v]
  exact bigSep_congr fun e _ => (holds_blk c e _ _).symm

/-- The order in which device `c` fills the blocks: its own, those that come from the right, those from the left, the last. -/
def order (c : Dev nD) : List (Fin 16) :=
  [rank c, eb 0 1 c, eb 0 2 c, eb 0 3 c, eb 0 4 c, eb 0 5 c, eb 0 6 c, eb 0 7 c,
    eb 1 1 c, eb 1 2 c, eb 1 3 c, eb 1 4 c, eb 1 5 c, eb 1 6 c, eb 1 7 c, eb 0 8 c]

theorem order_nodup : ∀ c : Dev nD, (order c).Nodup := by decide +kernel
theorem order_all : ∀ c : Dev nD, Finset.univ = (order c).toFinset := by decide +kernel
theorem last_same : ∀ c : Dev nD, eb 0 8 c = eb 1 8 c := by decide +kernel

/-- Something of every block, in that order. -/
theorem in_order (c : Dev nD) (Φ : Fin 16 → sProp (MM F)) : bigSep Finset.univ Φ
    = iprop(Φ (rank c) ∗ Φ (eb 0 1 c) ∗ Φ (eb 0 2 c) ∗ Φ (eb 0 3 c) ∗ Φ (eb 0 4 c) ∗ Φ (eb 0 5 c) ∗ Φ (eb 0 6 c) ∗ Φ (eb 0 7 c)
      ∗ Φ (eb 1 1 c) ∗ Φ (eb 1 2 c) ∗ Φ (eb 1 3 c) ∗ Φ (eb 1 4 c) ∗ Φ (eb 1 5 c) ∗ Φ (eb 1 6 c) ∗ Φ (eb 1 7 c) ∗ Φ (eb 0 8 c)) :=
  bigSep_univ_eq_bigSepL (order c) (order_all c) (order_nodup c) Φ

/-- The empty blocks of a direction. -/
def outs (d : Fin 2) (c : Dev nD) : sProp (MM F) :=
  iprop(has (blk (eb d 1 c)) c ∗ has (blk (eb d 2 c)) c ∗ has (blk (eb d 3 c)) c ∗ has (blk (eb d 4 c)) c ∗ has (blk (eb d 5 c)) c
    ∗ has (blk (eb d 6 c)) c ∗ has (blk (eb d 7 c)) c)

theorem has_halves (c : Dev nD) (e : Fin 16) : (has (blk e) c : sProp (MM F)) ⊢ iprop(has (top e) c ∗ has (bot e) c) := by
  rw [has_iff (blk e)]
  iintro ⟨%v, H⟩
  ihave H := (Entails.of_eq (blk_halves c e fullShare v)) $$ H
  icases H with ⟨H0, H1⟩
  isplitl [H0]
  · iapply (has_of_holds (top e) c _) $$ H0
  · iapply (has_of_holds (bot e) c _) $$ H1

/-- Cutting the result into the blocks the kernel fills. -/
theorem out_cut (c : Dev nD) : (has outM c : sProp (MM F))
    ⊢ iprop(has (ownBlock outM c) c ∗ outs 0 c ∗ outs 1 c ∗ has (top (eb 0 8 c)) c ∗ has (bot (eb 1 8 c)) c) := by
  have h : (has outM c : sProp (MM F)) ⊢ bigSep Finset.univ fun e : Fin 16 => has (blk e) c := by
    rw [has_iff outM]
    iintro ⟨%v, H⟩
    ihave H := (Entails.of_eq (out_blocks c v)) $$ H
    iapply (show (bigSep Finset.univ fun e : Fin 16 => holds (blk e) c fullShare (fun x => v (colE e x)))
      ⊢ (bigSep Finset.univ fun e : Fin 16 => has (blk e) c : sProp (MM F)) from bigSep_mono fun e _ => has_of_holds (blk e) c _)
    iexact H
  refine h.trans ?_
  rw [in_order c, own_blk, ← last_same]
  unfold outs
  iintro ⟨H0, H1, H2, H3, H4, H5, H6, H7, K1, K2, K3, K4, K5, K6, K7, H8⟩
  ihave H8 := (has_halves c (eb 0 8 c)) $$ H8
  isplitl [H0]; · iexact H0
  isplitl [H1 H2 H3 H4 H5 H6 H7]
  · isplitl [H1]; · iexact H1
    isplitl [H2]; · iexact H2
    isplitl [H3]; · iexact H3
    isplitl [H4]; · iexact H4
    isplitl [H5]; · iexact H5
    isplitl [H6] <;> iassumption
  isplitl [K1 K2 K3 K4 K5 K6 K7]
  · isplitl [K1]; · iexact K1
    isplitl [K2]; · iexact K2
    isplitl [K3]; · iexact K3
    isplitl [K4]; · iexact K4
    isplitl [K5]; · iexact K5
    isplitl [K6] <;> iassumption
  iexact H8

variable (P : Dev nD → Vec F S4096x512 .f32)

/-- What device `c`'s result holds at the end: in block `e` the sum of the device at position `e`. -/
def outFull (c : Dev nD) : S2048x8192.Idx → Elt F .f32 := fun y => total P (at16 c (blkOf y)) (inBlk y)

theorem outFull_col (c : Dev nD) (e : Fin 16) : (fun x => outFull P c (colE e x)) = total P (at16 c e) := by
  funext x; unfold outFull; rw [blkOf_col, inBlk_col]

theorem at_rank : ∀ c : Dev nD, at16 c (rank c) = c := by decide +kernel
theorem at_back : ∀ (c : Dev nD) (d : Fin 2) (k : Fin 9), at16 c (eb d k.val c) = back d k.val c := by decide +kernel

theorem Wv_at (d : Fin 2) (c : Dev nD) (k : ℕ) (hk : k < 9) : Wv P d c k = total P (at16 c (eb d k c)) := by
  unfold Wv; rw [at_back c d ⟨k, hk⟩]

/-- The blocks that came in a direction. -/
def dones (d : Fin 2) (c : Dev nD) : sProp (MM F) :=
  iprop(done P d c 1 ∗ done P d c 2 ∗ done P d c 3 ∗ done P d c 4 ∗ done P d c 5 ∗ done P d c 6 ∗ done P d c 7)

theorem done_at (d : Fin 2) (c : Dev nD) (k : ℕ) (hk : k < 9) :
    (done P d c k : sProp (MM F)) = holds (blk (eb d k c)) c fullShare (fun x => outFull P c (colE (eb d k c) x)) := by
  rw [outFull_col]; unfold done; rw [Wv_at P d c k hk]

/-- Putting the blocks together. -/
theorem out_join (c : Dev nD) :
    iprop(holds (ownBlock outM c) c fullShare (total P c) ∗ dones P 0 c ∗ dones P 1 c
        ∗ holds (top (eb 0 8 c)) c fullShare (part 0 (Wv P 0 c 8)) ∗ holds (bot (eb 1 8 c)) c fullShare (part 1 (Wv P 1 c 8)))
      ⊢ (holds outM c fullShare (outFull P c) : sProp (MM F)) := by
  rw [out_blocks, in_order c, own_blk]
  unfold dones
  rw [done_at P 0 c 1 (by decide), done_at P 0 c 2 (by decide), done_at P 0 c 3 (by decide), done_at P 0 c 4 (by decide), done_at P 0 c 5 (by decide),
    done_at P 0 c 6 (by decide), done_at P 0 c 7 (by decide), done_at P 1 c 1 (by decide), done_at P 1 c 2 (by decide), done_at P 1 c 3 (by decide),
    done_at P 1 c 4 (by decide), done_at P 1 c 5 (by decide), done_at P 1 c 6 (by decide), done_at P 1 c 7 (by decide)]
  have e0 : (fun x => outFull P c (colE (rank c) x)) = total P c := by rw [outFull_col, at_rank]
  have e8 : iprop(holds (top (eb 0 8 c)) c fullShare (part 0 (Wv P 0 c 8)) ∗ holds (bot (eb 1 8 c)) c fullShare (part 1 (Wv P 1 c 8)))
      = (holds (blk (eb 0 8 c)) c fullShare (fun x => outFull P c (colE (eb 0 8 c) x)) : sProp (MM F)) := by
    rw [outFull_col, blk_halves, Wv_at P 0 c 8 (by decide), Wv_at P 1 c 8 (by decide), ← last_same]
  rw [e0]
  iintro ⟨H0, ⟨H1, H2, H3, H4, H5, H6, H7⟩, ⟨K1, K2, K3, K4, K5, K6, K7⟩, H8⟩
  ihave H8 := (Entails.of_eq e8) $$ H8
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [K1]; · iexact K1
  isplitl [K2]; · iexact K2
  isplitl [K3]; · iexact K3
  isplitl [K4]; · iexact K4
  isplitl [K5]; · iexact K5
  isplitl [K6]; · iexact K6
  isplitl [K7] <;> iassumption

/-! ## The partial product -/

/-- Device `c`'s partial product, whole. -/
abbrev pAll (c : Dev nD) : sProp (MM F) := iprop(pM.view.loc (c : Thread nD τ) ↦{fullShare} P c)

/-- What of it the kernel does not read. -/
def pRest (c : Dev nD) : sProp (MM F) :=
  iprop((pM.view.loc (c : Thread nD τ) ↦[Finset.univ \ (rowsX c).view.set]{fullShare.left} P c)
    ∗ (pM.view.loc (c : Thread nD τ) ↦[Finset.univ \ (rowsO c).view.set]{fullShare.right} P c))

theorem p_cut (c : Dev nD) : (pAll P c : sProp (MM F)) ⊢ iprop(source P c ∗ pRest P c) := by
  unfold source pRest pAll
  iintro H
  ihave H := (pointsTo_share (PosShare.mem_left_op_right fullShare)).1 $$ H
  icases H with ⟨Hl, Hr⟩
  ihave Hl := (pointsTo_split_subset (I := (rowsX c).view.set) (Finset.subset_univ _)).1 $$ Hl
  ihave Hr := (pointsTo_split_subset (I := (rowsO c).view.set) (Finset.subset_univ _)).1 $$ Hr
  icases Hl with ⟨Hl, Hl'⟩
  icases Hr with ⟨Hr, Hr'⟩
  isplitl [Hl Hr]
  · isplitl [Hl]
    · iapply (holds_intro (rowsX c) c fullShare.left (P c)) $$ Hl
    · iapply (holds_intro (rowsO c) c fullShare.right (P c)) $$ Hr
  · isplitl [Hl'] <;> iassumption

theorem p_join (c : Dev nD) : iprop(source P c ∗ pRest P c) ⊢ (pAll P c : sProp (MM F)) := by
  unfold source pRest pAll
  iintro ⟨⟨Hl, Hr⟩, ⟨Hl', Hr'⟩⟩
  ihave Hl := (holds_elim (rowsX c) c fullShare.left (P c)) $$ Hl
  ihave Hr := (holds_elim (rowsO c) c fullShare.right (P c)) $$ Hr
  iapply (pointsTo_share (PosShare.mem_left_op_right fullShare)).2
  isplitl [Hl Hl']
  · iapply (pointsTo_split_subset (I := (rowsX c).view.set) (Finset.subset_univ _)).2
    isplitl [Hl] <;> iassumption
  · iapply (pointsTo_split_subset (I := (rowsO c).view.set) (Finset.subset_univ _)).2
    isplitl [Hr] <;> iassumption

end Cert.KernelIdeal.Ring

end
-- ==== Proof.Talk.lean ====
/-
  The communication call as a region: what its device holds when it begins, the opening of its own
  cells, the run of its one point, and the closing of every cell.
-/
module

public import proofs.«01_k».proof.Proof.Ends

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]
variable (P : Dev nD → Vec F S4096x512 .f32) (Kn : GSem nD τ sig → ℕ)

/-! ## The call's own semaphores -/

/-- The kinds of the cells that are the call's own: all but the barrier. -/
def dkds : List Kd := [.crd 0, .crd 1, .xs, .xr, .snd 0 0, .snd 0 1, .snd 1 0, .snd 1 1, .rcv 0 0, .rcv 0 1, .rcv 1 0, .rcv 1 1]

theorem dkds_nodup : dkds.Nodup := by decide

/-- The call's own semaphores: those of the cells, and the six that only its own copies signal. -/
def osem : Fin 18 → SemLoc sig :=
  ![semOf (.crd 0), semOf (.crd 1), semOf .xs, semOf .xr, semOf (.snd 0 0), semOf (.snd 0 1), semOf (.snd 1 0), semOf (.snd 1 1),
    semOf (.rcv 0 0), semOf (.rcv 0 1), semOf (.rcv 1 0), semOf (.rcv 1 1),
    .dma cc1_scratch10.sem, .dma cc1_scratch11.sem, .dma (one (stM 0) (sl 0)).sem, .dma (one (stM 0) (sl 1)).sem,
    .dma (one (stM 1) (sl 0)).sem, .dma (one (stM 1) (sl 1)).sem]

/-- The counters that only the device's own copies signal, at zero. -/
def lone (c : Dev nD) : sProp (MM F) :=
  iprop(semVal ((c : Thread nD τ), .dma cc1_scratch10.sem) 0 ∗ semVal ((c : Thread nD τ), .dma cc1_scratch11.sem) 0
    ∗ semVal ((c : Thread nD τ), .dma (one (stM 0) (sl 0)).sem) 0 ∗ semVal ((c : Thread nD τ), .dma (one (stM 0) (sl 1)).sem) 0
    ∗ semVal ((c : Thread nD τ), .dma (one (stM 1) (sl 0)).sem) 0 ∗ semVal ((c : Thread nD τ), .dma (one (stM 1) (sl 1)).sem) 0)

theorem own_sems (c : Dev nD) : (Pipeline.ownSems0 osem c : sProp (MM F))
    = iprop((bigSep dkds.toFinset fun k => semVal (cell c k) 0) ∗ lone c) := by
  rw [bigSep_eq_bigSepL _ dkds_nodup]
  unfold Pipeline.ownSems0
  rw [bigSep_univ_eq_bigSepL [0, 1, 2, 3, 4, 5, 6, 7, 8, 9, 10, 11, 12, 13, 14, 15, 16, 17] (by decide) (by decide)]
  exact Idealize.SL.BI.equiv_iff.mp ⟨by
    show iprop(semVal (cell c (.crd 0)) 0 ∗ semVal (cell c (.crd 1)) 0 ∗ semVal (cell c .xs) 0 ∗ semVal (cell c .xr) 0
      ∗ semVal (cell c (.snd 0 0)) 0 ∗ semVal (cell c (.snd 0 1)) 0 ∗ semVal (cell c (.snd 1 0)) 0 ∗ semVal (cell c (.snd 1 1)) 0
      ∗ semVal (cell c (.rcv 0 0)) 0 ∗ semVal (cell c (.rcv 0 1)) 0 ∗ semVal (cell c (.rcv 1 0)) 0 ∗ semVal (cell c (.rcv 1 1)) 0 ∗ lone c)
      ⊢ iprop((semVal (cell c (.crd 0)) 0 ∗ semVal (cell c (.crd 1)) 0 ∗ semVal (cell c .xs) 0 ∗ semVal (cell c .xr) 0
      ∗ semVal (cell c (.snd 0 0)) 0 ∗ semVal (cell c (.snd 0 1)) 0 ∗ semVal (cell c (.snd 1 0)) 0 ∗ semVal (cell c (.snd 1 1)) 0
      ∗ semVal (cell c (.rcv 0 0)) 0 ∗ semVal (cell c (.rcv 0 1)) 0 ∗ semVal (cell c (.rcv 1 0)) 0 ∗ semVal (cell c (.rcv 1 1)) 0) ∗ lone c)
    iintro ⟨H0, H1, H2, H3, H4, H5, H6, H7, H8, H9, H10, H11, Hl⟩
    isplitr [Hl]
    · isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      iexact H11
    iexact Hl, by
    show iprop((semVal (cell c (.crd 0)) 0 ∗ semVal (cell c (.crd 1)) 0 ∗ semVal (cell c .xs) 0 ∗ semVal (cell c .xr) 0
      ∗ semVal (cell c (.snd 0 0)) 0 ∗ semVal (cell c (.snd 0 1)) 0 ∗ semVal (cell c (.snd 1 0)) 0 ∗ semVal (cell c (.snd 1 1)) 0
      ∗ semVal (cell c (.rcv 0 0)) 0 ∗ semVal (cell c (.rcv 0 1)) 0 ∗ semVal (cell c (.rcv 1 0)) 0 ∗ semVal (cell c (.rcv 1 1)) 0) ∗ lone c)
      ⊢ iprop(semVal (cell c (.crd 0)) 0 ∗ semVal (cell c (.crd 1)) 0 ∗ semVal (cell c .xs) 0 ∗ semVal (cell c .xr) 0
      ∗ semVal (cell c (.snd 0 0)) 0 ∗ semVal (cell c (.snd 0 1)) 0 ∗ semVal (cell c (.snd 1 0)) 0 ∗ semVal (cell c (.snd 1 1)) 0
      ∗ semVal (cell c (.rcv 0 0)) 0 ∗ semVal (cell c (.rcv 0 1)) 0 ∗ semVal (cell c (.rcv 1 0)) 0 ∗ semVal (cell c (.rcv 1 1)) 0 ∗ lone c)
    iintro ⟨⟨H0, H1, H2, H3, H4, H5, H6, H7, H8, H9, H10, H11⟩, Hl⟩
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    iexact Hl⟩

theorem osem_facts : Pipeline.OwnSemFacts spec1 osem := by decide

/-! ## What launch deals, and what opening the cells makes of it -/

/-- The tokens and the credits of a direction. -/
def ways (d : Fin 2) (c : Dev nD) : sProp (MM F) :=
  iprop((toks d c 0 ∗ toks d c 1 ∗ toks d c 2 ∗ toks d c 3 ∗ toks d c 4 ∗ toks d c 5 ∗ toks d c 6 ∗ toks d c 7)
    ∗ (pays d c 0 ∗ pays d c 1 ∗ pays d c 2 ∗ pays d c 3 ∗ pays d c 4 ∗ pays d c 5 ∗ pays d c 6)
    ∗ (takes d c 0 ∗ takes d c 1 ∗ takes d c 2 ∗ takes d c 3 ∗ takes d c 4 ∗ takes d c 5 ∗ takes d c 6))

/-- The tokens and the credits of the barrier and of the exchange across. -/
def meets (c : Dev nD) : sProp (MM F) :=
  iprop((dutyTok ER (cell (across c) .bar) 0 0 ∗ dutyTok ER (cell (nx 1 c) .bar) 0 1 ∗ dutyTok ER (cell (nx 0 c) .bar) 0 2 ∗ cred (tallyAt (cell c .bar) 1 3))
    ∗ (dutyTok ER (cell c .xs) 0 0 ∗ dutyTok ER (cell (across c) .xr) 0 0 ∗ cred (tallyAt (cell c .xr) 2 NX)))

/-- What device `c` is dealt at launch: the call's cells not yet open. -/
def dealt (c : Dev nD) : sProp (MM F) :=
  iprop(meets c ∗ ways 0 c ∗ ways 1 c ∗ atPos ER (cell c .bar) 0 ∅ 0 ∗ bigSep dkds.toFinset fun k => openTok ER (cell c k))

/-- The same with the call's cells open. -/
def opened (c : Dev nD) : sProp (MM F) :=
  iprop(meets c ∗ ways 0 c ∗ ways 1 c ∗ atPos ER (cell c .bar) 0 ∅ 0 ∗ (bigSep dkds.toFinset fun k => iprop(atPos ER (cell c k) 0 ∅ 0 ∗ reached ER (cell c k) 0)) ∗ lone c)

def Tk (c : Dev nD) : sProp (MM F) := iprop(∃ Kn, ctx P Kn ∗ dealt c)
def Xk (c : Dev nD) : sProp (MM F) := iprop(∃ Kn, ctx P Kn ∗ opened c)
def Yk (c : Dev nD) : sProp (MM F) := semVal (cell c .bar) 0

theorem open_one (c : Dev nD) (k : Kd) : iprop(ctx P Kn ∗ (openTok ER (cell c k) ∗ semVal (cell c k) 0))
    ⊢ (|={Set.univ}=> iprop(atPos ER (cell c k) 0 ∅ 0 ∗ reached ER (cell c k) 0) : sProp (MM F)) := by
  iintro ⟨#Hctx, Ho, Hv⟩
  ihave Hi := (ctx_inv P Kn c k) $$ Hctx
  iapply (Rounds.cell_open ER (Rd P) (g := cell c k) (Set.mem_univ (Kn (cell c k))))
  isplitl [Hi]; · iexact Hi
  isplitl [Ho] <;> iassumption

theorem open_all (c : Dev nD) : iprop(Tk P c ∗ Pipeline.ownSems0 osem c ∗ levAts L lv) ⊢ (|={Set.univ}=> Xk P c : sProp (MM F)) := by
  rw [own_sems]
  unfold Tk Xk dealt opened
  iintro ⟨⟨%Kn, #Hctx, Hm, Hw0, Hw1, Hb, Ho⟩, ⟨Hv, Hl⟩, -⟩
  have h1 := bigSep_with_persistent (S := dkds.toFinset) (R := ctx P Kn)
    (Φ := fun k => (iprop(openTok ER (cell c k) ∗ semVal (cell c k) 0) : sProp (MM F)))
    (Ψ := fun k => iprop(|={Set.univ}=> iprop(atPos ER (cell c k) 0 ∅ 0 ∗ reached ER (cell c k) 0))) (fun k _ => open_one P Kn c k)
  have h2 := (h1.trans (bigSep_fupd _ _))
  rw [bigSep_sep'] at h2
  imod h2 $$ [Ho Hv] with H
  · isplitr; · iexact Hctx
    isplitl [Ho] <;> iassumption
  imodintro
  iexists Kn
  isplitr; · iexact Hctx
  isplitl [Hm]; · iexact Hm
  isplitl [Hw0]; · iexact Hw0
  isplitl [Hw1]; · iexact Hw1
  isplitl [Hb]; · iexact Hb
  isplitl [H] <;> iassumption

/-! ## The closing of the cells -/

theorem not_unitless (c : Dev nD) (k : Kd) : ¬(Rd P).unitless (cell c k) := fun h => h

/-- A cell at the end of its last round closes, and its counter is at zero. -/
theorem close_one (c : Dev nD) (k : Kd) : iprop(ctx P Kn ∗ atPos ER (cell c k) (rounds k) ∅ 0) ⊢ (|={Set.univ}=> semVal (cell c k) 0 : sProp (MM F)) := by
  iintro ⟨#Hctx, Hp⟩
  ihave Hi := (ctx_inv P Kn c k) $$ Hctx
  iapply (Rounds.cell_close ER (Rd P) (g := cell c k) (Set.mem_univ (Kn (cell c k))) (not_unitless P c k) (R := rounds k) (Rd_later P c k))
  isplitl [Hi] <;> iassumption

/-- Every cell of device `c` at the end of its last round. -/
def overs (c : Dev nD) : sProp (MM F) := bigSep dkds.toFinset fun k => atPos ER (cell c k) (rounds k) ∅ 0

theorem overs_intro (c : Dev nD) :
    iprop(atPos ER (cell c .xs) 1 ∅ 0 ∗ atPos ER (cell c .xr) 1 ∅ 0 ∗ ended 0 c ∗ ended 1 c) ⊢ (overs c : sProp (MM F)) := by
  unfold overs ended
  rw [bigSep_eq_bigSepL _ dkds_nodup]
  show _ ⊢ iprop(atPos ER (cell c (.crd 0)) 7 ∅ 0 ∗ atPos ER (cell c (.crd 1)) 7 ∅ 0 ∗ atPos ER (cell c .xs) 1 ∅ 0 ∗ atPos ER (cell c .xr) 1 ∅ 0
    ∗ atPos ER (cell c (.snd 0 0)) 4 ∅ 0 ∗ atPos ER (cell c (.snd 0 1)) 4 ∅ 0 ∗ atPos ER (cell c (.snd 1 0)) 4 ∅ 0 ∗ atPos ER (cell c (.snd 1 1)) 4 ∅ 0
    ∗ atPos ER (cell c (.rcv 0 0)) 4 ∅ 0 ∗ atPos ER (cell c (.rcv 0 1)) 4 ∅ 0 ∗ atPos ER (cell c (.rcv 1 0)) 4 ∅ 0 ∗ atPos ER (cell c (.rcv 1 1)) 4 ∅ 0)
  iintro ⟨H2, H3, ⟨H4, H5, H8, H9, H0⟩, H6, H7, H10, H11, H1⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

theorem close_all (c : Dev nD) : iprop(ctx P Kn ∗ overs c) ⊢ (|={Set.univ}=> bigSep dkds.toFinset fun k => semVal (cell c k) 0 : sProp (MM F)) := by
  unfold overs
  have h := bigSep_with_persistent (S := dkds.toFinset) (R := ctx P Kn) (Φ := fun k => (atPos ER (cell c k) (rounds k) ∅ 0 : sProp (MM F)))
    (Ψ := fun k => iprop(|={Set.univ}=> semVal (cell c k) 0)) (fun k _ => close_one P Kn c k)
  have h' := bigSep_fupd (E := Set.univ) (Fr := frame) dkds.toFinset (fun k => (semVal (cell c k) 0 : sProp (MM F)))
  exact h.trans h'

end Cert.KernelIdeal.Ring

end

end
-- ==== Proof.Comm.lean ====
/-
  The run of the communication call's one point: from what the region holds when the cells are open
  to what it holds when they are closed.
-/
module

public import proofs.«01_k».proof.Proof.Talk
public import proofs.«01_k».proof.Proof.Gen.KernelIdeal.Regions

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]
variable (P : Dev nD → Vec F S4096x512 .f32) (Kn : GSem nD τ sig → ℕ)

/-! ## What the run takes -/

/-- A cell open and at its first round. -/
abbrev atStart (c : Dev nD) (k : Kd) : sProp (MM F) := iprop(atPos ER (cell c k) 0 ∅ 0 ∗ reached ER (cell c k) 0)

theorem start_intro (d : Fin 2) (c : Dev nD) :
    iprop(atStart c (.crd d) ∗ atStart c (.snd d (sl 0)) ∗ atStart c (.snd d (sl 1)) ∗ atStart c (.rcv d (sl 0)) ∗ atStart c (.rcv d (sl 1)) ∗ ways d c
        ∗ semVal ((c : Thread nD τ), .dma (one (stM d) (sl 0)).sem) 0 ∗ semVal ((c : Thread nD τ), .dma (one (stM d) (sl 1)).sem) 0 ∗ outs d c)
      ⊢ (start d c : sProp (MM F)) := by
  unfold start pos ways outs after0 uses
  iintro ⟨Hc, ⟨Hs0, Hs0'⟩, ⟨Hs1, Hs1'⟩, ⟨Hr0, Hr0'⟩, ⟨Hr1, -⟩, ⟨⟨T0, T1, T2, T3, T4, T5, T6, T7⟩, ⟨P0, P1, P2, P3, P4, P5, P6⟩,
    ⟨K0, K1, K2, K3, K4, K5, K6⟩⟩, V0, V1, ⟨B1, B2, B3, B4, B5, B6, B7⟩⟩
  isplitl [Hs0 Hs0' Hs1 Hs1' Hr0 Hr0' Hr1]
  · isplitl [Hs0]; · iexact Hs0
    isplitl [Hs0']; · iexact Hs0'
    isplitl [Hs1]; · iexact Hs1
    isplitl [Hs1']; · iexact Hs1'
    isplitl [Hr1]; · iexact Hr1
    isplitl [Hr0]; · iexact Hr0
    iexact Hr0'
  isplitl [Hc]; · iexact Hc
  isplitl [T0]; · iexact T0
  isplitl [P0 B1 V0 V1]
  · isplitl [P0]; · iexact P0
    isplitl [B1]; · iexact B1
    isplitl [V0]; · iexact V0
    iexact V1
  isplitl [K0 T1 P1 B2]
  · isplitl [K0]; · iexact K0
    isplitl [T1]; · iexact T1
    isplitl [P1] <;> iassumption
  isplitl [K1 T2 P2 B3]
  · isplitl [K1]; · iexact K1
    isplitl [T2]; · iexact T2
    isplitl [P2] <;> iassumption
  isplitl [K2 T3 P3 B4]
  · isplitl [K2]; · iexact K2
    isplitl [T3]; · iexact T3
    isplitl [P3] <;> iassumption
  isplitl [K3 T4 P4 B5]
  · isplitl [K3]; · iexact K3
    isplitl [T4]; · iexact T4
    isplitl [P4] <;> iassumption
  isplitl [K4 T5 P5 B6]
  · isplitl [K4]; · iexact K4
    isplitl [T5]; · iexact T5
    isplitl [P5] <;> iassumption
  isplitl [K5 T6 P6 B7]
  · isplitl [K5]; · iexact K5
    isplitl [T6]; · iexact T6
    isplitl [P6] <;> iassumption
  isplitl [K6]; · iexact K6
  iexact T7

/-- The buffers of the call's own. -/
def scratch (c : Dev nD) : sProp (MM F) := iprop(has ownM c ∗ has rxM c ∗ has (bufM 0) c ∗ has (bufM 1) c)

/-- The staging buffers of the other call. -/
def idle (c : Dev nD) : sProp (MM F) :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg1_1), ((c : Thread nD τ).loc cc0_stg1_1) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg2_1), ((c : Thread nD τ).loc cc0_stg2_1) ↦{fullShare} f))

theorem has_whole (c : Dev nD) (b : Ref sig .tc) (hs : b.space = b.space) :
    (has (Memref.whole b) c : sProp (MM F)) = iprop(∃ f : Buf (Elt F) ((c : Thread nD τ).loc b), ((c : Thread nD τ).loc b) ↦{fullShare} f) := by
  unfold has
  simp only [Memref.view_whole, View.set_whole]

theorem regroup (A0 A1 A2 A3 A4 A5 A6 A7 A8 A9 : sProp (MM F)) :
    iprop(A0 ∗ A1 ∗ A2 ∗ A3 ∗ A4 ∗ A5 ∗ A6 ∗ A7 ∗ A8 ∗ A9) = iprop((A0 ∗ A1 ∗ A2 ∗ A3 ∗ A4 ∗ A5) ∗ A6 ∗ A7 ∗ A9 ∗ A8) := by
  refine Idealize.SL.BI.equiv_iff.mp ⟨?_, ?_⟩
  · show iprop(A0 ∗ A1 ∗ A2 ∗ A3 ∗ A4 ∗ A5 ∗ A6 ∗ A7 ∗ A8 ∗ A9) ⊢ iprop((A0 ∗ A1 ∗ A2 ∗ A3 ∗ A4 ∗ A5) ∗ A6 ∗ A7 ∗ A9 ∗ A8)
    iintro ⟨H0, H1, H2, H3, H4, H5, H6, H7, H8, H9⟩
    isplitl [H0 H1 H2 H3 H4 H5]
    · isplitl [H0]; · iexact H0
      isplitl [H1]; · iexact H1
      isplitl [H2]; · iexact H2
      isplitl [H3]; · iexact H3
      isplitl [H4] <;> iassumption
    isplitl [H6]; · iexact H6
    isplitl [H7]; · iexact H7
    isplitl [H9] <;> iassumption
  · show iprop((A0 ∗ A1 ∗ A2 ∗ A3 ∗ A4 ∗ A5) ∗ A6 ∗ A7 ∗ A9 ∗ A8) ⊢ iprop(A0 ∗ A1 ∗ A2 ∗ A3 ∗ A4 ∗ A5 ∗ A6 ∗ A7 ∗ A8 ∗ A9)
    iintro ⟨⟨H0, H1, H2, H3, H4, H5⟩, H6, H7, H9, H8⟩
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8] <;> iassumption

/-- The scoped buffers no window of the call stages. -/
abbrev others (c : Dev nD) : sProp (MM F) := Pipeline.scopedRest spec1 c

theorem others_eq (c : Dev nD) : (others c : sProp (MM F)) = iprop(idle c ∗ scratch c) := by
  have e : (scratch c : sProp (MM F)) = iprop((∃ f : Buf (Elt F) ((c : Thread nD τ).loc cc1_scratch0), ((c : Thread nD τ).loc cc1_scratch0) ↦{fullShare} f)
      ∗ (∃ f : Buf (Elt F) ((c : Thread nD τ).loc cc1_scratch1), ((c : Thread nD τ).loc cc1_scratch1) ↦{fullShare} f)
      ∗ (∃ f : Buf (Elt F) ((c : Thread nD τ).loc cc1_scratch3), ((c : Thread nD τ).loc cc1_scratch3) ↦{fullShare} f)
      ∗ (∃ f : Buf (Elt F) ((c : Thread nD τ).loc cc1_scratch2), ((c : Thread nD τ).loc cc1_scratch2) ↦{fullShare} f)) :=
    congrArg₂ (fun a b => iprop(a ∗ b)) (has_whole c cc1_scratch0 rfl) (congrArg₂ (fun a b => iprop(a ∗ b)) (has_whole c cc1_scratch1 rfl)
      (congrArg₂ (fun a b => iprop(a ∗ b)) (has_whole c cc1_scratch3 rfl) (has_whole c cc1_scratch2 rfl)))
  rw [e]
  unfold others idle
  rw [scopedRest1_eq]
  exact regroup _ _ _ _ _ _ _ _ _ _

/-- The cells open, the buffers whole: what the run takes beside the schedule and what is owed. -/
theorem takes_intro (M : Memref sig .tc .smem S20 .i32) (q : PosShare TreeShare) (c : Dev nD) :
    iprop(sched M c q ∗ owe c (owes₀ c) ∗ opened c ∗ scratch c ∗ source P c ∗ has outM c) ⊢ (takes₀ P M q c : sProp (MM F)) := by
  unfold opened scratch takes₀ meets lone enters exchanges
  rw [bigSep_eq_bigSepL _ dkds_nodup]
  iintro ⟨Hw, HO, ⟨⟨⟨B0, B1, B2, B3⟩, ⟨X0, X1, X2⟩⟩, W0, W1, Hbar, Hcells, ⟨V10, V11, S00, S01, S10, S11⟩⟩, ⟨Hown, Hrx, Hb0, Hb1⟩, Hsrc, Hout⟩
  ihave Hc := (show (bigSepL dkds fun k => atStart c k) ⊢ iprop(atStart (F := F) c (.crd 0) ∗ atStart c (.crd 1) ∗ atStart c .xs ∗ atStart c .xr
    ∗ atStart c (.snd 0 0) ∗ atStart c (.snd 0 1) ∗ atStart c (.snd 1 0) ∗ atStart c (.snd 1 1)
    ∗ atStart c (.rcv 0 0) ∗ atStart c (.rcv 0 1) ∗ atStart c (.rcv 1 0) ∗ atStart c (.rcv 1 1)) from .rfl) $$ Hcells
  icases Hc with ⟨C0, C1, ⟨Cxs, Cxs'⟩, ⟨Cxr, #Cxr'⟩, S0, S1, S2, S3, R0, ⟨R1, #R1'⟩, R2, ⟨R3, #R3'⟩⟩
  ihave Hout := (out_cut c) $$ Hout
  icases Hout with ⟨Hob, O0, O1, Ht, Hb⟩
  isplitl [Hw]; · iexact Hw
  isplitl [HO]; · iexact HO
  isplitl [B0 B1 B2 B3 Hbar]
  · isplitl [B0]; · iexact B0
    isplitl [B1]; · iexact B1
    isplitl [B2]; · iexact B2
    isplitl [B3]; · iexact B3
    isplitl [Hbar]; · iexact Hbar
    isplitr; · iexact Cxr'
    isplitr; · iexact R1'
    iexact R3'
  isplitl [X0 X1 X2 Cxs Cxs' Cxr]
  · isplitl [X0]; · iexact X0
    isplitl [X1]; · iexact X1
    isplitl [X2]; · iexact X2
    isplitl [Cxs]; · iexact Cxs
    isplitl [Cxr] <;> iassumption
  isplitl [Hsrc]; · iexact Hsrc
  isplitl [Hown]; · iexact Hown
  isplitl [Hrx]; · iexact Hrx
  isplitl [Hb0]; · iexact Hb0
  isplitl [Hb1]; · iexact Hb1
  isplitl [V10]; · iexact V10
  isplitl [V11]; · iexact V11
  isplitl [C0 S0 S1 R0 R1 W0 S00 S01 O0]
  · iapply (start_intro 0 c)
    isplitl [C0]; · iexact C0
    isplitl [S0]; · iexact S0
    isplitl [S1]; · iexact S1
    isplitl [R0]; · iexact R0
    isplitl [R1]
    · isplitl [R1]; · iexact R1
      iexact R1'
    isplitl [W0]; · iexact W0
    isplitl [S00]; · iexact S00
    isplitl [S01] <;> iassumption
  isplitl [C1 S2 S3 R2 R3 W1 S10 S11 O1]
  · iapply (start_intro 1 c)
    isplitl [C1]; · iexact C1
    isplitl [S2]; · iexact S2
    isplitl [S3]; · iexact S3
    isplitl [R2]; · iexact R2
    isplitl [R3]
    · isplitl [R3]; · iexact R3
      iexact R3'
    isplitl [W1]; · iexact W1
    isplitl [S10]; · iexact S10
    isplitl [S11] <;> iassumption
  isplitl [Hob]; · iexact Hob
  isplitl [Ht] <;> iassumption

/-! ## What the run leaves -/

theorem left_elim (d : Fin 2) (c : Dev nD) : left P d c
    ⊢ iprop(has (slot (bufM d) 0) c ∗ has (slot (bufM d) 1) c ∗ ended d c ∗ dones P d c
        ∗ semVal ((c : Thread nD τ), .dma (one (stM d) 0).sem) 0 ∗ semVal ((c : Thread nD τ), .dma (one (stM d) 1).sem) 0) := by
  unfold left rest dones
  iintro ⟨⟨H1, Hh, He, D7, V0, V1⟩, Hh', D1, D2, D3, D4, D5, D6⟩
  isplitl [Hh Hh']
  · iapply (has_join_slot' 0)
    isplitl [Hh] <;> iassumption
  isplitl [H1]; · iexact H1
  isplitl [He]; · iexact He
  isplitl [D1 D2 D3 D4 D5 D6 D7]
  · isplitl [D1]; · iexact D1
    isplitl [D2]; · iexact D2
    isplitl [D3]; · iexact D3
    isplitl [D4]; · iexact D4
    isplitl [D5]; · iexact D5
    isplitl [D6] <;> iassumption
  isplitl [V0] <;> iassumption

/-- The cells closed, the buffers whole again, the result whole. -/
theorem leaves_elim (M : Memref sig .tc .smem S20 .i32) (q : PosShare TreeShare) (c : Dev nD) : iprop(ctx P Kn ∗ leaves P M q c)
    ⊢ (|={Set.univ}=> iprop(sched M c q ∗ owe c 0 ∗ Yk c ∗ Pipeline.ownSems0 osem c ∗ scratch c ∗ source P c ∗ holds outM c fullShare (outFull P c)) : sProp (MM F)) := by
  rw [own_sems]
  unfold leaves scratch Yk lone
  iintro ⟨#Hctx, Hw, HO, Hbar, Hxs, Hxr, Hsrc, Hown, Hrx, V10, V11, HL0, HL1, Hob, Ht, Hb⟩
  ihave HL0 := (left_elim P 0 c) $$ HL0
  ihave HL1 := (left_elim P 1 c) $$ HL1
  icases HL0 with ⟨B00, B01, E0, D0, S00, S01⟩
  icases HL1 with ⟨B10, B11, E1, D1, S10, S11⟩
  imod (close_one P Kn c .bar) $$ [Hbar] with Hbar
  · isplitr; · iexact Hctx
    iexact Hbar
  imod (close_all P Kn c) $$ [Hxs Hxr E0 E1] with Hcells
  · isplitr; · iexact Hctx
    iapply (overs_intro c)
    isplitl [Hxs]; · iexact Hxs
    isplitl [Hxr]; · iexact Hxr
    isplitl [E0] <;> iassumption
  imodintro
  isplitl [Hw]; · iexact Hw
  isplitl [HO]; · iexact HO
  isplitl [Hbar]; · iexact Hbar
  isplitl [Hcells V10 V11 S00 S01 S10 S11]
  · isplitl [Hcells]; · iexact Hcells
    isplitl [V10]; · iexact V10
    isplitl [V11]; · iexact V11
    isplitl [S00]; · iexact S00
    isplitl [S01]; · iexact S01
    isplitl [S10]; · iexact S10
    iexact S11
  isplitl [Hown Hrx B00 B01 B10 B11]
  · isplitl [Hown]; · iexact Hown
    isplitl [Hrx]; · iexact Hrx
    isplitl [B00 B01]
    · iapply (has_join_buf (bufM 0) c)
      isplitl [B00] <;> iassumption
    · iapply (has_join_buf (bufM 1) c)
      isplitl [B10] <;> iassumption
  isplitl [Hsrc]; · iexact Hsrc
  iapply (out_join P c)
  isplitl [Hob]; · iexact Hob
  isplitl [D0]; · iexact D0
  isplitl [D1]; · iexact D1
  isplitl [Ht] <;> iassumption

/-! ## The run -/

/-- What the region holds before its point, beside the schedule. -/
def before₁ (c : Dev nD) : sProp (MM F) :=
  iprop(Xk P c ∗ others c ∗ (∃ r, prngReg c r) ∗ pAll P c ∗ has outM c)

/-- And after. -/
def after₁ (c : Dev nD) : sProp (MM F) :=
  iprop(Yk c ∗ Pipeline.ownSems0 osem c ∗ others c ∗ (∃ r, prngReg c r) ∗ pAll P c ∗ holds outM c fullShare (outFull P c))

theorem region_run {c : Dev nD} {M : Memref sig .tc .smem S20 .i32} {Q : PUnit → sProp (MM F)} :
    iprop(before₁ P c ∗ sched M c fullShare ∗ owe c (owes₀ c))
      ⊢ iprop((iprop(after₁ P c ∗ sched M c fullShare ∗ owe c 0) -∗ Q ⟨⟩) -∗ run c (commP M) Q) := by
  unfold before₁ after₁ Xk
  rw [others_eq]
  iintro ⟨⟨⟨%Kn, #Hctx, Hop⟩, ⟨Hidle, Hsc⟩, Hreg, Hp, Hout⟩, Hw, HO⟩ Hk
  ihave Hp := (p_cut P c) $$ Hp
  icases Hp with ⟨Hsrc, Hrest⟩
  iapply (wp_fupd frame (wpE (defs₀ (F := F)) 𝒱₀ (c : Thread nD τ) none) Set.univ (commP M) Q)
  iapply (comm_run P Kn) $$ [Hw HO Hop Hsc Hsrc Hout]
  · isplitr; · iexact Hctx
    iapply (takes_intro P M fullShare c)
    isplitl [Hw]; · iexact Hw
    isplitl [HO]; · iexact HO
    isplitl [Hop]; · iexact Hop
    isplitl [Hsc]; · iexact Hsc
    isplitl [Hsrc] <;> iassumption
  iintro Hl
  imod (leaves_elim P Kn M fullShare c) $$ [Hl] with ⟨Hw, HO, HY, Hs, Hsc, Hsrc, Hout⟩
  · isplitr; · iexact Hctx
    iexact Hl
  imodintro
  iapply Hk
  isplitr [Hw HO]
  · isplitl [HY]; · iexact HY
    isplitl [Hs]; · iexact Hs
    isplitl [Hidle Hsc]
    · isplitl [Hidle] <;> iassumption
    isplitl [Hreg]; · iexact Hreg
    isplitl [Hsrc Hrest]
    · iapply (p_join P c)
      isplitl [Hsrc] <;> iassumption
    iexact Hout
  isplitl [Hw] <;> iassumption

end Cert.KernelIdeal.Ring

end

end
-- ==== Proof.Words.lean ====
/-
  The words that the host computes before the communication call: the schedule of the ring, on each device.
-/
module

public import proofs.«01_k».proof.Proof.Steps
public import proofs.«01_k».proof.Proof.Gen.KernelIdeal.Regions
public import Idealize.ShloMosaic.Lib.StableHlo.RunClose

@[expose] public section

noncomputable section

namespace Cert.KernelIdeal.Ring

open Idealize.ShloMosaic Idealize.ShloMosaic.TcCoe
open Cert.KernelIdeal Cert.KernelIdeal.Gen Idealize.ShloMosaic.StableHlo

variable {F : FTy → Type} [FloatOps F]

/-! ## What each stretch of the host's operations leaves, as a function of what it finds -/

/-- The remainder by 16 whose sign is that of the divisor, as the host computes it. -/
def wrap1 (a n : IVec S_ 32) : IVec S_ 32 :=
  let n' := select (cmpi .eq n (constantI S_ 32 0#32)) (constantI S_ 32 1#32) n
  let r := Host.remsi a n'
  select (andi (cmpi .ne (cmpi .slt r (constantI S_ 32 0#32)) (cmpi .slt n' (constantI S_ 32 0#32))) (cmpi .ne r (constantI S_ 32 0#32)))
    (addi r n') r

/-- The same in eight places. -/
def wrap8 (a : IVec S8 32) (n : IVec S_ 32) : IVec S8 32 :=
  let b {w : ℕ} (x : IVec S_ w) : IVec S8 w := broadcastInDim S8 ![] bcast_S_S8 x
  let n' := select (cmpi .eq n (constantI S_ 32 0#32)) (constantI S_ 32 1#32) n
  let r := Host.remsi a (b n')
  select (andi (cmpi .ne (cmpi .slt r (b (constantI S_ 32 0#32))) (b (cmpi .slt n' (constantI S_ 32 0#32)))) (cmpi .ne r (b (constantI S_ 32 0#32))))
    (addi r (b n')) r

/-- An index counted from the end where it is negative. -/
def fromEnd {s : Shape} (n a z : IVec s 32) : IVec s 32 := select (cmpi .slt a z) (addi a n) a

/-- The entry of the table of places at a rank. -/
def placeOf (tab : IVec S16 32) (r : IVec S_ 32) : IVec S_ 32 :=
  shapeCast S_ (Host.dynamicSlice S1 tab (fun k => ((![fromEnd (constantI S_ 32 16#32) r (constantI S_ 32 0#32)] : Fin 1 → IVec S_ 32) k (Shape.Idx.first h_S_)).toInt) sliceFits_S16_S1) shapeCasts_S1_S_

/-- The row of the table of coordinates at a place. -/
def rowOf (tab : IVec S16x2 32) (p : IVec S_ 32) : IVec S2 32 :=
  shapeCast S2 (Host.dynamicSlice S1x2 tab
    (fun k => ((![fromEnd (constantI S_ 32 16#32) p (constantI S_ 32 0#32),
      select (cmpi .slt (constantI S_ 32 0#32) (constantI S_ 32 0#32)) (addi (constantI S_ 32 0#32) (constantI S_ 32 2#32)) (constantI S_ 32 0#32)] :
        Fin 2 → IVec S_ 32) k (Shape.Idx.first h_S_)).toInt) sliceFits_S16x2_S1x2) shapeCasts_S1x2_S2

/-- The number of the chunk that goes at each step, from the places visited. -/
def chunksOf (tab : IVec S16x2 32) (a b : IVec S8 32) : IVec S16 32 :=
  let e (x : IVec S_ 32) : IVec S16 32 := broadcastInDim S16 ![] bcast_S_S16 x
  let q : IVec S16 32 := concatenate S16 0 [⟨S8, a⟩, ⟨S8, b⟩] concatenates_S8_S8_S16_d0
  let q' := fromEnd (e (constantI S_ 32 16#32)) q (e (constantI S_ 32 0#32))
  let g := Host.gather gather_S16x2_S16x1_S16x2_1_0_n_n_0_1_12 tab (broadcastInDim S16x1 ![0] bcast_S16_S16x1_0 q')
  addi (muli (shapeCast S16 (extractStridedSlice S16x1 ![0, 0] g slices_S16x2_S16x1_0_0) shapeCasts_S16x1_S16) (e (constantI S_ 32 4#32)))
    (shapeCast S16 (extractStridedSlice S16x1 ![0, 1] g slices_S16x2_S16x1_0_1) shapeCasts_S16x1_S16)

section Stretches

variable (V : Valuation τ sig (Elt F))

theorem at_linear (c : Dev nD) : StableHlo.after (hostOps0 c) V (main_v10 : Ref sig .tc)
    = (addi (muli (Host.remui (Host.divui (constantI S_ 32 (Dev.word c)) (constantI S_ 32 4#32)) (constantI S_ 32 4#32)) (constantI S_ 32 4#32))
        (Host.remui (Host.divui (constantI S_ 32 (Dev.word c)) (constantI S_ 32 1#32)) (constantI S_ 32 4#32)) : IVec S_ 32) := by
  after_results; rfl
theorem at_table (c : Dev nD) : StableHlo.after (hostOps0 c) V (main_c : Ref sig .tc) = fun i => lit0 (S16x2.rowMajor i) := by
  after_results; rfl
theorem at_places (c : Dev nD) : StableHlo.after (hostOps0 c) V (main_c_0 : Ref sig .tc) = fun i => lit1 (S16.rowMajor i) := by
  after_results; rfl

theorem at_place : StableHlo.after hostOps1 V (main_v21 : Ref sig .tc) = placeOf (V main_c_0) (V main_v10) := by
  after_results_entrywise []
theorem at_next : StableHlo.after hostOps1 V (main_v22 : Ref sig .tc) = addi (placeOf (V main_c_0) (V main_v10)) (constantI S_ 32 1#32) := by
  after_results_entrywise []
theorem at_n13 : StableHlo.after hostOps1 V (main_c_13 : Ref sig .tc) = constantI S_ 32 16#32 := by
  after_results
theorem at_right : StableHlo.after hostOps1_1 V (main_v23 : Ref sig .tc) = wrap1 (V main_v22) (V main_c_13) := by
  after_results_entrywise [TRef.ofBuf_toBuf, id]
theorem at_row : StableHlo.after hostOps1_2 V (main_v31 : Ref sig .tc) = rowOf (V main_c) (V main_v23) := by
  after_results_entrywise []
theorem at_prev : StableHlo.after hostOps1_2 V (main_v32 : Ref sig .tc) = subi (V main_v21) (constantI S_ 32 1#32) := by
  after_results_entrywise []
theorem at_n22 : StableHlo.after hostOps1_2 V (main_c_22 : Ref sig .tc) = constantI S_ 32 16#32 := by
  after_results
theorem at_left : StableHlo.after hostOps1_3 V (main_v33 : Ref sig .tc) = wrap1 (V main_v32) (V main_c_22) := by
  after_results_entrywise [TRef.ofBuf_toBuf, id]
theorem at_row' : StableHlo.after hostOps1_4 V (main_v41 : Ref sig .tc) = rowOf (V main_c) (V main_v33) := by
  after_results_entrywise []
theorem at_down : StableHlo.after hostOps1_4 V (main_v45 : Ref sig .tc)
    = subi (broadcastInDim S8 ![] bcast_S_S8 (subi (V main_v21) (constantI S_ 32 1#32))) (iotaInDim S8 32 0) := by
  after_results
theorem at_n31 : StableHlo.after hostOps1_4 V (main_c_31 : Ref sig .tc) = constantI S_ 32 16#32 := by
  after_results
theorem at_behind : StableHlo.after hostOps1_5 V (main_v46 : Ref sig .tc) = wrap8 (V main_v45) (V main_c_31) := by
  after_results_entrywise [TRef.ofBuf_toBuf, id]
theorem at_up : StableHlo.after hostOps1_6 V (main_v50 : Ref sig .tc)
    = addi (broadcastInDim S8 ![] bcast_S_S8 (addi (V main_v21) (constantI S_ 32 1#32))) (iotaInDim S8 32 0) := by
  after_results
theorem at_n33 : StableHlo.after hostOps1_6 V (main_c_33 : Ref sig .tc) = constantI S_ 32 16#32 := by
  after_results
theorem at_ahead : StableHlo.after hostOps1_7 V (main_v51 : Ref sig .tc) = wrap8 (V main_v50) (V main_c_33) := by
  after_results_entrywise [TRef.ofBuf_toBuf, id]
theorem at_words : StableHlo.after hostOps1_8 V (main_v67 : Ref sig .tc)
    = concatenate S20 0 [⟨S2, V main_v31⟩, ⟨S2, V main_v41⟩, ⟨S16, chunksOf (V main_c) (V main_v46) (V main_v51)⟩] concatenates_S2_S2_S16_S20_d0 := by
  after_results_entrywise (rounds := 1) []

/-- The columns of dy a device multiplies with. -/
theorem at_cols (c : Dev nD) : StableHlo.after (hostOps0 c) V (main_v15 : Ref sig .tc)
    = (Host.dynamicSlice S4096x512 (V main_arg1 : Vec F S4096x8192 .f32)
        (fun k => ((![constantI S_ 32 0#32, fromEnd (constantI S_ 32 8192#32) (muli (addi (muli (Host.remui (Host.divui (constantI S_ 32 (Dev.word c)) (constantI S_ 32 4#32)) (constantI S_ 32 4#32)) (constantI S_ 32 4#32))
        (Host.remui (Host.divui (constantI S_ 32 (Dev.word c)) (constantI S_ 32 1#32)) (constantI S_ 32 4#32))) (constantI S_ 32 512#32)) (constantI S_ 32 0#32)] :
        Fin 2 → IVec S_ 32) k (Shape.Idx.first h_S_)).toInt) sliceFits_S4096x8192_S4096x512) := by
  after_results_entrywise []

end Stretches

/-! ## The schedule -/

/-- A device's rank in its plane of sixteen. -/
def rankW (c : Dev nD) : IVec S_ 32 :=
  addi (muli (Host.remui (Host.divui (constantI S_ 32 (Dev.word c)) (constantI S_ 32 4#32)) (constantI S_ 32 4#32)) (constantI S_ 32 4#32))
    (Host.remui (Host.divui (constantI S_ 32 (Dev.word c)) (constantI S_ 32 1#32)) (constantI S_ 32 4#32))

/-- Its place in the ring. -/
def placeW (c : Dev nD) : IVec S_ 32 := placeOf (fun i => lit1 (S16.rowMajor i)) (rankW c)

/-- Sixteen. -/
abbrev n16 : IVec S_ 32 := constantI S_ 32 16#32

/-- The twenty words the host computes. -/
def wordsW (c : Dev nD) : IVec S20 32 :=
  concatenate S20 0 [⟨S2, rowOf (fun i => lit0 (S16x2.rowMajor i)) (wrap1 (addi (placeW c) (constantI S_ 32 1#32)) n16)⟩,
    ⟨S2, rowOf (fun i => lit0 (S16x2.rowMajor i)) (wrap1 (subi (placeW c) (constantI S_ 32 1#32)) n16)⟩,
    ⟨S16, chunksOf (fun i => lit0 (S16x2.rowMajor i))
      (wrap8 (subi (broadcastInDim S8 ![] bcast_S_S8 (subi (placeW c) (constantI S_ 32 1#32))) (iotaInDim S8 32 0)) n16)
      (wrap8 (addi (broadcastInDim S8 ![] bcast_S_S8 (addi (placeW c) (constantI S_ 32 1#32))) (iotaInDim S8 32 0)) n16)⟩] concatenates_S2_S2_S16_S20_d0

theorem wordsW_eq : ∀ (c : Dev nD) (n : Fin 20), wordsW c (Fin.cons n finZeroElim) = word c n := by decide +kernel

section Run

variable (m : (ℓ : Loc nD τ sig) → Buf (Elt F) ℓ) (outs : Outs (F := F)) (c : Dev nD)

theorem V2_rank : V2 m outs c main_v10 = rankW c := (V2_of m outs c main_v10 (by decide)).trans (at_linear (V0 m c) c)
theorem V2_places : V2 m outs c main_c_0 = fun i => lit1 (S16.rowMajor i) := (V2_of m outs c main_c_0 (by decide)).trans (at_places (V0 m c) c)
theorem V2_table : V2 m outs c main_c = fun i => lit0 (S16x2.rowMajor i) := (V2_of m outs c main_c (by decide)).trans (at_table (V0 m c) c)
theorem V4_table : V4 m outs c main_c = fun i => lit0 (S16x2.rowMajor i) :=
  (V4_of m outs c main_c (by decide)).trans ((V3_of m outs c main_c (by decide)).trans (V2_table m outs c))
theorem V6_table : V6 m outs c main_c = fun i => lit0 (S16x2.rowMajor i) :=
  (V6_of m outs c main_c (by decide)).trans ((V5_of m outs c main_c (by decide)).trans (V4_table m outs c))
theorem V10_table : V10 m outs c main_c = fun i => lit0 (S16x2.rowMajor i) :=
  (V10_of m outs c main_c (by decide)).trans ((V9_of m outs c main_c (by decide)).trans ((V8_of m outs c main_c (by decide)).trans
    ((V7_of m outs c main_c (by decide)).trans (V6_table m outs c))))
theorem V3_place : V3 m outs c main_v21 = placeW c := by rw [V3, at_place, V2_rank, V2_places]; rfl
theorem V4_place : V4 m outs c main_v21 = placeW c := (V4_of m outs c main_v21 (by decide)).trans (V3_place m outs c)
theorem V6_place : V6 m outs c main_v21 = placeW c :=
  (V6_of m outs c main_v21 (by decide)).trans ((V5_of m outs c main_v21 (by decide)).trans (V4_place m outs c))
theorem V8_place : V8 m outs c main_v21 = placeW c :=
  (V8_of m outs c main_v21 (by decide)).trans ((V7_of m outs c main_v21 (by decide)).trans (V6_place m outs c))

theorem V4_right : V4 m outs c main_v23 = wrap1 (addi (placeW c) (constantI S_ 32 1#32)) n16 := by
  rw [V4, at_right, V3, at_next, at_n13, V2_rank, V2_places]; rfl
theorem V6_left : V6 m outs c main_v33 = wrap1 (subi (placeW c) (constantI S_ 32 1#32)) n16 := by
  rw [V6, at_left, V5, at_prev, at_n22, V4_place]
theorem V10_row : V10 m outs c main_v31 = rowOf (fun i => lit0 (S16x2.rowMajor i)) (wrap1 (addi (placeW c) (constantI S_ 32 1#32)) n16) := by
  rw [V10_of m outs c main_v31 (by decide), V9_of m outs c main_v31 (by decide), V8_of m outs c main_v31 (by decide),
    V7_of m outs c main_v31 (by decide), V6_of m outs c main_v31 (by decide), V5, at_row, V4_table, V4_right]
theorem V10_row' : V10 m outs c main_v41 = rowOf (fun i => lit0 (S16x2.rowMajor i)) (wrap1 (subi (placeW c) (constantI S_ 32 1#32)) n16) := by
  rw [V10_of m outs c main_v41 (by decide), V9_of m outs c main_v41 (by decide), V8_of m outs c main_v41 (by decide),
    V7, at_row', V6_table, V6_left]
theorem V10_behind : V10 m outs c main_v46
    = wrap8 (subi (broadcastInDim S8 ![] bcast_S_S8 (subi (placeW c) (constantI S_ 32 1#32))) (iotaInDim S8 32 0)) n16 := by
  rw [V10_of m outs c main_v46 (by decide), V9_of m outs c main_v46 (by decide), V8, at_behind, V7, at_down, at_n31, V6_place]
theorem V10_ahead : V10 m outs c main_v51
    = wrap8 (addi (broadcastInDim S8 ![] bcast_S_S8 (addi (placeW c) (constantI S_ 32 1#32))) (iotaInDim S8 32 0)) n16 := by
  rw [V10, at_ahead, V9, at_up, at_n33, V8_place]

/-- What the communication call finds as its schedule. -/
theorem V11_words : V11 m outs c main_v67 = fun i => word c (i 0) := by
  have h : V11 m outs c main_v67 = wordsW c := by
    rw [V11, at_words, V10_row, V10_row', V10_table, V10_behind, V10_ahead]; rfl
  rw [h]
  funext i
  refine Eq.trans ?_ (wordsW_eq c (i 0))
  exact congrArg (wordsW c) (funext fun k => by obtain rfl : k = 0 := Subsingleton.elim _ _; rfl)

end Run

end Cert.KernelIdeal.Ring

end

end
-- ==== Proof.Regs.lean ====
module

public import proofs.«01_k».proof.Proof.Matmul
public import proofs.«01_k».proof.Proof.Comm
public import proofs.«01_k».proof.Proof.Words

/-!
  The two calls as segments of the whole program.

  Everything here is a function of the memory `m` at launch: `P m c` is what the first call leaves on
  device `c`, and the second call leaves the sums `outFull (P m)` of what all devices left.
-/

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F] (m : (ℓ : Loc nD τ sig) → Buf (Elt F) ℓ)

/-- What the first call leaves on a device. -/
def P (c : Dev nD) : S4096x512.Idx → Elt F .f32 := (dat0 (V1 m) owes₀ c).arrAt 2 cfg0.N

/-- What the two calls leave in their results. -/
def results : Outs (F := F) := fun _ r c =>
  Function.update (Function.update (fun r => m ((c : Thread nD τ).loc r)) main_v16 (P m c)) main_v68 (outFull (P m) c) r

theorem results_p (k : ℕ) (c : Dev nD) : results m k main_v16 c = P m c := by
  unfold results
  rw [Function.update_of_ne (show main_v16 ≠ main_v68 by decide), Function.update_self]
theorem results_out (k : ℕ) (c : Dev nD) : results m k main_v68 c = outFull (P m) c := by
  unfold results
  rw [Function.update_self]

theorem above_owes (c : Dev nD) : Above 0 (owes₀ c) := by
  unfold owes₀ owesBar
  exact above_add (above_add (above_add (above_add (above_Ow c 0 0 0 0 (by decide) (by decide) (by decide) (by decide)) (above_tally _ _ _ _ (by decide) (by decide)))
    (above_tally _ _ _ _ (by decide) (by decide))) (above_tally _ _ _ _ (by decide) (by decide))) (above_tally _ _ _ _ (by decide) (by decide))

/-! ## The second call's data -/

/-- The proof data of the second call: before its one point everything is still owed, after it nothing. -/
def dat1 (c : Dev nD) : Pipeline.Dat τ (Elt F) ℕ ℕ UU ℕ cfg1 c where
  A := fun | 0 => fun i => word c (i 0)
  after := fun | 0 => fun _ i => word c (i 0)
  Φ t := if t.val = 0 then before₁ (P m) c else after₁ (P m) c
  q _ := fullShare
  owed t := if t.val = 0 then owes₀ c else 0

theorem found_words (c : Dev nD) (t : Fin cfg1.N) (d) : (dat1 m c).before 0 t d = fun i => word c (i 0) := by
  rw [(dat1 m c).before_fetched 0 t (fetch1_0 t)]
  unfold Pipeline.Dat.fetched Pipeline.Dat.blockOf
  funext i
  have hm : (cfg1.win 0).moved (cfg1.grid.coords t) i = true :=
    ((cfg1.win 0).moved_iff _ i).mpr fun a => (i a).isLt
  unfold Pipeline.Window.fill
  rw [dif_pos hm]
  show word c _ = word c (i 0)
  congr 1
  refine Fin.ext ?_
  show 0 * 20 + _ = (i 0).val
  simp

theorem owed1_first (c : Dev nD) : (dat1 m c).owed t1_0.castSucc = owes₀ c := by
  show (if (t1_0.castSucc : Fin (cfg1.N + 1)).val = 0 then owes₀ c else 0) = owes₀ c; exact if_pos rfl
theorem owed1_last (c : Dev nD) : (dat1 m c).owed (Fin.last _) = 0 := by
  show (if (Fin.last cfg1.N).val = 0 then owes₀ c else 0) = 0
  rw [Fin.val_last, if_neg (by rw [show cfg1.N = 1 from N_1]; decide)]
theorem owed1_next (c : Dev nD) : (dat1 m c).owed t1_0.succ = 0 := by
  show (if (t1_0.succ : Fin (cfg1.N + 1)).val = 0 then owes₀ c else 0) = 0
  rw [if_neg (by simp)]

theorem phi_first (c : Dev nD) : (dat1 m c).Φ t1_0.castSucc = before₁ (P m) c := by
  show (if (t1_0.castSucc : Fin (cfg1.N + 1)).val = 0 then before₁ (P m) c else after₁ (P m) c) = _; exact if_pos rfl
theorem phi_last (c : Dev nD) : (dat1 m c).Φ (Fin.last _) = after₁ (P m) c := by
  show (if (Fin.last cfg1.N).val = 0 then before₁ (P m) c else after₁ (P m) c) = _
  rw [Fin.val_last, if_neg (by rw [show cfg1.N = 1 from N_1]; decide)]
theorem phi_next (c : Dev nD) : (dat1 m c).Φ t1_0.succ = after₁ (P m) c := by
  show (if (t1_0.succ : Fin (cfg1.N + 1)).val = 0 then before₁ (P m) c else after₁ (P m) c) = _
  rw [if_neg (by simp)]

theorem owesAt_intro {cfg : Pipeline.Cfg sig Λ₀} {c : Dev nD} (dat : Pipeline.Dat τ (Elt F) ℕ ℕ UU ℕ cfg c) (t : Fin (cfg.N + 1))
    (O : CellTallies nD τ sig ℕ) (h0 : dat.owed t = O) (hr : dat.recorded t = Set.univ) :
    owe c O ⊢ (dat.owesAt 0 t : sProp (MM F)) := by
  unfold Pipeline.Dat.owesAt Pipeline.owesWithin Pipeline.Dat.bound owe
  rw [h0, hr]
  iintro ⟨%W, HO⟩
  iexists W
  isplitr
  · ipureintro; exact fun _ _ => Or.inl trivial
  iexact HO
theorem owesAt_elim {cfg : Pipeline.Cfg sig Λ₀} {c : Dev nD} (dat : Pipeline.Dat τ (Elt F) ℕ ℕ UU ℕ cfg c) (t : Fin (cfg.N + 1))
    (O : CellTallies nD τ sig ℕ) (h0 : dat.owed t = O) :
    (dat.owesAt 0 t : sProp (MM F)) ⊢ owe c O := by
  unfold Pipeline.Dat.owesAt Pipeline.owesWithin owe
  rw [h0]
  iintro ⟨%W, -, HO⟩
  iexists W
  iexact HO

theorem point1_eq : bodyAt1 (F := F) t1_0 = commP ((cfg1.win 0).stage (cfg1.slots t1_0 0)) := comm_eq ..
theorem call1_eq : defs₀ (F := F) .tc cfg1.body (cfg1.bodyArgs t1_0 (cfg1.slots t1_0)) = bodyAt1 t1_0 := rfl

theorem body1 (c : Dev nD) : Pipeline.BodyObligation (dat1 m c) defs₀ 𝒱₀ 0 Set.univ := fun t => by
  obtain rfl := fin_N1 t
  rw [bigSep_W1, bigSep_W1, show (dat1 m c).Φ t1_0.castSucc = before₁ (P m) c from phi_first m c,
    show (dat1 m c).Φ t1_0.succ = after₁ (P m) c from phi_next m c, call1_eq, point1_eq]
  have e1 : (owns (c : Thread nD τ) (stage1_0 0) fullShare ((dat1 m c).after 0 t1_0) : sProp (MM F)) = sched (stage1_0 0) c fullShare := rfl
  dsimp only
  rw [e1]
  iintro ⟨HΦ, HO, ⟨%d, H⟩⟩
  ihave HO := (owesAt_elim (dat1 m c) _ _ (owed1_first m c)) $$ HO
  ihave H := (show (owns (c : Thread nD τ) (stage1_0 0) fullShare ((dat1 m c).before 0 t1_0 d) : sProp (MM F))
      ⊢ sched (stage1_0 0) c fullShare from by rw [found_words]; exact .rfl) $$ H
  iapply (region_run (P m) (c := c) (M := stage1_0 0)) $$ [HΦ HO H]
  · isplitl [HΦ]; · iexact HΦ
    isplitl [H] <;> iassumption
  iintro ⟨HΦ, H, HO⟩
  isplitl [HΦ]; · iexact HΦ
  isplitl [HO]
  · iapply (owesAt_intro (dat1 m c) _ _ (owed1_next m c) rfl)
    iexact HO
  iexact H

/-! ## The two records -/

def pdats : (p : Fin 2) → (c : Dev nD) → Pipeline.Dat τ (Elt F) ℕ ℕ UU ℕ (cfgs p) c
  | 0 => dat0 (V1 m) owes₀
  | 1 => dat1 m

/-- What rides along beside the buffers until the second call has run. -/
def Ride (c : Dev nD) : sProp (MM F) := iprop((∃ r, prngReg c r) ∗ Tk (P m) c ∗ owe c (owes₀ c))

theorem stage_in (g : GSem nD τ sig) (h : g.1.2 = .tc) : 0 ∈ L g := by
  unfold L; rw [if_pos h]; decide

abbrev refs0 : Finset (DevRef τ sig) := Pipeline.arrRefs spec0
abbrev refs1 : Finset (DevRef τ sig) := Pipeline.arrRefs spec1
/-- The buffers the second call addresses itself. -/
abbrev own1 : Finset (DevRef τ sig) := {Proc.devRef .tc main_v16, Proc.devRef .tc main_v68}
abbrev rest1 : Finset (DevRef τ sig) := Pipeline.ucRefs τ sig \ refs1

set_option backward.isDefEq.respectTransparency.types false in
/-- The first call's record. -/
def reg0 : Pipeline.RegionSeg (pcfgs (F := F)) adm (pdats m) 0 defs₀ 𝒱₀ L lv 0 :=
  Pipeline.RegionSeg.ofHeld (pcfgs (F := F)) adm (pdats m) 0 defs₀ 𝒱₀ L lv 0 owes₀ (fun c => iprop(∃ r, prngReg c r)) (fun c => iprop(∃ r, prngReg c r))
    launch0.toP rfl (fun c => (body0 (V1 m) owes₀ c).loose) (fun _ _ => rfl) (fun _ => rfl)
    (fun _ w => by fin_cases w <;> rfl) (fun _ => .rfl) (fun _ => .rfl) (fun _ => 0)
    ⟨fun c w s => stage_in _ rfl, fun _ _ _ => Nat.le_refl _, fun c g i h =>
      ⟨by unfold L; rw [if_pos (above_owes c g i h).1]; exact Finset.mem_range.mpr (above_owes c g i h).2.2, (above_owes c g i h).2.1⟩⟩
    (fun c => iprop(StableHlo.held (c : Thread nD τ) (Pipeline.ucRefs τ sig \ refs0) (V1 m c) ∗ Tk (P m) c))
    (V1 m) (V2 m (results m)) (fun _ w => by fin_cases w <;> rfl)
    (fun c w => by
      fin_cases w
      · exact ((dat0 (V1 m) owes₀ c).arrAt_in 0 rfl _).trans (V2_of m (results m) c main_arg0 (by decide)).symm
      · exact ((dat0 (V1 m) owes₀ c).arrAt_in 1 rfl _).trans (V2_of m (results m) c main_v15 (by decide)).symm
      · show P m c = V2 m (results m) c main_v16
        unfold V2
        rw [Function.update_self, results_p])

/-! ## The second call's record -/

theorem own1_held (c : Dev nD) (W : Valuation τ sig (Elt F)) :
    (StableHlo.held (c : Thread nD τ) own1 W : sProp (MM F))
      = iprop((((c : Thread nD τ).loc main_v16) ↦{fullShare} W main_v16) ∗ (((c : Thread nD τ).loc main_v68) ↦{fullShare} W main_v68)) := by
  unfold StableHlo.held own1
  rw [bigSep_insert (by decide), bigSep_singleton]
  rfl

theorem V11_p (c : Dev nD) : V11 m (results m) c main_v16 = P m c := by
  rw [V11_of m _ c main_v16 (by decide), V10_of m _ c main_v16 (by decide), V9_of m _ c main_v16 (by decide), V8_of m _ c main_v16 (by decide),
    V7_of m _ c main_v16 (by decide), V6_of m _ c main_v16 (by decide), V5_of m _ c main_v16 (by decide), V4_of m _ c main_v16 (by decide),
    V3_of m _ c main_v16 (by decide)]
  unfold V2
  rw [Function.update_self, results_p]

theorem dev_ne : (Proc.devRef .tc main_v16 : DevRef τ sig) ≠ Proc.devRef .tc main_v68 := StableHlo.devRef_ne_of_ne (by decide)

theorem V12_p (c : Dev nD) : V12 m (results m) c main_v16 = P m c := by
  unfold V12
  rw [Function.update_of_ne dev_ne, Function.update_self, results_p]
theorem V12_out (c : Dev nD) : V12 m (results m) c main_v68 = outFull (P m) c := by
  unfold V12
  rw [Function.update_self, results_out]

theorem holds_out (c : Dev nD) (v : S2048x8192.Idx → Elt F .f32) :
    (holds outM c fullShare v : sProp (MM F)) ⊢ ((c : Thread nD τ).loc main_v68) ↦{fullShare} v := by
  unfold holds
  iintro ⟨%f, %hf, H⟩
  simp only [Memref.view_whole, View.read_whole] at hf
  subst hf
  simp only [Memref.view_whole, View.set_whole]
  iexact H

theorem enter1 (c : Dev nD) : iprop(Pipeline.scopedRest spec1 c ∗ (∃ r, prngReg c r) ∗ StableHlo.held (c : Thread nD τ) own1 (V11 m (results m) c) ∗ Xk (P m) c)
    ⊢ (before₁ (P m) c : sProp (MM F)) := by
  rw [own1_held, V11_p]
  unfold before₁ others
  rw [has_whole c main_v68 rfl]
  iintro ⟨Hs, Hr, ⟨Hp, Ho⟩, HX⟩
  isplitl [HX]; · iexact HX
  isplitl [Hs]; · iexact Hs
  isplitl [Hr]; · iexact Hr
  isplitl [Hp]; · iexact Hp
  iexists _
  iexact Ho

theorem leave1 (c : Dev nD) : (after₁ (P m) c : sProp (MM F))
    ⊢ iprop(Pipeline.scopedRest spec1 c ∗ (∃ r, prngReg c r) ∗ StableHlo.held (c : Thread nD τ) own1 (V12 m (results m) c)
      ∗ Pipeline.ownSems0 osem c ∗ Yk c) := by
  rw [own1_held, V12_p, V12_out]
  unfold after₁ others
  iintro ⟨HY, Hq, Hs, Hr, Hp, Ho⟩
  isplitl [Hs]; · iexact Hs
  isplitl [Hr]; · iexact Hr
  isplitl [Hp Ho]
  · isplitl [Hp]; · iexact Hp
    iapply (holds_out c (outFull (P m) c))
    iexact Ho
  isplitl [Hq]; · iexact Hq
  iexact HY

theorem V12_rest (c : Dev nD) : ∀ b ∈ rest1 \ own1, V12 m (results m) c b = V11 m (results m) c b := fun b hb => by
  have hn := (Finset.mem_sdiff.mp hb).2
  unfold V12
  rw [Function.update_of_ne (fun e => hn (by subst e; decide)), Function.update_of_ne (fun e => hn (by subst e; decide))]

theorem owed_fine (c : Dev nD) (t : Fin (cfg1.N + 1)) : Above 0 ((dat1 m c).owed t) := by
  show Above 0 (if t.val = 0 then owes₀ c else 0)
  split
  · exact above_owes c
  · exact above_zero 0

set_option backward.isDefEq.respectTransparency.types false in
/-- The second call's record. -/
def reg1 : Pipeline.RegionSeg (pcfgs (F := F)) adm (pdats m) 0 defs₀ 𝒱₀ L lv 1 :=
  Pipeline.RegionSeg.ofTalk (pcfgs (F := F)) adm (pdats m) 0 defs₀ 𝒱₀ L lv 1 osem osem_facts own1 rest1 (by decide)
    launch1.toP rfl (fun c => (body1 m c).loose)
    (fun _ => 0) owes₀ (fun c => (show (dat1 m c).owed 0 = owes₀ c from rfl).trans (zero_add _).symm) (owed1_last m) (fun _ => rfl)
    (fun _ w => by fin_cases w; rfl)
    (V11 m (results m)) (V12 m (results m)) (V12_rest m)
    (Tk (P m)) Yk (Xk (P m)) Yk (open_all (P m)) (enter1 m) (fun c => (Entails.of_eq (phi_last m c)).trans (leave1 m c))
    (fun c => by iintro H; imodintro; iexact H) (fun _ => 0)
    ⟨fun c w s => stage_in _ rfl, fun _ _ _ => Nat.le_refl _, fun c t g i h =>
      ⟨by unfold L; rw [if_pos (owed_fine m c t g i h).1]; exact Finset.mem_range.mpr (owed_fine m c t g i h).2.2, (owed_fine m c t g i h).2.1⟩⟩
    (fun _ => iprop(emp))
    (fun c w => by
      fin_cases w
      exact (V11_words m (results m) c).symm)
    (fun c w => by
      fin_cases w
      exact ((dat1 m c).arrAt_in 0 rfl _).trans ((V11_words m (results m) c).symm.trans (V12_of m (results m) c main_v67 (by decide)).symm))

/-! ## Entering and leaving the calls with all buffers -/

/-- What rides along once the second call has run. -/
def Done (c : Dev nD) : sProp (MM F) := iprop((∃ r, prngReg c r) ∗ Yk c ∗ owe c 0)

theorem V2_rest (c : Dev nD) : ∀ b ∈ Pipeline.ucRefs τ sig \ refs0, V1 m c b = V2 m (results m) c b := fun b hb => by
  have hn := (Finset.mem_sdiff.mp hb).2
  unfold V2
  rw [Function.update_of_ne (fun e => hn (by subst e; decide))]

theorem reg0_pre (c : Dev nD) : iprop(StableHlo.held (c : Thread nD τ) (Pipeline.ucRefs τ sig) (V1 m c) ∗ Ride m c) ⊢ (reg0 m).pre c := by
  show _ ⊢ iprop(StableHlo.held (c : Thread nD τ) refs0 (V1 m c) ∗ (∃ r, prngReg c r)
    ∗ (StableHlo.held (c : Thread nD τ) (Pipeline.ucRefs τ sig \ refs0) (V1 m c) ∗ Tk (P m) c) ∗ owe c (owes₀ c))
  unfold Ride
  rw [StableHlo.held_sub_split (c : Thread nD τ) (show refs0 ⊆ Pipeline.ucRefs τ sig by decide) (V1 m c)]
  iintro ⟨⟨Ha, Hr⟩, Hp, HT, HO⟩
  isplitl [Ha]; · iexact Ha
  isplitl [Hp]; · iexact Hp
  isplitl [Hr HT]
  · isplitl [Hr] <;> iassumption
  iexact HO

theorem reg0_post (c : Dev nD) : (reg0 m).post c ⊢ iprop(StableHlo.held (c : Thread nD τ) (Pipeline.ucRefs τ sig) (V2 m (results m) c) ∗ Ride m c) := by
  show iprop(StableHlo.held (c : Thread nD τ) refs0 (V2 m (results m) c) ∗ (∃ r, prngReg c r)
    ∗ (StableHlo.held (c : Thread nD τ) (Pipeline.ucRefs τ sig \ refs0) (V1 m c) ∗ Tk (P m) c) ∗ owe c (owes₀ c)) ⊢ _
  unfold Ride
  rw [StableHlo.held_sub_split (c : Thread nD τ) (show refs0 ⊆ Pipeline.ucRefs τ sig by decide) (V2 m (results m) c),
    StableHlo.held_congr (c : Thread nD τ) (V2_rest m c)]
  iintro ⟨Ha, Hp, ⟨Hr, HT⟩, HO⟩
  isplitl [Ha Hr]
  · isplitl [Ha] <;> iassumption
  isplitl [Hp]; · iexact Hp
  isplitl [HT] <;> iassumption

theorem reg1_pre (c : Dev nD) : iprop(StableHlo.held (c : Thread nD τ) (Pipeline.ucRefs τ sig) (V11 m (results m) c) ∗ Ride m c) ⊢ (reg1 m).pre c := by
  show _ ⊢ iprop(StableHlo.held (c : Thread nD τ) refs1 (V11 m (results m) c) ∗ (∃ r, prngReg c r)
    ∗ (StableHlo.held (c : Thread nD τ) rest1 (V11 m (results m) c) ∗ emp) ∗ Tk (P m) c ∗ owe c (0 + owes₀ c))
  unfold Ride
  rw [StableHlo.held_sub_split (c : Thread nD τ) (show refs1 ⊆ Pipeline.ucRefs τ sig by decide) (V11 m (results m) c), zero_add]
  iintro ⟨⟨Ha, Hr⟩, Hp, HT, HO⟩
  isplitl [Ha]; · iexact Ha
  isplitl [Hp]; · iexact Hp
  isplitl [Hr]
  · isplitl [Hr]; · iexact Hr
    iempintro
  isplitl [HT] <;> iassumption

theorem reg1_post (c : Dev nD) : (reg1 m).post c ⊢ iprop(StableHlo.held (c : Thread nD τ) (Pipeline.ucRefs τ sig) (V12 m (results m) c) ∗ Done c) := by
  show iprop(StableHlo.held (c : Thread nD τ) refs1 (V12 m (results m) c) ∗ (∃ r, prngReg c r)
    ∗ (StableHlo.held (c : Thread nD τ) rest1 (V12 m (results m) c) ∗ emp) ∗ Yk c ∗ owe c 0) ⊢ _
  unfold Done
  rw [StableHlo.held_sub_split (c : Thread nD τ) (show refs1 ⊆ Pipeline.ucRefs τ sig by decide) (V12 m (results m) c)]
  iintro ⟨Ha, Hp, ⟨Hr, -⟩, HY, HO⟩
  isplitl [Ha Hr]
  · isplitl [Ha] <;> iassumption
  isplitl [Hp]; · iexact Hp
  isplitl [HY] <;> iassumption

end Cert.KernelIdeal.Ring

end

end
-- ==== Proof.Launch.lean ====
module

public import proofs.«01_k».proof.Proof.Regs
public import proofs.«01_k».proof.Proof.Gen.KernelIdeal.Regions
public import Idealize.ShloMosaic.Lib.Quiescent
public import Idealize.ShloMosaic.Lib.SparseCore.Launch

/-!
  The launch.

  Every device's barrier is funded from its counter, the call's other cells without theirs: those are
  opened when the call is entered. The token of each duty goes to the device that pays it, and what
  the devices owe one another comes back as the credit of the cell that is paid.
-/

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F] (m : (ℓ : Loc nD τ sig) → Buf (Elt F) ℓ)

/-! ## The cells -/

def cellEmb : Dev nD × Kd ↪ GSem nD τ sig :=
  ⟨fun x => cell x.1 x.2, fun _ _ h => Prod.ext (cell_inj h).1 (cell_inj h).2⟩

/-- The barriers. -/
abbrev barCells : Finset (GSem nD τ sig) := (Finset.univ ×ˢ {Kd.bar} : Finset (Dev nD × Kd)).map cellEmb
/-- The call's own cells. -/
abbrev ownCells : Finset (GSem nD τ sig) := (Finset.univ ×ˢ dkds.toFinset : Finset (Dev nD × Kd)).map cellEmb

theorem cells_eq : barCells ∪ ownCells = (Finset.univ ×ˢ kds.toFinset : Finset (Dev nD × Kd)).map cellEmb := by
  rw [← Finset.map_union, ← Finset.product_union]
  rfl

theorem cells_disjoint : Disjoint barCells ownCells := by
  rw [Finset.disjoint_map, Finset.disjoint_product]
  exact .inr (by decide)

/-! ## The duties, by the device that pays them -/

/-- The duties of a device: at three barriers, the two of the exchange across, and in each direction eight sends, eight
    arrivals at the next device and seven credits to the one before. -/
abbrev Duty := Fin 5 ⊕ (Fin 2 × (Fin 8 ⊕ (Fin 8 ⊕ Fin 7)))

/-- The kind of the cell, the round and the number of a duty. -/
def duty : Duty → Kd × ℕ × Fin 3
  | .inl i => (![(.bar, 0, 0), (.bar, 0, 1), (.bar, 0, 2), (.xs, 0, 0), (.xr, 0, 0)] : Fin 5 → Kd × ℕ × Fin 3) i
  | .inr (d, .inl h) => (.snd d (sl h.val), h.val / 2, 0)
  | .inr (d, .inr (.inl h)) => (.rcv d (sl (h.val + 1)), h.val / 2, 0)
  | .inr (d, .inr (.inr h)) => (.crd d, h.val, 0)

/-- Whose cell a device pays to. -/
def payee : Duty → Dev nD → Dev nD
  | .inl i => (![across, nx 1, nx 0, id, across] : Fin 5 → Dev nD → Dev nD) i
  | .inr (_, .inl _) => id
  | .inr (d, .inr (.inl _)) => nx d
  | .inr (d, .inr (.inr _)) => pv d

theorem duty_inj : Function.Injective duty := by decide +kernel

theorem nx_inj (d : Fin 2) : Function.Injective (nx d) := (show Function.LeftInverse (pv d) (nx d) from pv_nx d).injective
theorem pv_inj (d : Fin 2) : Function.Injective (pv d) := (show Function.LeftInverse (nx d) (pv d) from nx_pv d).injective
theorem across_inj : Function.Injective across := (show Function.LeftInverse across across from across_across).injective

theorem payee_inj (i : Duty) : Function.Injective (payee i) := by
  rcases i with i | ⟨d, _ | _ | _⟩
  · fin_cases i
    · exact across_inj
    · exact nx_inj 1
    · exact nx_inj 0
    · exact Function.injective_id
    · exact across_inj
  · exact Function.injective_id
  · exact nx_inj d
  · exact pv_inj d

def tokEmb : Dev nD × Duty ↪ GSem nD τ sig × ℕ × Fin 3 :=
  ⟨fun x => (cell (payee x.2 x.1) (duty x.2).1, (duty x.2).2.1, (duty x.2).2.2), fun x y h => by
    have hc := cell_inj (congrArg Prod.fst h)
    have hd : x.2 = y.2 := duty_inj (Prod.ext hc.2 (congrArg (fun y => y.2) h))
    have hp : payee x.2 x.1 = payee x.2 y.1 := by rw [hc.1, hd]
    exact Prod.ext (payee_inj x.2 hp) hd⟩

/-- The tokens a device pays with. -/
def duties (c : Dev nD) : sProp (MM F) :=
  bigSep Finset.univ fun i : Duty => dutyTok ER (cell (payee i c) (duty i).1) (duty i).2.1 (duty i).2.2

theorem toks_all : bigSep (Finset.univ.map tokEmb) (fun x => (dutyTok ER x.1 x.2.1 x.2.2 : sProp (MM F))) = bigSep Finset.univ fun c : Dev nD => duties c := by
  rw [bigSep_map, bigSep_univ_prod]
  rfl

/-- The tokens of a direction. -/
def pairs (d : Fin 2) (c : Dev nD) : sProp (MM F) :=
  iprop((bigSep Finset.univ fun h : Fin 8 => dutyTok ER (cell c (.snd d (sl h.val))) (h.val / 2) 0)
    ∗ (bigSep Finset.univ fun h : Fin 8 => dutyTok ER (cell (nx d c) (.rcv d (sl (h.val + 1)))) (h.val / 2) 0)
    ∗ bigSep Finset.univ fun h : Fin 7 => dutyTok ER (cell (pv d c) (.crd d)) h.val 0)

theorem duties_eq (c : Dev nD) : (duties c : sProp (MM F))
    = iprop((dutyTok ER (cell (across c) .bar) 0 0 ∗ dutyTok ER (cell (nx 1 c) .bar) 0 1 ∗ dutyTok ER (cell (nx 0 c) .bar) 0 2
        ∗ dutyTok ER (cell c .xs) 0 0 ∗ dutyTok ER (cell (across c) .xr) 0 0)
      ∗ pairs 0 c ∗ pairs 1 c) := by
  unfold duties
  rw [bigSep_univ_sum, bigSep_univ_prod, bigSep_univ_eq_bigSepL [(0 : Fin 5), 1, 2, 3, 4] (by decide) (by decide)]
  refine congrArg₂ (fun a b => iprop(a ∗ b)) rfl ((bigSep_congr (Ψ := fun d => pairs d c) fun d _ => ?_).trans (BI.bigSep_fin_two _))
  rw [bigSep_univ_sum, bigSep_univ_sum]
  rfl

/-! ## The credits -/

/-- The credits of a direction. -/
def earns (d : Fin 2) (c : Dev nD) : sProp (MM F) :=
  iprop((bigSep Finset.univ fun h : Fin 8 => cred (tallyAt (cell c (.rcv d (sl (h.val + 1)))) (3 * h.val + 3) (amt h.val)))
    ∗ bigSep Finset.univ fun h : Fin 7 => cred (tallyAt (cell c (.crd d)) (3 * h.val + 4) 1))

theorem earn_rcv (d : Fin 2) (c : Dev nD) : (Pipeline.launchCred (fun e => rO d e 0) c : sProp (MM F))
    ⊢ bigSep Finset.univ fun h : Fin 8 => cred (tallyAt (cell c (.rcv d (sl (h.val + 1)))) (3 * h.val + 3) (amt h.val)) := by
  unfold rO
  rw [Pipeline.launchCred_sum]
  refine (bigSep_mono fun k _ => Pipeline.launchCred_tallyAt (semOf (.rcv d (sl (k + 1)))) (nx d) (pv d) (nx_pv d) (pv_nx d) (3 * k + 3) (amt k) c).trans ?_
  rw [bigSep_eq_bigSepL_of_eq [0, 1, 2, 3, 4, 5, 6, 7] (by decide) (by decide), bigSep_univ_eq_bigSepL [(0 : Fin 8), 1, 2, 3, 4, 5, 6, 7] (by decide) (by decide)]
  exact BI.Entails.refl _

theorem earn_crd (d : Fin 2) (c : Dev nD) : (Pipeline.launchCred (fun e => cO d e 0) c : sProp (MM F))
    ⊢ bigSep Finset.univ fun h : Fin 7 => cred (tallyAt (cell c (.crd d)) (3 * h.val + 4) 1) := by
  unfold cO
  rw [Pipeline.launchCred_sum]
  refine (bigSep_mono fun k _ => Pipeline.launchCred_tallyAt (semOf (.crd d)) (pv d) (nx d) (pv_nx d) (nx_pv d) (3 * k + 4) 1 c).trans ?_
  rw [bigSep_eq_bigSepL_of_eq [0, 1, 2, 3, 4, 5, 6] (by decide) (by decide), bigSep_univ_eq_bigSepL [(0 : Fin 7), 1, 2, 3, 4, 5, 6] (by decide) (by decide)]
  exact BI.Entails.refl _

theorem earn_bar (f g : Dev nD → Dev nD) (h1 : ∀ c, f (g c) = c) (h2 : ∀ c, g (f c) = c) (c : Dev nD) :
    (Pipeline.launchCred (fun e => tallyAt (cell (f e) .bar) 1 1) c : sProp (MM F)) ⊢ cred (tallyAt (cell c .bar) 1 1) :=
  Pipeline.launchCred_tallyAt (semOf .bar) f g h1 h2 1 1 c

theorem three (c : Dev nD) : iprop(cred (tallyAt (cell c .bar) 1 1) ∗ cred (tallyAt (cell c .bar) 1 1) ∗ cred (tallyAt (cell c .bar) 1 1))
    ⊢ (cred (tallyAt (cell c .bar) 1 3) : sProp (MM F)) := by
  have e : (tallyAt (cell c .bar) 1 3 : CellTallies nD τ sig ℕ) = tallyAt (cell c .bar) 1 1 + (tallyAt (cell c .bar) 1 1 + tallyAt (cell c .bar) 1 1) := by
    rw [tallyAt_add, tallyAt_add]
  rw [e]
  exact (sep_mono_right (cred_add _ _).2).trans (cred_add _ _).2

/-- What comes back to a device of what all owe. -/
theorem earn (c : Dev nD) : (Pipeline.launchCred owes₀ c : sProp (MM F))
    ⊢ iprop(cred (tallyAt (cell c .bar) 1 3) ∗ cred (tallyAt (cell c .xr) 2 NX) ∗ earns 0 c ∗ earns 1 c) := by
  have e : (owes₀ : Dev nD → CellTallies nD τ sig ℕ) = fun e => (((((((rO 0 e 0 + cO 0 e 0) + rO 1 e 0) + cO 1 e 0) + tallyAt (cell (across e) .xr) 2 NX)
    + tallyAt (cell (nx 0 e) .bar) 1 1) + tallyAt (cell (nx 1 e) .bar) 1 1) + tallyAt (cell (across e) .bar) 1 1) := rfl
  rw [e, Pipeline.launchCred_add, Pipeline.launchCred_add, Pipeline.launchCred_add, Pipeline.launchCred_add, Pipeline.launchCred_add,
    Pipeline.launchCred_add, Pipeline.launchCred_add]
  unfold earns
  iintro ⟨⟨⟨⟨⟨⟨⟨R0, C0⟩, R1⟩, C1⟩, X⟩, B0⟩, B1⟩, B2⟩
  isplitl [B0 B1 B2]
  · iapply (three c)
    isplitl [B0]; · iapply (earn_bar (nx 0) (pv 0) (nx_pv 0) (pv_nx 0) c); iexact B0
    isplitl [B1]; · iapply (earn_bar (nx 1) (pv 1) (nx_pv 1) (pv_nx 1) c); iexact B1
    iapply (earn_bar across across across_across across_across c); iexact B2
  isplitl [X]
  · iapply (Pipeline.launchCred_tallyAt (semOf .xr) across across across_across across_across 2 NX c); iexact X
  isplitl [R0 C0]
  · isplitl [R0]; · iapply (earn_rcv 0 c); iexact R0
    iapply (earn_crd 0 c); iexact C0
  isplitl [R1]; · iapply (earn_rcv 1 c); iexact R1
  iapply (earn_crd 1 c); iexact C1

/-! ## What a device is dealt -/

theorem ways_intro (d : Fin 2) (c : Dev nD) :
    iprop(pairs d c ∗ earns d c)
      ⊢ (ways d c : sProp (MM F)) := by
  have h1 : iprop((bigSep Finset.univ fun h : Fin 8 => dutyTok ER (cell c (.snd d (sl h.val))) (h.val / 2) 0)
        ∗ (bigSep Finset.univ fun h : Fin 8 => dutyTok ER (cell (nx d c) (.rcv d (sl (h.val + 1)))) (h.val / 2) 0)
        ∗ (bigSep Finset.univ fun h : Fin 8 => cred (tallyAt (cell c (.rcv d (sl (h.val + 1)))) (3 * h.val + 3) (amt h.val))))
      ⊢ iprop(toks (F := F) d c 0 ∗ toks d c 1 ∗ toks d c 2 ∗ toks d c 3 ∗ toks d c 4 ∗ toks d c 5 ∗ toks d c 6 ∗ toks d c 7) := by
    rw [← bigSep_sep', ← bigSep_sep', bigSep_univ_eq_bigSepL [(0 : Fin 8), 1, 2, 3, 4, 5, 6, 7] (by decide) (by decide)]
    exact .rfl
  have h2 : (bigSep Finset.univ fun h : Fin 7 => dutyTok ER (cell (pv d c) (.crd d)) h.val 0)
      ⊢ iprop(pays (F := F) d c 0 ∗ pays d c 1 ∗ pays d c 2 ∗ pays d c 3 ∗ pays d c 4 ∗ pays d c 5 ∗ pays d c 6) := by
    rw [bigSep_univ_eq_bigSepL [(0 : Fin 7), 1, 2, 3, 4, 5, 6] (by decide) (by decide)]
    exact .rfl
  have h3 : (bigSep Finset.univ fun h : Fin 7 => cred (tallyAt (cell c (.crd d)) (3 * h.val + 4) 1))
      ⊢ iprop(takes (F := F) d c 0 ∗ takes d c 1 ∗ takes d c 2 ∗ takes d c 3 ∗ takes d c 4 ∗ takes d c 5 ∗ takes d c 6) := by
    rw [bigSep_univ_eq_bigSepL [(0 : Fin 7), 1, 2, 3, 4, 5, 6] (by decide) (by decide)]
    exact .rfl
  unfold pairs earns ways
  iintro ⟨⟨S, R, C⟩, R', C'⟩
  isplitl [S R R']
  · iapply h1
    isplitl [S]; · iexact S
    isplitl [R] <;> iassumption
  isplitl [C]
  · iapply h2; iexact C
  iapply h3; iexact C'

theorem deal (c : Dev nD) :
    iprop(duties c ∗ (Pipeline.launchCred owes₀ c ∗ (atPos ER (cell c .bar) 0 ∅ 0 ∗ bigSep dkds.toFinset fun k => openTok ER (cell c k))))
      ⊢ (dealt c : sProp (MM F)) := by
  rw [duties_eq]
  unfold dealt meets
  iintro ⟨⟨⟨T0, T1, T2, T3, T4⟩, W0, W1⟩, Hc, Ha, Ho⟩
  ihave Hc := (earn c) $$ Hc
  icases Hc with ⟨Cb, Cx, E0, E1⟩
  isplitl [T0 T1 T2 T3 T4 Cb Cx]
  · isplitl [T0 T1 T2 Cb]
    · isplitl [T0]; · iexact T0
      isplitl [T1]; · iexact T1
      isplitl [T2] <;> iassumption
    isplitl [T3]; · iexact T3
    isplitl [T4] <;> iassumption
  isplitl [W0 E0]
  · iapply (ways_intro 0 c)
    isplitl [W0] <;> iassumption
  isplitl [W1 E1]
  · iapply (ways_intro 1 c)
    isplitl [W1] <;> iassumption
  isplitl [Ha] <;> iassumption

/-! ## The launch -/

/-- What the launch makes: the staging's part and the protocol's. -/
def u₀ : UU :=
  (initOf (Pipeline.cells (Pipeline.pin (pcfgs (F := F)) adm) cellOf_inj) (Pipeline.launchToks (Pipeline.pin (pcfgs (F := F)) adm) cellOf_inj),
    (launchOf barCells ownCells (Finset.univ.map tokEmb), 1))

/-- A resource, all of it on one device. -/
def onDev (c₀ : Dev nD) (X : sProp (MM F)) (c : Dev nD) : sProp (MM F) := if c = c₀ then X else iprop(emp)

theorem onDev_all (c₀ : Dev nD) (X : sProp (MM F)) : bigSep Finset.univ (onDev c₀ X) = X := by
  have h0 : ∀ c ∈ Finset.univ.erase c₀, onDev c₀ X c = BI.emp := fun c hc => if_neg (Finset.ne_of_mem_erase hc)
  rw [bigSep_univ_at _ c₀, bigSep_congr h0, BI.bigSep_emp_const]
  unfold onDev; rw [if_pos rfl]
  have h1 : iprop(X ∗ emp) ⊢ X := Idealize.SL.BI.Laws.sep_emp.1
  have h2 : X ⊢ iprop(X ∗ emp) := Idealize.SL.BI.Laws.sep_emp.2
  exact BI.equiv_iff.mp ⟨h1, h2⟩

/-- The protocol's part, parked on device 0 until all devices are dealt theirs. -/
def parked : Dev nD → sProp (MM F) := onDev 0 (BI.own (ER (launchOf barCells ownCells (Finset.univ.map tokEmb))))

theorem funds : (ownU (u₀ (F := F)) : sProp (MM F))
    ⊢ |={Set.univ}=> iprop(BI.own (EP (initOf (Pipeline.cells (Pipeline.pin (pcfgs (F := F)) adm) cellOf_inj)
        (Pipeline.launchToks (Pipeline.pin (pcfgs (F := F)) adm) cellOf_inj))) ∗ bigSep Finset.univ parked) := by
  have hp : bigSep Finset.univ (parked (F := F)) = BI.own (ER (launchOf barCells ownCells (Finset.univ.map tokEmb))) := onDev_all 0 _
  rw [hp]
  unfold u₀
  iintro Hu
  ihave H := (ownU_pair _ _) $$ Hu
  icases H with ⟨HP, HX⟩
  imodintro
  isplitl [HP]; · iexact HP
  iexact HX

theorem unscoped_sems (c : Dev nD) : (unscopedSems0 c : sProp (MM F)) = semVal (cell c .bar) 0 := by
  unfold unscopedSems0
  rw [show (Finset.univ.filter fun sm : SemLoc sig => ¬ sm.isScoped .tc) = {semOf .bar} from by decide, bigSep_singleton]

/-- The run enters @main with every device holding its ride. -/
theorem init (ρ : Dev nD → PrngReg) :
    iprop((bigSep Finset.univ fun c : Dev nD => iprop(unscopedSems0 c ∗ owes (c : Thread nD τ) (owes₀ c) ∅ ∗ Pipeline.launchCred owes₀ c
        ∗ prngReg c (ρ c) ∗ parked c)) ∗ levAts L lv)
      ⊢ (|={Set.univ}=> bigSep Finset.univ (Ride m) : sProp (MM F)) := by
  have hcore : ∀ c ∈ (Finset.univ : Finset (Dev nD)), iprop(unscopedSems0 c ∗ owes (c : Thread nD τ) (owes₀ c) ∅ ∗ Pipeline.launchCred owes₀ c
        ∗ prngReg c (ρ c) ∗ parked c)
      ⊢ (iprop(((∃ r, prngReg c r) ∗ owe c (owes₀ c) ∗ Pipeline.launchCred owes₀ c) ∗ (semVal (cell c .bar) 0 ∗ parked c)) : sProp (MM F)) := fun c _ => by
    rw [unscoped_sems]
    unfold owe
    iintro ⟨Hs, HO, Hc, Hp, HG⟩
    isplitl [HO Hc Hp]
    · isplitl [Hp]; · iexists (ρ c); iexact Hp
      isplitl [HO]; · iexists ∅; iexact HO
      iexact Hc
    isplitl [Hs] <;> iassumption
  have hbar (Φ : GSem nD τ sig → sProp (MM F)) : bigSep barCells Φ = bigSep Finset.univ fun c : Dev nD => Φ (cell c .bar) := by
    rw [bigSep_map, SparseCore.bigSep_product]
    exact bigSep_congr fun c _ => bigSep_singleton
  have hown : bigSep ownCells (fun g => (openTok ER g : sProp (MM F))) = bigSep Finset.univ fun c : Dev nD => bigSep dkds.toFinset fun k => openTok ER (cell c k) := by
    rw [bigSep_map, SparseCore.bigSep_product]
    rfl
  have hinv (κ : GSem nD τ sig → ℕ) : (bigSep (barCells ∪ ownCells) fun g => (cellInv ER (Rd (P m)) (κ g) g : sProp (MM F)))
      = bigSep (Finset.univ ×ˢ kds.toFinset : Finset (Dev nD × Kd)) fun x => inv (P m) κ x.1 x.2 := by
    rw [cells_eq, bigSep_map]
    rfl
  have hlast (κ : GSem nD τ sig → ℕ) : ∀ c ∈ (Finset.univ : Finset (Dev nD)), iprop(ctx (P m) κ ∗ (((∃ r, prngReg c r) ∗ owe c (owes₀ c) ∗ Pipeline.launchCred owes₀ c)
      ∗ duties c ∗ (atPos ER (cell c .bar) 0 ∅ 0 ∗ bigSep dkds.toFinset fun k => openTok ER (cell c k)))) ⊢ (Ride m c : sProp (MM F)) := fun c _ => by
    unfold Ride Tk
    iintro ⟨#H, ⟨Hp, HO, Hc⟩, Hd, Ha⟩
    isplitl [Hp]; · iexact Hp
    isplitr [HO]
    · iexists κ
      isplitr; · iexact H
      iapply (deal c)
      isplitl [Hd]; · iexact Hd
      isplitl [Hc] <;> iassumption
    iexact HO
  iintro ⟨H, #Hl⟩
  ihave H' := (show (bigSep Finset.univ fun c : Dev nD => iprop(unscopedSems0 c ∗ owes (c : Thread nD τ) (owes₀ c) ∅ ∗ Pipeline.launchCred owes₀ c
        ∗ prngReg c (ρ c) ∗ parked c))
      ⊢ (bigSep Finset.univ fun c : Dev nD => iprop(((∃ r, prngReg c r) ∗ owe c (owes₀ c) ∗ Pipeline.launchCred owes₀ c) ∗ (semVal (cell c .bar) 0 ∗ parked c)) : sProp (MM F))
      from bigSep_mono hcore) $$ H
  ihave H2 := (Entails.of_eq (bigSep_sep' _ _ _)) $$ H'; icases H2 with ⟨HB, H3⟩
  ihave H4 := (Entails.of_eq (bigSep_sep' _ _ _)) $$ H3; icases H4 with ⟨Hv, HG⟩
  ihave Hu := (show bigSep Finset.univ (parked (F := F)) ⊢ BI.own (ER (launchOf barCells ownCells (Finset.univ.map tokEmb)))
    from Entails.of_eq (onDev_all 0 _)) $$ HG
  imod (Rounds.fund_launch ER (Rd (P m)) cells_disjoint (fun g _ h => h) (Finset.univ.map tokEmb)) $$ [Hv Hu] with ⟨%κ, -, #Hinv, #Hr, Hat, Hopen, Htok⟩
  · isplitl [Hv]
    · iapply (Entails.of_eq (hbar fun g => semVal g 0).symm); iexact Hv
    · iexact Hu
  imodintro
  iapply (bigSep_with_persistent (R := ctx (P m) κ) (hlast κ))
  isplitr
  · unfold ctx
    isplitr; · iapply (Entails.of_eq (hinv κ)); iexact Hinv
    isplitr; · iapply (Entails.of_eq (hbar fun g => reached ER g 0)); iexact Hr
    iexact Hl
  iapply (Entails.of_eq (bigSep_sep' _ _ _).symm)
  isplitl [HB]; · iexact HB
  iapply (Entails.of_eq (bigSep_sep' _ _ _).symm)
  isplitl [Htok]; · iapply (Entails.of_eq toks_all); iexact Htok
  iapply (Entails.of_eq (bigSep_sep' _ _ _).symm)
  isplitl [Hat]; · iapply (Entails.of_eq (hbar fun g => atPos ER g 0 ∅ 0)); iexact Hat
  iapply (Entails.of_eq hown); iexact Hopen

/-! ## The run -/

theorem unscoped_eq : ∀ sm : SemLoc sig, sm.isScoped .tc = false → sm = semOf .bar := by decide

/-- What every device holds before the first call, between the calls and after the last. -/
abbrev rides : Fin 3 → Dev nD → sProp (MM F) := ![Ride m, Ride m, Done]

set_option backward.isDefEq.respectTransparency.types false in
/-- From any memory with zero counters every weakly fair execution of @main ends, the arguments unchanged, each device's result
    at the total of its shares, and every counter at zero. -/
theorem run_main (ρ : Dev nD → PrngReg) : θ_run defs (onTc (τ := τ) (main (F := F))) ⟨m, fun _ => 0, ρ⟩ (fun r =>
    (∀ c : Dev nD, (r.2.mem ((c.tc : Thread nD τ).loc main_arg0) = m ((c.tc : Thread nD τ).loc main_arg0)
      ∧ r.2.mem ((c.tc : Thread nD τ).loc main_arg1) = m ((c.tc : Thread nD τ).loc main_arg1))
      ∧ r.2.mem ((c.tc : Thread nD τ).loc main_v68) = outFull (P m) c) ∧ r.2.sem = fun _ => 0) := by
  refine Pipeline.θ_run_regions_kit_dev_sems (pcfgs (F := F)) adm (pdats m) 0 cellOf_inj EP defs₀ 𝒱₀ L lv m ρ main
    (segs m (results m) 𝒱₀ L lv (rides m) 0 (pdats m) (reg0 m) (reg1 m))
    (fun c Q => by
      rewrite [main_chain c, Pipeline.Seg.run_eq_chain,
        show (segs m (results m) 𝒱₀ L lv (rides m) 0 (pdats m) (reg0 m) (reg1 m) c).map Pipeline.Seg.prog = [
          StableHlo.seq (hostOps0 c), Prog.lift (.customCall (Pipeline.entry 0) ()),
          StableHlo.seq hostOps1, StableHlo.seq hostOps1_1, StableHlo.seq hostOps1_2, StableHlo.seq hostOps1_3,
          StableHlo.seq hostOps1_4, StableHlo.seq hostOps1_5, StableHlo.seq hostOps1_6, StableHlo.seq hostOps1_7,
          StableHlo.seq hostOps1_8, Prog.lift (.customCall (Pipeline.entry 1) ()) ] from rfl]
      dsimp (config := { failIfUnchanged := false }) only
      exact .rfl)
    (fun c => by simp only [segs, Pipeline.Seg.pipes_host, Pipeline.Seg.pipes_region, Pipeline.Seg.pipes_nil]; decide)
    owes₀ L_of_ne parked u₀ funds
    (T₀ := fun c => iprop(StableHlo.held (c : Thread nD τ) (Pipeline.ucRefs τ sig) (V0 m c) ∗ Ride m c))
    (Tₙ := fun c => iprop(StableHlo.held (c : Thread nD τ) (Pipeline.ucRefs τ sig) (V12 m (results m) c) ∗ Yk c))
    (hch := fun c => ⟨.rfl, reg0_pre m c, reg0_post m c, .rfl, .rfl, .rfl, .rfl, .rfl, .rfl, .rfl, .rfl, reg1_pre m c, (reg1_post m c).trans ?_⟩)
    (hinit := ?_)
    (QY := fun c s => ((s.mem ((c.tc : Thread nD τ).loc main_arg0) = m ((c.tc : Thread nD τ).loc main_arg0)
        ∧ s.mem ((c.tc : Thread nD τ).loc main_arg1) = m ((c.tc : Thread nD τ).loc main_arg1))
        ∧ s.mem ((c.tc : Thread nD τ).loc main_v68) = outFull (P m) c) ∧ s.sem (cell c .bar) = 0)
    (hfin := fun c s' => ?_)
    (hQ := fun s h hs => ⟨fun c => (h c).1, sem_eq_zero hs fun c sm hsm => by
      obtain rfl := unscoped_eq sm hsm
      exact (h c).2⟩)
  · unfold Done owe
    iintro ⟨Hh, -, HY, HO⟩
    isplitr [HO]
    · isplitl [Hh] <;> iassumption
    iexact HO
  · have hsplit : (bigSep Finset.univ fun c : Dev nD => iprop(unscopedBufs c (fun b => m ((c.tc : Thread nD τ).loc b)) ∗ unscopedSems0 c
          ∗ owes (c.tc : Thread nD τ) (owes₀ c) ∅ ∗ Pipeline.launchCred owes₀ c ∗ prngReg c (ρ c) ∗ parked c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (owes₀ c) ∅ ∗ Pipeline.launchCred owes₀ c ∗ prngReg c (ρ c) ∗ parked c))
            : sProp (MM F)) := by
      rw [← bigSep_sep']
      exact bigSep_mono fun c _ => sep_mono (Entails.of_eq (Pipeline.unscopedBufs_held c (V0 m c))) .rfl
    iintro ⟨H, Hla⟩
    ihave H' := hsplit $$ H
    icases H' with ⟨Hh, Hr⟩
    imod (init m ρ) $$ [Hr Hla] with HE
    · isplitl [Hr]; · iexact Hr
      iexact Hla
    imodintro
    iapply (Entails.of_eq (bigSep_sep' _ _ _).symm)
    isplitl [Hh]; · iexact Hh
    iexact HE
  · unfold StableHlo.held Yk
    iintro ⟨⟨Hh, HY⟩, HSI⟩
    icombine HSI HY gives %hb
    ihave Hr := (pointsTo_read_all (Pipeline.ucRefs τ sig) (fun b => ((c : Thread nD τ).1, b)) (V12 m (results m) c) s') $$ [Hh HSI]
    · isplitl [Hh] <;> iassumption
    icases Hr with ⟨%h, HSI⟩
    imodintro
    isplitr
    · ipureintro
      exact ⟨⟨⟨(h (Proc.devRef .tc main_arg0) (Finset.mem_filter.mpr ⟨StableHlo.devRef_mem_tcRefs main_arg0, by decide⟩)).trans (V12_main_arg0 m (results m) c),
        (h (Proc.devRef .tc main_arg1) (Finset.mem_filter.mpr ⟨StableHlo.devRef_mem_tcRefs main_arg1, by decide⟩)).trans (V12_main_arg1 m (results m) c)⟩,
        (h (Proc.devRef .tc main_v68) (Finset.mem_filter.mpr ⟨StableHlo.devRef_mem_tcRefs main_v68, by decide⟩)).trans (V12_out m c)⟩, by simpa using hb⟩
    · iexact HSI

end Cert.KernelIdeal.Ring

end

end
-- ==== Proof.Same.lean ====
module

public import proofs.«01_k».proof.Proof.Launch
public import proofs.«01_k».proof.Proof.Gen.Kernel
public import proofs.«01_k».proof.Defs

/-!
  The program printed for the machine's floats and the one printed for the ideal floats have the same text, so at the machine's
  floats they are equal.
-/

@[expose] public section

noncomputable section

namespace Cert.Proof

open Idealize.ShloMosaic Idealize.ShloMosaic.TcCoe Idealize.SL.Sem

local instance : Cert.Kernel.Facts := Cert.Kernel.Gen.facts
local instance : Cert.KernelIdeal.Facts := Cert.KernelIdeal.Gen.facts

set_option maxHeartbeats 4000000 in
theorem same_main : Cert.Kernel.main (F := Bits) = Cert.KernelIdeal.main (F := Bits) := (rfl)

theorem same_matmul (x) : Cert.Kernel.defs₀ (F := Bits) .tc 0 x = Cert.KernelIdeal.defs₀ (F := Bits) .tc 0 x := (rfl)

set_option maxHeartbeats 1000000 in
theorem same_comm (x) : Cert.Kernel.defs₀ (F := Bits) .tc 1 x = Cert.KernelIdeal.defs₀ (F := Bits) .tc 1 x := (rfl)

theorem same_bodies : Cert.Kernel.defs₀ (F := Bits) = Cert.KernelIdeal.defs₀ (F := Bits) := by
  funext p l x
  match p, l, x with
  | .tc, 0, x => exact same_matmul x
  | .tc, 1, x => exact same_comm x
  | .scScalar _, _, _ => rfl
  | .scVector _ _, _, _ => rfl

theorem same_defs : Cert.Kernel.defs (F := Bits) = Cert.KernelIdeal.defs (F := Bits) :=
  congrArg (Pipeline.defs (Cert.KernelIdeal.pcfgs (F := Bits))) same_bodies

/-- A run of the one is a run of the other. -/
theorem run_bits (m : (ℓ : Loc Cert.KernelIdeal.nD Cert.KernelIdeal.τ Cert.KernelIdeal.sig) → Buf (Elt Bits) ℓ) (ρ : Dev Cert.KernelIdeal.nD → PrngReg) :
    θ_run (Cert.Kernel.defs (F := Bits)) (onTc (τ := Cert.Kernel.τ) (Cert.Kernel.main (F := Bits))) ⟨m, fun _ => 0, ρ⟩ (fun r =>
      (∀ c : Dev Cert.KernelIdeal.nD, r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0) := by
  rw [same_defs, same_main]
  exact (θ_run Cert.KernelIdeal.defs _ _).mono (fun _ h => ⟨fun c => (h.1 c).1, h.2⟩) (Cert.KernelIdeal.Ring.run_main (F := Bits) m ρ)

/-- The kernel at the machine's own floats: the one run, its values dropped. -/
theorem frame_kernel : Cert.quiescent_Kernel := fun m ρ _ => run_bits m ρ

end Cert.Proof

end

end
-- ==== Proof.Value.lean ====
/-
  What the kernel computes, at exact arithmetic: each device's block product as one sum over its rows, the sum of
  the two halves of the rows, and the same sum read off the reference.
-/
module

public import proofs.«01_k».proof.Proof.Regs
public import proofs.«01_k».proof.Proof.Words
public import Idealize.ShloMosaic.Lib.ValueIdx
public import Idealize.ShloMosaic.Lib.DynamicIndex
public import Idealize.ShloMosaic.Lib.Layout
public import Idealize.ShloMosaic.Lib.Pipeline.Value
public import Idealize.ShloMosaic.PureOps.Ideal.Laws

@[expose] public section

noncomputable section

namespace Cert.KernelIdeal.Ring

open Idealize.ShloMosaic Idealize.ShloMosaic.TcCoe Idealize.ShloMosaic.ValueIdx
open Idealize.SL Idealize.SL.RA Idealize.SL.BI
open Cert.KernelIdeal Cert.KernelIdeal.Gen
open scoped BigOperators

/-! ## Arrays read at natural numbers -/

/-- The entry of a matrix at a row and a column, zero outside. -/
def entry {a b : ℕ} (v : (⟨2, ![a, b]⟩ : Shape).Idx → EReal) (i j : ℕ) : EReal :=
  if h : i < a ∧ j < b then v (ix2 ⟨i, h.1⟩ ⟨j, h.2⟩) else 0

theorem entry_at {a b : ℕ} (v : (⟨2, ![a, b]⟩ : Shape).Idx → EReal) (y : (⟨2, ![a, b]⟩ : Shape).Idx) {i j : ℕ}
    (hi : (y 0).val = i) (hj : (y 1).val = j) : v y = entry v i j := by
  subst hi hj
  unfold entry
  rw [dif_pos ⟨(y 0).isLt, (y 1).isLt⟩]
  exact congrArg v (eq_ix2 y)

theorem entry_ix {a b : ℕ} (v : (⟨2, ![a, b]⟩ : Shape).Idx → EReal) {i j : ℕ} (hi : i < a) (hj : j < b) :
    entry v i j = v (ix2 ⟨i, hi⟩ ⟨j, hj⟩) := dif_pos ⟨hi, hj⟩

/-- A sum over rows, block of rows after block of rows. -/
theorem sum_blocks (n : ℕ) (f : ℕ → EReal) : ∀ s : ℕ,
    ∑ k ∈ Finset.range (n * (s + 1)), f k = ∑ k ∈ Finset.range (n * s), f k + ∑ k : Fin n, f (n * s + k.val) := fun s => by
  rw [Nat.mul_succ, Finset.sum_range_add, Fin.sum_univ_eq_sum_range (fun k => f (n * s + k))]

/-! ## One block product -/

theorem dot_rank : dot_S512x512_S512x512_S512x512_0_0_1_1_n_n.contr.rank = 1 := rfl
theorem dot_size : dot_S512x512_S512x512_S512x512_0_0_1_1_n_n.contr.size ⟨0, by rw [dot_rank]; exact Nat.one_pos⟩ = 512 := rfl

/-- The block product: rows of both operands summed over. -/
theorem pay_at (z x y : Blk Ideal) (i j : Fin 512) :
    k0_pay2 (F := Ideal) z x y (ix2 i j) = z (ix2 i j) + ∑ k : Fin 512, x (ix2 k i) * y (ix2 k j) := by
  unfold k0_pay2
  simp only [shapeCast_self]
  rw [addf_apply]
  refine congrArg (z (ix2 i j) + ·) ?_
  refine (Ideal.matmul_constant_zero_apply dot_S512x512_S512x512_S512x512_0_0_1_1_n_n none x y (ix2 i j)).trans ?_
  rw [← Equiv.sum_comp (contrEquiv1 _ 512 dot_rank dot_size).symm]
  refine Finset.sum_congr rfl fun k _ => ?_
  have hk := contrEquiv1_symm_val _ 512 dot_rank dot_size k
  have el : dot_S512x512_S512x512_S512x512_0_0_1_1_n_n.lhsIdx (ix2 i j) ((contrEquiv1 _ 512 dot_rank dot_size).symm k) = ix2 k i := by
    funext a; apply Fin.ext
    match a with
    | ⟨0, _⟩ => exact hk
    | ⟨1, _⟩ => rfl
  have er : dot_S512x512_S512x512_S512x512_0_0_1_1_n_n.rhsIdx (ix2 i j) ((contrEquiv1 _ 512 dot_rank dot_size).symm k) = ix2 k j := by
    funext a; apply Fin.ext
    match a with
    | ⟨0, _⟩ => exact hk
    | ⟨1, _⟩ => rfl
  rw [el, er]

theorem zero_at (i j : Fin 512) : k0_pay1 (F := Ideal) (ix2 i j) = 0 := Ideal.ofBits_zero_f32

/-! ## The blocks of a point -/

theorem index_x : ∀ t : Fin cfg0.N, win0_0.index t 0 = t.val % 8 ∧ win0_0.index t 1 = t.val / 8 := by decide +kernel
theorem index_y : ∀ t : Fin cfg0.N, win0_1.index t 0 = t.val % 8 ∧ win0_1.index t 1 = 0 := by decide +kernel
theorem index_p : ∀ t : Fin cfg0.N, win0_2.index t 0 = t.val / 8 ∧ win0_2.index t 1 = 0 := by decide +kernel

variable (V : Dev nD → Valuation τ sig (Elt Ideal)) (c : Dev nD)

/-- The two operands of the first call. -/
abbrev xArr : S4096x4096.Idx → EReal := V c main_arg0
abbrev yArr : S4096x512.Idx → EReal := V c main_v15

theorem x_at (t : Fin cfg0.N) (k i : Fin 512) :
    xBlk V c t (ix2 k i) = entry (xArr V c) (512 * (t.val % 8) + k.val) (512 * (t.val / 8) + i.val) := by
  have h := index_x t
  refine entry_at (xArr V c) (((cfg0.win 0).blk t).view.emb (ix2 k i)) ?_ ?_
  · show win0_0.index t 0 * 512 + 1 * k.val = _; rw [h.1]; omega
  · show win0_0.index t 1 * 512 + 1 * i.val = _; rw [h.2]; omega

theorem y_at (t : Fin cfg0.N) (k j : Fin 512) :
    yBlk V c t (ix2 k j) = entry (yArr V c) (512 * (t.val % 8) + k.val) j.val := by
  have h := index_y t
  refine entry_at (yArr V c) (((cfg0.win 1).blk t).view.emb (ix2 k j)) ?_ ?_
  · show win0_1.index t 0 * 512 + 1 * k.val = _; rw [h.1]; omega
  · show win0_1.index t 1 * 512 + 1 * j.val = _; rw [h.2]; omega

/-- The entry of the product, summed over the first `n` rows. -/
def rowSum (n i j : ℕ) : EReal := ∑ k ∈ Finset.range n, entry (xArr V c) k i * entry (yArr V c) k j

theorem rowSum_step (t : Fin cfg0.N) (i j : Fin 512) :
    rowSum V c (512 * (t.val % 8)) (512 * (t.val / 8) + i.val) j.val + ∑ k : Fin 512, xBlk V c t (ix2 k i) * yBlk V c t (ix2 k j)
      = rowSum V c (512 * (t.val % 8 + 1)) (512 * (t.val / 8) + i.val) j.val := by
  unfold rowSum
  rw [sum_blocks]
  refine congrArg _ (Finset.sum_congr rfl fun k _ => ?_)
  rw [x_at, y_at]

/-- What the block holds after a point. -/
theorem acc_at : ∀ (n : ℕ) (h : n < cfg0.N) (i j : Fin 512),
    acc V c n h (ix2 i j) = rowSum V c (512 * (n % 8 + 1)) (512 * (n / 8) + i.val) j.val
  | 0, h, i, j => by
    refine (pay_at _ _ _ i j).trans ?_
    rw [zero_at]
    exact (congrArg (· + _) (show (0 : EReal) = rowSum V c (512 * (0 % 8)) (512 * (0 / 8) + i.val) j.val from rfl)).trans
      (rowSum_step V c ⟨0, h⟩ i j)
  | n + 1, h, i, j => by
    refine (pay_at _ _ _ i j).trans (Eq.trans (congrArg (· + _) ?_) (rowSum_step V c ⟨n + 1, h⟩ i j))
    by_cases h8 : (n + 1) % 8 = 0
    · simp only [h8, if_true]
      rw [zero_at]; rfl
    · simp only [h8, if_false]
      rw [acc_at n _ i j, show n % 8 + 1 = (n + 1) % 8 by omega, show n / 8 = (n + 1) / 8 by omega]

/-! ## The first call's result -/

/-- The product of the transposed operand with the other. -/
def prod : S4096x512.Idx → Elt Ideal .f32 := fun y => rowSum V c 4096 (y 0).val (y 1).val

theorem flushed_prod (t : Fin cfg0.N) (hf : (cfg0.win 2).flush t = true) :
    (dat0 V owes₀ c).flushed 2 t = ((cfg0.win 2).blk t).view.read (Elt Ideal) (prod V c) := by
  have h7 := (flush0_2 t).mp hf
  have hi := index_p t
  show (cfg0.win 2).cut (grid0.coords t) ((dat0 V owes₀ c).after 2 t) = _
  funext y
  obtain ⟨i, j, rfl⟩ : ∃ (i j : Fin 512), y = ix2 i j := ⟨_, _, eq_ix2 y⟩
  show acc V c t.val t.isLt (ix2 i j) = rowSum V c 4096 (win0_2.index t 0 * 512 + 1 * i.val) (win0_2.index t 1 * 512 + 1 * j.val)
  rw [acc_at, h7, hi.1, hi.2]
  congr 1 <;> omega

theorem arr_prod : (dat0 V owes₀ c).arrAt 2 cfg0.N = prod V c :=
  (dat0 V owes₀ c).arrAt_eq_of_cover 2 (prod V c) (flushed_prod V c) fun y => by
    have h0 : (y 0 : Nat) < 4096 := (y 0).isLt
    have h1 : (y 1 : Nat) < 512 := (y 1).isLt
    have hN : cfg0.N = 64 := N_0
    let t : Fin cfg0.N := ⟨8 * ((y 0).val / 512) + 7, by omega⟩
    have ht : t.val = 8 * ((y 0).val / 512) + 7 := rfl
    refine ⟨t, (flush0_2 t).mpr (by omega), ?_⟩
    show y ∈ ((View.whole main_v16).slice (win0_2.rect t)).set
    rw [View.set_slice_whole, Rect.mem_set_unit]
    have hi := index_p t
    intro a
    match a with
    | ⟨0, _⟩ =>
      show win0_2.index t 0 * 512 ≤ (y 0 : Nat) ∧ (y 0 : Nat) < win0_2.index t 0 * 512 + 512
      rw [hi.1]; omega
    | ⟨1, _⟩ =>
      show win0_2.index t 1 * 512 ≤ (y 1 : Nat) ∧ (y 1 : Nat) < win0_2.index t 1 * 512 + 512
      rw [hi.2]; omega

/-! ## From the shards -/

variable (m : (ℓ : Loc nD τ sig) → Buf (Elt Ideal) ℓ)

/-- The shards a device starts with. -/
abbrev xOf : S4096x4096.Idx → EReal := m (c.tc.loc main_arg0)
abbrev dyOf : S4096x8192.Idx → EReal := m (c.tc.loc main_arg1)

theorem cols_words : ∀ (c : Dev nD) (k : Fin 2),
    ((![constantI S_ 32 0#32, fromEnd (constantI S_ 32 8192#32) (muli (addi (muli (Host.remui (Host.divui (constantI S_ 32 (Dev.word c)) (constantI S_ 32 4#32)) (constantI S_ 32 4#32)) (constantI S_ 32 4#32))
        (Host.remui (Host.divui (constantI S_ 32 (Dev.word c)) (constantI S_ 32 1#32)) (constantI S_ 32 4#32))) (constantI S_ 32 512#32)) (constantI S_ 32 0#32)] :
        Fin 2 → IVec S_ 32) k (Shape.Idx.first h_S_)).toInt = ((![0, 512 * (c.val % 16)] : Fin 2 → ℕ) k : ℤ) := by decide +kernel

theorem cols_fit (c : Dev nD) : S4096x8192.Slices (![0, 512 * (c.val % 16)] : Fin 2 → ℕ) S4096x512 := by
  revert c; decide +kernel

theorem cols_at (k j : ℕ) (hk : k < 4096) (hj : j < 512) :
    entry (yArr (V1 m) c) k j = entry (dyOf c m) k (512 * (c.val % 16) + j) := by
  have e : yArr (V1 m) c = extractStridedSlice S4096x512 (![0, 512 * (c.val % 16)] : Fin 2 → ℕ) (dyOf c m) (cols_fit c) :=
    (at_cols (V0 m c) c).trans (Host.dynamicSlice_eq_extractStridedSlice S4096x512 (dyOf c m) _ _ _ (cols_fit c) (cols_words c))
  rw [e, entry_ix _ hk hj]
  refine entry_at (dyOf c m) _ ?_ ?_
  · show 0 + k = k; omega
  · rfl

theorem rows_at : xArr (V1 m) c = xOf c m := V1_of m c main_arg0 (by decide)

/-- A device's partial product, of its own shards. -/
theorem P_at (y : S4096x512.Idx) :
    P m c y = ∑ k ∈ Finset.range 4096, entry (xOf c m) k (y 0).val * entry (dyOf c m) k (512 * (c.val % 16) + (y 1).val) := by
  unfold P
  rw [arr_prod]
  show @Eq EReal (rowSum (V1 m) c 4096 (y 0).val (y 1).val) _
  unfold rowSum
  refine Finset.sum_congr rfl fun k hk => ?_
  rw [rows_at, cols_at c m k _ (Finset.mem_range.mp hk) (y 1).isLt]

/-! ## The two halves of the rows -/

theorem own_rows : ∀ c : Dev nD, k1_off2 c = ![2048 * (c.val / 16), 0] := by decide +kernel
theorem far_rows : ∀ c : Dev nD, k1_off1 c = ![2048 * (1 - c.val / 16), 0] := by decide +kernel
theorem across_half : ∀ c : Dev nD, (across c).val / 16 = 1 - c.val / 16 ∧ (across c).val % 16 = c.val % 16 := by decide +kernel
theorem at16_half : ∀ (c : Dev nD) (e : Fin 16), (at16 c e).val / 16 = c.val / 16 ∧ (at16 c e).val % 16 = e.val := by decide +kernel

variable (x' : (⟨2, ![8192, 4096]⟩ : Shape).Idx → EReal) (dy' : (⟨2, ![8192, 8192]⟩ : Shape).Idx → EReal)

/-- An entry of the whole product, over some of the rows. -/
def wholeSum (a n i j : ℕ) : EReal := ∑ k ∈ Finset.range n, entry x' (a + k) i * entry dy' (a + k) j

variable (hx : ∀ (c : Dev nD) (k r : ℕ), k < 4096 → r < 4096 → entry (xOf c m) k r = entry x' (4096 * (c.val / 16) + k) r)
  (hdy : ∀ (c : Dev nD) (k j : ℕ), k < 4096 → j < 8192 → entry (dyOf c m) k j = entry dy' (4096 * (c.val / 16) + k) j)

include hx hdy in
theorem P_whole (y : S4096x512.Idx) :
    P m c y = wholeSum x' dy' (4096 * (c.val / 16)) 4096 (y 0).val (512 * (c.val % 16) + (y 1).val) := by
  rw [P_at]
  have h1 : (y 1).val < 512 := (y 1).isLt
  unfold wholeSum
  show @Eq EReal _ _
  refine Finset.sum_congr rfl fun k hk => ?_
  rw [hx c k _ (Finset.mem_range.mp hk) (y 0).isLt, hdy c k _ (Finset.mem_range.mp hk) (by omega)]

/-- The two halves of the rows, in either order. -/
theorem halves (i j : ℕ) (h : ℕ) (hh : h = 0 ∨ h = 1) :
    wholeSum x' dy' (4096 * h) 4096 i j + wholeSum x' dy' (4096 * (1 - h)) 4096 i j = wholeSum x' dy' 0 8192 i j := by
  have e : wholeSum x' dy' 0 8192 i j = wholeSum x' dy' 0 4096 i j + wholeSum x' dy' 4096 4096 i j := by
    unfold wholeSum
    simp only [Nat.zero_add]
    exact Finset.sum_range_add (fun k => entry x' k i * entry dy' k j) 4096 4096
  rw [e]
  rcases hh with rfl | rfl
  · rfl
  · exact add_comm _ _

include hx hdy in
/-- What a device sums up is its block of the whole product. -/
theorem total_whole (y : S2048x512.Idx) : total (P m) c y
    = wholeSum x' dy' 0 8192 (2048 * (c.val / 16) + (y 0).val) (512 * (c.val % 16) + (y 1).val) := by
  have hc : c.val < 32 := c.isLt
  have ha := across_half c
  show (P m c ((rowsO c).view.emb y) + P m (across c) ((rowsX (across c)).view.emb y) : EReal) = _
  rw [P_whole c m x' dy' hx hdy, P_whole (across c) m x' dy' hx hdy]
  have o0 : (((rowsO c).view.emb y : S4096x512.Idx) 0).val = 2048 * (c.val / 16) + (y 0).val := by
    show k1_off2 c 0 + 1 * (y 0).val = _
    rw [own_rows]; show 2048 * (c.val / 16) + 1 * (y 0).val = _; omega
  have o1 : (((rowsO c).view.emb y : S4096x512.Idx) 1).val = (y 1).val := by
    show k1_off2 c 1 + 1 * (y 1).val = _
    rw [own_rows]; show 0 + 1 * (y 1).val = _; omega
  have x0 : (((rowsX (across c)).view.emb y : S4096x512.Idx) 0).val = 2048 * (c.val / 16) + (y 0).val := by
    show k1_off1 (across c) 0 + 1 * (y 0).val = _
    rw [far_rows]; show 2048 * (1 - (across c).val / 16) + 1 * (y 0).val = _
    rw [ha.1]; omega
  have x1 : (((rowsX (across c)).view.emb y : S4096x512.Idx) 1).val = (y 1).val := by
    show k1_off1 (across c) 1 + 1 * (y 1).val = _
    rw [far_rows]; show 0 + 1 * (y 1).val = _; omega
  rw [o0, o1, x0, x1, ha.1, ha.2]
  exact halves x' dy' _ _ _ (by omega)

include hx hdy in
/-- What a device ends with: its rows of the whole product, every column. -/
theorem out_whole (y : S2048x8192.Idx) : outFull (P m) c y
    = wholeSum x' dy' 0 8192 (2048 * (c.val / 16) + (y 0).val) (y 1).val := by
  have h := at16_half c (blkOf y)
  show total (P m) (at16 c (blkOf y)) (inBlk y) = _
  rw [total_whole (at16 c (blkOf y)) m x' dy' hx hdy, h.1, h.2]
  show wholeSum x' dy' 0 8192 (2048 * (c.val / 16) + (y 0).val) (512 * ((y 1).val / 512) + (y 1).val % 512) = _
  rw [Nat.div_add_mod]

end Cert.KernelIdeal.Ring

end
-- ==== Proof.Agree.lean ====
/-
  The reference's product as the same sum over the rows, and the kernel's result as each device's block of it.
-/
module

public import proofs.«01_k».proof.Proof.Launch
public import proofs.«01_k».proof.Proof.Value
public import proofs.«01_k».proof.Proof.Gen.ReferenceIdeal.Run
public import proofs.«01_k».proof.Defs

@[expose] public section

noncomputable section

namespace Cert.Proof

open Idealize.ShloMosaic Idealize.ShloMosaic.TcCoe Idealize.ShloMosaic.ValueIdx Idealize.SL.Sem
open Cert.KernelIdeal.Ring
open scoped BigOperators

/-! ## The reference -/

section Reference

open Cert.ReferenceIdeal Cert.ReferenceIdeal.Gen

/-- The reference's result, of its arguments. -/
def refVal (x : S8192x4096.Idx → EReal) (dy : S8192x8192.Idx → EReal) : S4096x8192.Idx → EReal :=
  Host.dotGeneral (F := Ideal) (φ₁ := .f32) (φ₂ := .f32) dot_S4096x8192_S8192x8192_S4096x8192_1_0_0_1_n_n none
    (transpose S4096x8192 [1, 0] x transposes_S8192x4096_S4096x8192_1_0) dy

theorem ref_rank : dot_S4096x8192_S8192x8192_S4096x8192_1_0_0_1_n_n.contr.rank = 1 := rfl
theorem ref_size : dot_S4096x8192_S8192x8192_S4096x8192_1_0_0_1_n_n.contr.size ⟨0, by rw [ref_rank]; exact Nat.one_pos⟩ = 8192 := rfl

/-- An entry of it: the sum over every row. -/
theorem ref_at (x : S8192x4096.Idx → EReal) (dy : S8192x8192.Idx → EReal) (y : S4096x8192.Idx) :
    refVal x dy y = wholeSum x dy 0 8192 (y 0).val (y 1).val := by
  obtain ⟨i, j, rfl⟩ : ∃ (i : Fin 4096) (j : Fin 8192), y = ix2 i j := ⟨_, _, eq_ix2 y⟩
  unfold refVal wholeSum
  simp only [Host.dotGeneral]
  rw [Ideal.dotGeneral_apply, ← Equiv.sum_comp (contrEquiv1 _ 8192 ref_rank ref_size).symm,
    ← Fin.sum_univ_eq_sum_range (fun k => entry x (0 + k) i.val * entry dy (0 + k) j.val)]
  refine Finset.sum_congr rfl fun k _ => ?_
  have hk := contrEquiv1_symm_val _ 8192 ref_rank ref_size k
  refine congrArg₂ (· * ·) (entry_at x _ ?_ ?_) (entry_at dy _ ?_ ?_)
  · exact hk.trans (Nat.zero_add _).symm
  · rfl
  · exact hk.trans (Nat.zero_add _).symm
  · rfl

end Reference

/-! ## The blocks of the whole arrays -/

/-- A device's block along the rows of an array cut in two over the first mesh axis. -/
abbrev part2 (c : Dev Cert.KernelIdeal.nD) := Layout.meshBlock (r := 2) [2, 4, 4] ![[0], []] c

theorem part2_val : ∀ c : Dev Cert.KernelIdeal.nD, (part2 c 0).val = c.val / 16 ∧ (part2 c 1).val = 0 := by decide +kernel

/-- An entry of a device's block, in the whole array. -/
theorem block_entry {a A b : ℕ} (c : Dev Cert.KernelIdeal.nD) (v : (⟨2, ![A, b]⟩ : Shape).Idx → EReal)
    (h : Layout.TilesN ⟨2, ![a, b]⟩ ⟨2, ![A, b]⟩ (fun d => Layout.cutSize [2, 4, 4] ((![[0], []] : Fin 2 → List ℕ) d))) (k r : ℕ) (hk : k < a) (hr : r < b) :
    entry (Layout.blockN ⟨2, ![a, b]⟩ ⟨2, ![A, b]⟩ (part2 c) v h) k r = entry v (a * (c.val / 16) + k) r := by
  have hc := part2_val c
  rw [entry_ix _ hk hr, Layout.blockN_apply]
  refine entry_at v _ ?_ ?_
  · show (part2 c 0).val * a + k = _
    rw [hc.1, Nat.mul_comm]
  · show (part2 c 1).val * b + r = _
    rw [hc.2]; omega

/-! ## The claim -/

/-- Every device ends with its block of the reference's result. -/
theorem algebraic : Cert.algebraic_KernelIdeal_ReferenceIdeal := by
  intro m g m' g' _ hargs
  let x' : (⟨2, ![8192, 4096]⟩ : Shape).Idx → EReal := m' ((0 : Dev Cert.ReferenceIdeal.nD).tc.loc Cert.ReferenceIdeal.main_arg0)
  let dy' : (⟨2, ![8192, 8192]⟩ : Shape).Idx → EReal := m' ((0 : Dev Cert.ReferenceIdeal.nD).tc.loc Cert.ReferenceIdeal.main_arg1)
  have hx : ∀ (c : Dev Cert.KernelIdeal.nD) (k r : ℕ), k < 4096 → r < 4096 → entry (xOf c m) k r = entry x' (4096 * (c.val / 16) + k) r := by
    intro c k r hk hr
    rw [show xOf c m = Layout.blockN ⟨2, ![4096, 4096]⟩ ⟨2, ![8192, 4096]⟩ (part2 c) x' from (hargs c).1]
    exact block_entry c x' _ k r hk hr
  have hdy : ∀ (c : Dev Cert.KernelIdeal.nD) (k j : ℕ), k < 4096 → j < 8192 → entry (dyOf c m) k j = entry dy' (4096 * (c.val / 16) + k) j := by
    intro c k j hk hj
    rw [show dyOf c m = Layout.blockN ⟨2, ![4096, 8192]⟩ ⟨2, ![8192, 8192]⟩ (part2 c) dy' from (hargs c).2]
    exact block_entry c dy' _ k j hk hj
  refine ⟨refVal x' dy',
    (θ_run Cert.KernelIdeal.defs _ _).mono (fun r h c => ⟨(h.1 c).2.trans ?_, (h.1 c).1.1, (h.1 c).1.2⟩) (run_main (F := Ideal) m g),
    (θ_run Cert.ReferenceIdeal.defs _ _).mono (fun r h => h 0) (Cert.ReferenceIdeal.Value.run (F := Ideal) m' g')⟩
  funext y
  refine (out_whole c m x' dy' hx hdy y).trans ?_
  rw [Layout.blockN_apply, ref_at]
  have hc := part2_val c
  congr 1
  · show _ = (part2 c 0).val * 2048 + (y 0).val
    rw [hc.1, Nat.mul_comm]
  · show _ = (part2 c 1).val * 8192 + (y 1).val
    rw [hc.2]; omega

end Cert.Proof

end
-- ==== Proof.lean ====
/-
  The five claims: the kernel, the kernel at exact arithmetic and the reference each run to the end, leave their
  arguments unchanged and every semaphore at zero; the kernel at exact arithmetic is the kernel's own program; and
  each device ends with its block of the reference's result.
-/
module

public import proofs.«01_k».proof.Proof.Gen.ReferenceIdeal.Run
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Launch
public import proofs.«01_k».proof.Proof.Same
public import proofs.«01_k».proof.Proof.Agree
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The kernel at the ideal floats. -/
theorem frame_ideal : Cert.quiescent_KernelIdeal := fun m ρ _ =>
  (θ_run Cert.KernelIdeal.defs _ _).mono (fun _ h => ⟨fun c => (h.1 c).1, h.2⟩) (Cert.KernelIdeal.Ring.run_main (F := Ideal) m ρ)

/-- The reference: host operations only, no semaphore. -/
theorem frame_reference : Cert.quiescent_ReferenceIdeal := fun m ρ _ =>
  (θ_run Cert.ReferenceIdeal.defs _ _).mono (fun r h => ⟨fun c => (h c).2, sem_eq_zero_of_no_sems rfl r.2⟩)
    (Cert.ReferenceIdeal.Value.run (F := Ideal) m ρ)

theorem claim : Cert.Claim := ⟨Cert.Kernel.Gen.facts, Cert.KernelIdeal.Gen.facts, Cert.ReferenceIdeal.Gen.facts,
  frame_kernel, frame_ideal, frame_reference, trivial, algebraic⟩

end Cert.Proof

end
